-- ==== Defs.lean ====
def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulRefIdeal (m : (ℓ : Loc Cert.MatmulRefIdeal.nD Cert.MatmulRefIdeal.τ Cert.MatmulRefIdeal.sig) → Buf (Elt Ideal) ℓ) : Prop :=
  True

def Pre_XAmax (m : (ℓ : Loc Cert.XAmax.nD Cert.XAmax.τ Cert.XAmax.sig) → Buf (Elt Bits) ℓ) : Prop :=
  True

def Pre_XAmaxIdeal (m : (ℓ : Loc Cert.XAmaxIdeal.nD Cert.XAmaxIdeal.τ Cert.XAmaxIdeal.sig) → Buf (Elt Ideal) ℓ) : Prop :=
  True

def Pre_XAmaxRefIdeal (m : (ℓ : Loc Cert.XAmaxRefIdeal.nD Cert.XAmaxRefIdeal.τ Cert.XAmaxRefIdeal.sig) → Buf (Elt Ideal) ℓ) : Prop :=
  True

def Pre_WAmax (m : (ℓ : Loc Cert.WAmax.nD Cert.WAmax.τ Cert.WAmax.sig) → Buf (Elt Bits) ℓ) : Prop :=
  True

def Pre_WAmaxIdeal (m : (ℓ : Loc Cert.WAmaxIdeal.nD Cert.WAmaxIdeal.τ Cert.WAmaxIdeal.sig) → Buf (Elt Ideal) ℓ) : Prop :=
  True

def Pre_WAmaxRefIdeal (m : (ℓ : Loc Cert.WAmaxRefIdeal.nD Cert.WAmaxRefIdeal.τ Cert.WAmaxRefIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXIdeal_amax_nonneg [hPre_amax_nonneg : Cert.Pre_amax_nonneg.Facts] (m : (ℓ : Loc Cert.QuantXIdeal.nD Cert.QuantXIdeal.τ Cert.QuantXIdeal.sig) → Buf (Elt Ideal) ℓ) : Prop :=
  ∀ c : Dev Cert.QuantXIdeal.nD,
    (Cert.Pre_amax_nonneg.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1))) = (fun _ => 1#1)

def Pre_QuantXRefIdeal (m : (ℓ : Loc Cert.QuantXRefIdeal.nD Cert.QuantXRefIdeal.τ Cert.QuantXRefIdeal.sig) → Buf (Elt Ideal) ℓ) : Prop :=
  True

def Pre_QuantXRefIdeal_amax_nonneg [hPre_amax_nonneg : Cert.Pre_amax_nonneg.Facts] (m : (ℓ : Loc Cert.QuantXRefIdeal.nD Cert.QuantXRefIdeal.τ Cert.QuantXRefIdeal.sig) → Buf (Elt Ideal) ℓ) : Prop :=
  ∀ c : Dev Cert.QuantXRefIdeal.nD,
    (Cert.Pre_amax_nonneg.fn (F := Ideal) (m ((c.tc : Thread Cert.QuantXRefIdeal.nD Cert.QuantXRefIdeal.τ).loc Cert.QuantXRefIdeal.main_arg0)) (m ((c.tc : Thread Cert.QuantXRefIdeal.nD Cert.QuantXRefIdeal.τ).loc Cert.QuantXRefIdeal.main_arg1))) = (fun _ => 1#1)

def Pre_QuantW (m : (ℓ : Loc Cert.QuantW.nD Cert.QuantW.τ Cert.QuantW.sig) → Buf (Elt Bits) ℓ) : Prop :=
  True

def Pre_QuantWIdeal (m : (ℓ : Loc Cert.QuantWIdeal.nD Cert.QuantWIdeal.τ Cert.QuantWIdeal.sig) → Buf (Elt Ideal) ℓ) : Prop :=
  True

def Pre_QuantWIdeal_w_amax_nonneg [hPre_w_amax_nonneg : Cert.Pre_w_amax_nonneg.Facts] (m : (ℓ : Loc Cert.QuantWIdeal.nD Cert.QuantWIdeal.τ Cert.QuantWIdeal.sig) → Buf (Elt Ideal) ℓ) : Prop :=
  ∀ c : Dev Cert.QuantWIdeal.nD,
    (Cert.Pre_w_amax_nonneg.fn (F := Ideal) (m ((c.tc : Thread Cert.QuantWIdeal.nD Cert.QuantWIdeal.τ).loc Cert.QuantWIdeal.main_arg0)) (m ((c.tc : Thread Cert.QuantWIdeal.nD Cert.QuantWIdeal.τ).loc Cert.QuantWIdeal.main_arg1))) = (fun _ => 1#1)

def Pre_QuantWRefIdeal (m : (ℓ : Loc Cert.QuantWRefIdeal.nD Cert.QuantWRefIdeal.τ Cert.QuantWRefIdeal.sig) → Buf (Elt Ideal) ℓ) : Prop :=
  True

def Pre_QuantWRefIdeal_w_amax_nonneg [hPre_w_amax_nonneg : Cert.Pre_w_amax_nonneg.Facts] (m : (ℓ : Loc Cert.QuantWRefIdeal.nD Cert.QuantWRefIdeal.τ Cert.QuantWRefIdeal.sig) → Buf (Elt Ideal) ℓ) : Prop :=
  ∀ c : Dev Cert.QuantWRefIdeal.nD,
    (Cert.Pre_w_amax_nonneg.fn (F := Ideal) (m ((c.tc : Thread Cert.QuantWRefIdeal.nD Cert.QuantWRefIdeal.τ).loc Cert.QuantWRefIdeal.main_arg0)) (m ((c.tc : Thread Cert.QuantWRefIdeal.nD Cert.QuantWRefIdeal.τ).loc Cert.QuantWRefIdeal.main_arg1))) = (fun _ => 1#1)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1)
      ∧ r.2.mem ((c.tc : Thread Cert.Matmul.nD Cert.Matmul.τ).loc Cert.Matmul.main_arg2) = m ((c.tc : Thread Cert.Matmul.nD Cert.Matmul.τ).loc Cert.Matmul.main_arg2)
      ∧ r.2.mem ((c.tc : Thread Cert.Matmul.nD Cert.Matmul.τ).loc Cert.Matmul.main_arg3) = m ((c.tc : Thread Cert.Matmul.nD Cert.Matmul.τ).loc Cert.Matmul.main_arg3))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
      ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ r.2.sem = fun _ => 0)

def quiescent_MatmulRefIdeal [hMatmulRefIdeal : Cert.MatmulRefIdeal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1)
      ∧ r.2.mem ((c.tc : Thread Cert.MatmulRefIdeal.nD Cert.MatmulRefIdeal.τ).loc Cert.MatmulRefIdeal.main_arg2) = m ((c.tc : Thread Cert.MatmulRefIdeal.nD Cert.MatmulRefIdeal.τ).loc Cert.MatmulRefIdeal.main_arg2)
      ∧ r.2.mem ((c.tc : Thread Cert.MatmulRefIdeal.nD Cert.MatmulRefIdeal.τ).loc Cert.MatmulRefIdeal.main_arg3) = m ((c.tc : Thread Cert.MatmulRefIdeal.nD Cert.MatmulRefIdeal.τ).loc Cert.MatmulRefIdeal.main_arg3))
      ∧ r.2.sem = fun _ => 0)

def quiescent_XAmax [hXAmax : Cert.XAmax.Facts] : Prop :=
  ∀ (m : (ℓ : Loc Cert.XAmax.nD Cert.XAmax.τ Cert.XAmax.sig) → Buf (Elt Bits) ℓ) (g : Dev Cert.XAmax.nD → PrngReg), Pre_XAmax m →
    θ_run (Cert.XAmax.defs (F := Bits)) (onTc (τ := Cert.XAmax.τ) (Cert.XAmax.main (F := Bits))) ⟨m, fun _ => 0, g⟩ (fun r => (∀ c : Dev Cert.XAmax.nD,
      r.2.mem ((c.tc : Thread Cert.XAmax.nD Cert.XAmax.τ).loc Cert.XAmax.main_arg0) = m ((c.tc : Thread Cert.XAmax.nD Cert.XAmax.τ).loc Cert.XAmax.main_arg0))
      ∧ r.2.sem = fun _ => 0)

def quiescent_XAmaxIdeal [hXAmaxIdeal : Cert.XAmaxIdeal.Facts] : Prop :=
  ∀ (m : (ℓ : Loc Cert.XAmaxIdeal.nD Cert.XAmaxIdeal.τ Cert.XAmaxIdeal.sig) → Buf (Elt Ideal) ℓ) (g : Dev Cert.XAmaxIdeal.nD → PrngReg), Pre_XAmaxIdeal m →
    θ_run (Cert.XAmaxIdeal.defs (F := Ideal)) (onTc (τ := Cert.XAmaxIdeal.τ) (Cert.XAmaxIdeal.main (F := Ideal))) ⟨m, fun _ => 0, g⟩ (fun r => (∀ c : Dev Cert.XAmaxIdeal.nD,
      r.2.mem ((c.tc : Thread Cert.XAmaxIdeal.nD Cert.XAmaxIdeal.τ).loc Cert.XAmaxIdeal.main_arg0) = m ((c.tc : Thread Cert.XAmaxIdeal.nD Cert.XAmaxIdeal.τ).loc Cert.XAmaxIdeal.main_arg0))
      ∧ r.2.sem = fun _ => 0)

def quiescent_XAmaxRefIdeal [hXAmaxRefIdeal : Cert.XAmaxRefIdeal.Facts] : Prop :=
  ∀ (m : (ℓ : Loc Cert.XAmaxRefIdeal.nD Cert.XAmaxRefIdeal.τ Cert.XAmaxRefIdeal.sig) → Buf (Elt Ideal) ℓ) (g : Dev Cert.XAmaxRefIdeal.nD → PrngReg), Pre_XAmaxRefIdeal m →
    θ_run (Cert.XAmaxRefIdeal.defs (F := Ideal)) (onTc (τ := Cert.XAmaxRefIdeal.τ) (Cert.XAmaxRefIdeal.main (F := Ideal))) ⟨m, fun _ => 0, g⟩ (fun r => (∀ c : Dev Cert.XAmaxRefIdeal.nD,
      r.2.mem ((c.tc : Thread Cert.XAmaxRefIdeal.nD Cert.XAmaxRefIdeal.τ).loc Cert.XAmaxRefIdeal.main_arg0) = m ((c.tc : Thread Cert.XAmaxRefIdeal.nD Cert.XAmaxRefIdeal.τ).loc Cert.XAmaxRefIdeal.main_arg0))
      ∧ r.2.sem = fun _ => 0)

def quiescent_WAmax [hWAmax : Cert.WAmax.Facts] : Prop :=
  ∀ (m : (ℓ : Loc Cert.WAmax.nD Cert.WAmax.τ Cert.WAmax.sig) → Buf (Elt Bits) ℓ) (g : Dev Cert.WAmax.nD → PrngReg), Pre_WAmax m →
    θ_run (Cert.WAmax.defs (F := Bits)) (onTc (τ := Cert.WAmax.τ) (Cert.WAmax.main (F := Bits))) ⟨m, fun _ => 0, g⟩ (fun r => (∀ c : Dev Cert.WAmax.nD,
      r.2.mem ((c.tc : Thread Cert.WAmax.nD Cert.WAmax.τ).loc Cert.WAmax.main_arg0) = m ((c.tc : Thread Cert.WAmax.nD Cert.WAmax.τ).loc Cert.WAmax.main_arg0))
      ∧ r.2.sem = fun _ => 0)

def quiescent_WAmaxIdeal [hWAmaxIdeal : Cert.WAmaxIdeal.Facts] : Prop :=
  ∀ (m : (ℓ : Loc Cert.WAmaxIdeal.nD Cert.WAmaxIdeal.τ Cert.WAmaxIdeal.sig) → Buf (Elt Ideal) ℓ) (g : Dev Cert.WAmaxIdeal.nD → PrngReg), Pre_WAmaxIdeal m →
    θ_run (Cert.WAmaxIdeal.defs (F := Ideal)) (onTc (τ := Cert.WAmaxIdeal.τ) (Cert.WAmaxIdeal.main (F := Ideal))) ⟨m, fun _ => 0, g⟩ (fun r => (∀ c : Dev Cert.WAmaxIdeal.nD,
      r.2.mem ((c.tc : Thread Cert.WAmaxIdeal.nD Cert.WAmaxIdeal.τ).loc Cert.WAmaxIdeal.main_arg0) = m ((c.tc : Thread Cert.WAmaxIdeal.nD Cert.WAmaxIdeal.τ).loc Cert.WAmaxIdeal.main_arg0))
      ∧ r.2.sem = fun _ => 0)

def quiescent_WAmaxRefIdeal [hWAmaxRefIdeal : Cert.WAmaxRefIdeal.Facts] : Prop :=
  ∀ (m : (ℓ : Loc Cert.WAmaxRefIdeal.nD Cert.WAmaxRefIdeal.τ Cert.WAmaxRefIdeal.sig) → Buf (Elt Ideal) ℓ) (g : Dev Cert.WAmaxRefIdeal.nD → PrngReg), Pre_WAmaxRefIdeal m →
    θ_run (Cert.WAmaxRefIdeal.defs (F := Ideal)) (onTc (τ := Cert.WAmaxRefIdeal.τ) (Cert.WAmaxRefIdeal.main (F := Ideal))) ⟨m, fun _ => 0, g⟩ (fun r => (∀ c : Dev Cert.WAmaxRefIdeal.nD,
      r.2.mem ((c.tc : Thread Cert.WAmaxRefIdeal.nD Cert.WAmaxRefIdeal.τ).loc Cert.WAmaxRefIdeal.main_arg0) = m ((c.tc : Thread Cert.WAmaxRefIdeal.nD Cert.WAmaxRefIdeal.τ).loc Cert.WAmaxRefIdeal.main_arg0))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_QuantXIdeal_pre_amax_nonneg [hQuantXIdeal : Cert.QuantXIdeal.Facts] [hPre_amax_nonneg : Cert.Pre_amax_nonneg.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal_amax_nonneg m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_QuantXRefIdeal [hQuantXRefIdeal : Cert.QuantXRefIdeal.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0)
      ∧ r.2.mem ((c.tc : Thread Cert.QuantXRefIdeal.nD Cert.QuantXRefIdeal.τ).loc Cert.QuantXRefIdeal.main_arg1) = m ((c.tc : Thread Cert.QuantXRefIdeal.nD Cert.QuantXRefIdeal.τ).loc Cert.QuantXRefIdeal.main_arg1))
      ∧ r.2.sem = fun _ => 0)

def quiescent_QuantXRefIdeal_pre_amax_nonneg [hQuantXRefIdeal : Cert.QuantXRefIdeal.Facts] [hPre_amax_nonneg : Cert.Pre_amax_nonneg.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal_amax_nonneg m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0)
      ∧ r.2.mem ((c.tc : Thread Cert.QuantXRefIdeal.nD Cert.QuantXRefIdeal.τ).loc Cert.QuantXRefIdeal.main_arg1) = m ((c.tc : Thread Cert.QuantXRefIdeal.nD Cert.QuantXRefIdeal.τ).loc Cert.QuantXRefIdeal.main_arg1))
      ∧ r.2.sem = fun _ => 0)

def quiescent_QuantW [hQuantW : Cert.QuantW.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => (∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0)
      ∧ r.2.mem ((c.tc : Thread Cert.QuantW.nD Cert.QuantW.τ).loc Cert.QuantW.main_arg1) = m ((c.tc : Thread Cert.QuantW.nD Cert.QuantW.τ).loc Cert.QuantW.main_arg1))
      ∧ r.2.sem = fun _ => 0)

def quiescent_QuantWIdeal [hQuantWIdeal : Cert.QuantWIdeal.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0)
      ∧ r.2.mem ((c.tc : Thread Cert.QuantWIdeal.nD Cert.QuantWIdeal.τ).loc Cert.QuantWIdeal.main_arg1) = m ((c.tc : Thread Cert.QuantWIdeal.nD Cert.QuantWIdeal.τ).loc Cert.QuantWIdeal.main_arg1))
      ∧ r.2.sem = fun _ => 0)

def quiescent_QuantWIdeal_pre_w_amax_nonneg [hQuantWIdeal : Cert.QuantWIdeal.Facts] [hPre_w_amax_nonneg : Cert.Pre_w_amax_nonneg.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal_w_amax_nonneg m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0)
      ∧ r.2.mem ((c.tc : Thread Cert.QuantWIdeal.nD Cert.QuantWIdeal.τ).loc Cert.QuantWIdeal.main_arg1) = m ((c.tc : Thread Cert.QuantWIdeal.nD Cert.QuantWIdeal.τ).loc Cert.QuantWIdeal.main_arg1))
      ∧ r.2.sem = fun _ => 0)

def quiescent_QuantWRefIdeal [hQuantWRefIdeal : Cert.QuantWRefIdeal.Facts] : Prop :=
  ∀ (m : (ℓ : Loc Cert.QuantWRefIdeal.nD Cert.QuantWRefIdeal.τ Cert.QuantWRefIdeal.sig) → Buf (Elt Ideal) ℓ) (g : Dev Cert.QuantWRefIdeal.nD → PrngReg), Pre_QuantWRefIdeal m →
    θ_run (Cert.QuantWRefIdeal.defs (F := Ideal)) (onTc (τ := Cert.QuantWRefIdeal.τ) (Cert.QuantWRefIdeal.main (F := Ideal))) ⟨m, fun _ => 0, g⟩ (fun r => (∀ c : Dev Cert.QuantWRefIdeal.nD,
      r.2.mem ((c.tc : Thread Cert.QuantWRefIdeal.nD Cert.QuantWRefIdeal.τ).loc Cert.QuantWRefIdeal.main_arg0) = m ((c.tc : Thread Cert.QuantWRefIdeal.nD Cert.QuantWRefIdeal.τ).loc Cert.QuantWRefIdeal.main_arg0)
      ∧ r.2.mem ((c.tc : Thread Cert.QuantWRefIdeal.nD Cert.QuantWRefIdeal.τ).loc Cert.QuantWRefIdeal.main_arg1) = m ((c.tc : Thread Cert.QuantWRefIdeal.nD Cert.QuantWRefIdeal.τ).loc Cert.QuantWRefIdeal.main_arg1))
      ∧ r.2.sem = fun _ => 0)

def quiescent_QuantWRefIdeal_pre_w_amax_nonneg [hQuantWRefIdeal : Cert.QuantWRefIdeal.Facts] [hPre_w_amax_nonneg : Cert.Pre_w_amax_nonneg.Facts] : Prop :=
  ∀ (m : (ℓ : Loc Cert.QuantWRefIdeal.nD Cert.QuantWRefIdeal.τ Cert.QuantWRefIdeal.sig) → Buf (Elt Ideal) ℓ) (g : Dev Cert.QuantWRefIdeal.nD → PrngReg), Pre_QuantWRefIdeal_w_amax_nonneg m →
    θ_run (Cert.QuantWRefIdeal.defs (F := Ideal)) (onTc (τ := Cert.QuantWRefIdeal.τ) (Cert.QuantWRefIdeal.main (F := Ideal))) ⟨m, fun _ => 0, g⟩ (fun r => (∀ c : Dev Cert.QuantWRefIdeal.nD,
      r.2.mem ((c.tc : Thread Cert.QuantWRefIdeal.nD Cert.QuantWRefIdeal.τ).loc Cert.QuantWRefIdeal.main_arg0) = m ((c.tc : Thread Cert.QuantWRefIdeal.nD Cert.QuantWRefIdeal.τ).loc Cert.QuantWRefIdeal.main_arg0)
      ∧ r.2.mem ((c.tc : Thread Cert.QuantWRefIdeal.nD Cert.QuantWRefIdeal.τ).loc Cert.QuantWRefIdeal.main_arg1) = m ((c.tc : Thread Cert.QuantWRefIdeal.nD Cert.QuantWRefIdeal.τ).loc Cert.QuantWRefIdeal.main_arg1))
      ∧ r.2.sem = fun _ => 0)

def preserves_Matmul_MatmulIdeal : Prop :=
  True

def algebraic_MatmulIdeal_MatmulRefIdeal [hMatmulIdeal : Cert.MatmulIdeal.Facts] [hMatmulRefIdeal : Cert.MatmulRefIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulRefIdeal.nD Cert.MatmulRefIdeal.τ Cert.MatmulRefIdeal.sig) → Buf (Elt Ideal) ℓ) (g' : Dev Cert.MatmulRefIdeal.nD → PrngReg), Pre_MatmulIdeal m →
    (∀ c : Dev Cert.MatmulIdeal.nD,
      m' ((c.tc : Thread Cert.MatmulRefIdeal.nD Cert.MatmulRefIdeal.τ).loc Cert.MatmulRefIdeal.main_arg0) = m ((c.tc : Thread Cert.MatmulIdeal.nD Cert.MatmulIdeal.τ).loc Cert.MatmulIdeal.main_arg0)
      ∧ m' ((c.tc : Thread Cert.MatmulRefIdeal.nD Cert.MatmulRefIdeal.τ).loc Cert.MatmulRefIdeal.main_arg1) = m ((c.tc : Thread Cert.MatmulIdeal.nD Cert.MatmulIdeal.τ).loc Cert.MatmulIdeal.main_arg1)
      ∧ m' ((c.tc : Thread Cert.MatmulRefIdeal.nD Cert.MatmulRefIdeal.τ).loc Cert.MatmulRefIdeal.main_arg2) = m ((c.tc : Thread Cert.MatmulIdeal.nD Cert.MatmulIdeal.τ).loc Cert.MatmulIdeal.main_arg2)
      ∧ m' ((c.tc : Thread Cert.MatmulRefIdeal.nD Cert.MatmulRefIdeal.τ).loc Cert.MatmulRefIdeal.main_arg3) = m ((c.tc : Thread Cert.MatmulIdeal.nD Cert.MatmulIdeal.τ).loc Cert.MatmulIdeal.main_arg3)) →
    ∃ (v0 : (c : Dev Cert.MatmulIdeal.nD) → Buf (Elt Ideal) ((c.tc : Thread Cert.MatmulIdeal.nD Cert.MatmulIdeal.τ).loc Cert.MatmulIdeal.main_v0)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v0) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
          ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
          ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ θ_run (Cert.MatmulRefIdeal.defs (F := Ideal)) (onTc (τ := Cert.MatmulRefIdeal.τ) (Cert.MatmulRefIdeal.main (F := Ideal))) ⟨m', fun _ => 0, g'⟩ (fun r => ∀ c : Dev Cert.MatmulRefIdeal.nD,
          r.2.mem ((c.tc : Thread Cert.MatmulRefIdeal.nD Cert.MatmulRefIdeal.τ).loc Cert.MatmulRefIdeal.main_v10) = v0 c
          ∧ r.2.mem ((c.tc : Thread Cert.MatmulRefIdeal.nD Cert.MatmulRefIdeal.τ).loc Cert.MatmulRefIdeal.main_arg0) = m' ((c.tc : Thread Cert.MatmulRefIdeal.nD Cert.MatmulRefIdeal.τ).loc Cert.MatmulRefIdeal.main_arg0)
          ∧ r.2.mem ((c.tc : Thread Cert.MatmulRefIdeal.nD Cert.MatmulRefIdeal.τ).loc Cert.MatmulRefIdeal.main_arg1) = m' ((c.tc : Thread Cert.MatmulRefIdeal.nD Cert.MatmulRefIdeal.τ).loc Cert.MatmulRefIdeal.main_arg1)
          ∧ r.2.mem ((c.tc : Thread Cert.MatmulRefIdeal.nD Cert.MatmulRefIdeal.τ).loc Cert.MatmulRefIdeal.main_arg2) = m' ((c.tc : Thread Cert.MatmulRefIdeal.nD Cert.MatmulRefIdeal.τ).loc Cert.MatmulRefIdeal.main_arg2)
          ∧ r.2.mem ((c.tc : Thread Cert.MatmulRefIdeal.nD Cert.MatmulRefIdeal.τ).loc Cert.MatmulRefIdeal.main_arg3) = m' ((c.tc : Thread Cert.MatmulRefIdeal.nD Cert.MatmulRefIdeal.τ).loc Cert.MatmulRefIdeal.main_arg3))

def preserves_XAmax_XAmaxIdeal : Prop :=
  True

def algebraic_XAmaxIdeal_XAmaxRefIdeal [hXAmaxIdeal : Cert.XAmaxIdeal.Facts] [hXAmaxRefIdeal : Cert.XAmaxRefIdeal.Facts] : Prop :=
  ∀ (m : (ℓ : Loc Cert.XAmaxIdeal.nD Cert.XAmaxIdeal.τ Cert.XAmaxIdeal.sig) → Buf (Elt Ideal) ℓ) (g : Dev Cert.XAmaxIdeal.nD → PrngReg)
    (m' : (ℓ : Loc Cert.XAmaxRefIdeal.nD Cert.XAmaxRefIdeal.τ Cert.XAmaxRefIdeal.sig) → Buf (Elt Ideal) ℓ) (g' : Dev Cert.XAmaxRefIdeal.nD → PrngReg), Pre_XAmaxIdeal m →
    (∀ c : Dev Cert.XAmaxIdeal.nD,
      m' ((c.tc : Thread Cert.XAmaxRefIdeal.nD Cert.XAmaxRefIdeal.τ).loc Cert.XAmaxRefIdeal.main_arg0) = m ((c.tc : Thread Cert.XAmaxIdeal.nD Cert.XAmaxIdeal.τ).loc Cert.XAmaxIdeal.main_arg0)) →
    ∃ (v0 : (c : Dev Cert.XAmaxIdeal.nD) → Buf (Elt Ideal) ((c.tc : Thread Cert.XAmaxIdeal.nD Cert.XAmaxIdeal.τ).loc Cert.XAmaxIdeal.main_v0)),
      θ_run (Cert.XAmaxIdeal.defs (F := Ideal)) (onTc (τ := Cert.XAmaxIdeal.τ) (Cert.XAmaxIdeal.main (F := Ideal))) ⟨m, fun _ => 0, g⟩ (fun r => ∀ c : Dev Cert.XAmaxIdeal.nD,
          r.2.mem ((c.tc : Thread Cert.XAmaxIdeal.nD Cert.XAmaxIdeal.τ).loc Cert.XAmaxIdeal.main_v0) = v0 c
          ∧ r.2.mem ((c.tc : Thread Cert.XAmaxIdeal.nD Cert.XAmaxIdeal.τ).loc Cert.XAmaxIdeal.main_arg0) = m ((c.tc : Thread Cert.XAmaxIdeal.nD Cert.XAmaxIdeal.τ).loc Cert.XAmaxIdeal.main_arg0))
      ∧ θ_run (Cert.XAmaxRefIdeal.defs (F := Ideal)) (onTc (τ := Cert.XAmaxRefIdeal.τ) (Cert.XAmaxRefIdeal.main (F := Ideal))) ⟨m', fun _ => 0, g'⟩ (fun r => ∀ c : Dev Cert.XAmaxRefIdeal.nD,
          r.2.mem ((c.tc : Thread Cert.XAmaxRefIdeal.nD Cert.XAmaxRefIdeal.τ).loc Cert.XAmaxRefIdeal.main_v3) = v0 c
          ∧ r.2.mem ((c.tc : Thread Cert.XAmaxRefIdeal.nD Cert.XAmaxRefIdeal.τ).loc Cert.XAmaxRefIdeal.main_arg0) = m' ((c.tc : Thread Cert.XAmaxRefIdeal.nD Cert.XAmaxRefIdeal.τ).loc Cert.XAmaxRefIdeal.main_arg0))

def preserves_WAmax_WAmaxIdeal : Prop :=
  True

def algebraic_WAmaxIdeal_WAmaxRefIdeal [hWAmaxIdeal : Cert.WAmaxIdeal.Facts] [hWAmaxRefIdeal : Cert.WAmaxRefIdeal.Facts] : Prop :=
  ∀ (m : (ℓ : Loc Cert.WAmaxIdeal.nD Cert.WAmaxIdeal.τ Cert.WAmaxIdeal.sig) → Buf (Elt Ideal) ℓ) (g : Dev Cert.WAmaxIdeal.nD → PrngReg)
    (m' : (ℓ : Loc Cert.WAmaxRefIdeal.nD Cert.WAmaxRefIdeal.τ Cert.WAmaxRefIdeal.sig) → Buf (Elt Ideal) ℓ) (g' : Dev Cert.WAmaxRefIdeal.nD → PrngReg), Pre_WAmaxIdeal m →
    (∀ c : Dev Cert.WAmaxIdeal.nD,
      m' ((c.tc : Thread Cert.WAmaxRefIdeal.nD Cert.WAmaxRefIdeal.τ).loc Cert.WAmaxRefIdeal.main_arg0) = m ((c.tc : Thread Cert.WAmaxIdeal.nD Cert.WAmaxIdeal.τ).loc Cert.WAmaxIdeal.main_arg0)) →
    ∃ (v0 : (c : Dev Cert.WAmaxIdeal.nD) → Buf (Elt Ideal) ((c.tc : Thread Cert.WAmaxIdeal.nD Cert.WAmaxIdeal.τ).loc Cert.WAmaxIdeal.main_v0)),
      θ_run (Cert.WAmaxIdeal.defs (F := Ideal)) (onTc (τ := Cert.WAmaxIdeal.τ) (Cert.WAmaxIdeal.main (F := Ideal))) ⟨m, fun _ => 0, g⟩ (fun r => ∀ c : Dev Cert.WAmaxIdeal.nD,
          r.2.mem ((c.tc : Thread Cert.WAmaxIdeal.nD Cert.WAmaxIdeal.τ).loc Cert.WAmaxIdeal.main_v0) = v0 c
          ∧ r.2.mem ((c.tc : Thread Cert.WAmaxIdeal.nD Cert.WAmaxIdeal.τ).loc Cert.WAmaxIdeal.main_arg0) = m ((c.tc : Thread Cert.WAmaxIdeal.nD Cert.WAmaxIdeal.τ).loc Cert.WAmaxIdeal.main_arg0))
      ∧ θ_run (Cert.WAmaxRefIdeal.defs (F := Ideal)) (onTc (τ := Cert.WAmaxRefIdeal.τ) (Cert.WAmaxRefIdeal.main (F := Ideal))) ⟨m', fun _ => 0, g'⟩ (fun r => ∀ c : Dev Cert.WAmaxRefIdeal.nD,
          r.2.mem ((c.tc : Thread Cert.WAmaxRefIdeal.nD Cert.WAmaxRefIdeal.τ).loc Cert.WAmaxRefIdeal.main_v3) = v0 c
          ∧ r.2.mem ((c.tc : Thread Cert.WAmaxRefIdeal.nD Cert.WAmaxRefIdeal.τ).loc Cert.WAmaxRefIdeal.main_arg0) = m' ((c.tc : Thread Cert.WAmaxRefIdeal.nD Cert.WAmaxRefIdeal.τ).loc Cert.WAmaxRefIdeal.main_arg0))

def preserves_QuantX_QuantXIdeal : Prop :=
  True

def algebraic_QuantXIdeal_QuantXRefIdeal_pre_amax_nonneg [hQuantXIdeal : Cert.QuantXIdeal.Facts] [hQuantXRefIdeal : Cert.QuantXRefIdeal.Facts] [hPre_amax_nonneg : Cert.Pre_amax_nonneg.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXRefIdeal.nD Cert.QuantXRefIdeal.τ Cert.QuantXRefIdeal.sig) → Buf (Elt Ideal) ℓ) (g' : Dev Cert.QuantXRefIdeal.nD → PrngReg), Pre_QuantXIdeal_amax_nonneg m →
    (∀ c : Dev Cert.QuantXIdeal.nD,
      m' ((c.tc : Thread Cert.QuantXRefIdeal.nD Cert.QuantXRefIdeal.τ).loc Cert.QuantXRefIdeal.main_arg0) = m ((c.tc : Thread Cert.QuantXIdeal.nD Cert.QuantXIdeal.τ).loc Cert.QuantXIdeal.main_arg0)
      ∧ m' ((c.tc : Thread Cert.QuantXRefIdeal.nD Cert.QuantXRefIdeal.τ).loc Cert.QuantXRefIdeal.main_arg1) = m ((c.tc : Thread Cert.QuantXIdeal.nD Cert.QuantXIdeal.τ).loc Cert.QuantXIdeal.main_arg1)) →
    ∃ (v0 : (c : Dev Cert.QuantXIdeal.nD) → Buf (Elt Ideal) ((c.tc : Thread Cert.QuantXIdeal.nD Cert.QuantXIdeal.τ).loc Cert.QuantXIdeal.main_v1_0)) (v1 : (c : Dev Cert.QuantXIdeal.nD) → Buf (Elt Ideal) ((c.tc : Thread Cert.QuantXIdeal.nD Cert.QuantXIdeal.τ).loc Cert.QuantXIdeal.main_v1_1)) (v2 : (c : Dev Cert.QuantXIdeal.nD) → Buf (Elt Ideal) ((c.tc : Thread Cert.QuantXIdeal.nD Cert.QuantXIdeal.τ).loc Cert.QuantXIdeal.main_v1_2)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v1_0) = v0 c
          ∧ r.2.mem ((c.tc : Thread Cert.QuantXIdeal.nD Cert.QuantXIdeal.τ).loc Cert.QuantXIdeal.main_v1_1) = v1 c
          ∧ r.2.mem ((c.tc : Thread Cert.QuantXIdeal.nD Cert.QuantXIdeal.τ).loc Cert.QuantXIdeal.main_v1_2) = v2 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ θ_run (Cert.QuantXRefIdeal.defs (F := Ideal)) (onTc (τ := Cert.QuantXRefIdeal.τ) (Cert.QuantXRefIdeal.main (F := Ideal))) ⟨m', fun _ => 0, g'⟩ (fun r => ∀ c : Dev Cert.QuantXRefIdeal.nD,
          r.2.mem ((c.tc : Thread Cert.QuantXRefIdeal.nD Cert.QuantXRefIdeal.τ).loc Cert.QuantXRefIdeal.main_v0_0) = v0 c
          ∧ r.2.mem ((c.tc : Thread Cert.QuantXRefIdeal.nD Cert.QuantXRefIdeal.τ).loc Cert.QuantXRefIdeal.main_v0_1) = v1 c
          ∧ r.2.mem ((c.tc : Thread Cert.QuantXRefIdeal.nD Cert.QuantXRefIdeal.τ).loc Cert.QuantXRefIdeal.main_v0_2) = v2 c
          ∧ r.2.mem ((c.tc : Thread Cert.QuantXRefIdeal.nD Cert.QuantXRefIdeal.τ).loc Cert.QuantXRefIdeal.main_arg0) = m' ((c.tc : Thread Cert.QuantXRefIdeal.nD Cert.QuantXRefIdeal.τ).loc Cert.QuantXRefIdeal.main_arg0)
          ∧ r.2.mem ((c.tc : Thread Cert.QuantXRefIdeal.nD Cert.QuantXRefIdeal.τ).loc Cert.QuantXRefIdeal.main_arg1) = m' ((c.tc : Thread Cert.QuantXRefIdeal.nD Cert.QuantXRefIdeal.τ).loc Cert.QuantXRefIdeal.main_arg1))

def preserves_QuantW_QuantWIdeal : Prop :=
  True

def algebraic_QuantWIdeal_QuantWRefIdeal_pre_w_amax_nonneg [hQuantWIdeal : Cert.QuantWIdeal.Facts] [hQuantWRefIdeal : Cert.QuantWRefIdeal.Facts] [hPre_w_amax_nonneg : Cert.Pre_w_amax_nonneg.Facts] : Prop :=
  ∀ (m : (ℓ : Loc Cert.QuantWIdeal.nD Cert.QuantWIdeal.τ Cert.QuantWIdeal.sig) → Buf (Elt Ideal) ℓ) (g : Dev Cert.QuantWIdeal.nD → PrngReg)
    (m' : (ℓ : Loc Cert.QuantWRefIdeal.nD Cert.QuantWRefIdeal.τ Cert.QuantWRefIdeal.sig) → Buf (Elt Ideal) ℓ) (g' : Dev Cert.QuantWRefIdeal.nD → PrngReg), Pre_QuantWIdeal_w_amax_nonneg m →
    (∀ c : Dev Cert.QuantWIdeal.nD,
      m' ((c.tc : Thread Cert.QuantWRefIdeal.nD Cert.QuantWRefIdeal.τ).loc Cert.QuantWRefIdeal.main_arg0) = m ((c.tc : Thread Cert.QuantWIdeal.nD Cert.QuantWIdeal.τ).loc Cert.QuantWIdeal.main_arg0)
      ∧ m' ((c.tc : Thread Cert.QuantWRefIdeal.nD Cert.QuantWRefIdeal.τ).loc Cert.QuantWRefIdeal.main_arg1) = m ((c.tc : Thread Cert.QuantWIdeal.nD Cert.QuantWIdeal.τ).loc Cert.QuantWIdeal.main_arg1)) →
    ∃ (v0 : (c : Dev Cert.QuantWIdeal.nD) → Buf (Elt Ideal) ((c.tc : Thread Cert.QuantWIdeal.nD Cert.QuantWIdeal.τ).loc Cert.QuantWIdeal.main_v1_0)) (v1 : (c : Dev Cert.QuantWIdeal.nD) → Buf (Elt Ideal) ((c.tc : Thread Cert.QuantWIdeal.nD Cert.QuantWIdeal.τ).loc Cert.QuantWIdeal.main_v1_1)) (v2 : (c : Dev Cert.QuantWIdeal.nD) → Buf (Elt Ideal) ((c.tc : Thread Cert.QuantWIdeal.nD Cert.QuantWIdeal.τ).loc Cert.QuantWIdeal.main_v1_2)) (v3 : (c : Dev Cert.QuantWIdeal.nD) → Buf (Elt Ideal) ((c.tc : Thread Cert.QuantWIdeal.nD Cert.QuantWIdeal.τ).loc Cert.QuantWIdeal.main_v1_3)),
      θ_run (Cert.QuantWIdeal.defs (F := Ideal)) (onTc (τ := Cert.QuantWIdeal.τ) (Cert.QuantWIdeal.main (F := Ideal))) ⟨m, fun _ => 0, g⟩ (fun r => ∀ c : Dev Cert.QuantWIdeal.nD,
          r.2.mem ((c.tc : Thread Cert.QuantWIdeal.nD Cert.QuantWIdeal.τ).loc Cert.QuantWIdeal.main_v1_0) = v0 c
          ∧ r.2.mem ((c.tc : Thread Cert.QuantWIdeal.nD Cert.QuantWIdeal.τ).loc Cert.QuantWIdeal.main_v1_1) = v1 c
          ∧ r.2.mem ((c.tc : Thread Cert.QuantWIdeal.nD Cert.QuantWIdeal.τ).loc Cert.QuantWIdeal.main_v1_2) = v2 c
          ∧ r.2.mem ((c.tc : Thread Cert.QuantWIdeal.nD Cert.QuantWIdeal.τ).loc Cert.QuantWIdeal.main_v1_3) = v3 c
          ∧ r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0)
          ∧ r.2.mem ((c.tc : Thread Cert.QuantWIdeal.nD Cert.QuantWIdeal.τ).loc Cert.QuantWIdeal.main_arg1) = m ((c.tc : Thread Cert.QuantWIdeal.nD Cert.QuantWIdeal.τ).loc Cert.QuantWIdeal.main_arg1))
      ∧ θ_run (Cert.QuantWRefIdeal.defs (F := Ideal)) (onTc (τ := Cert.QuantWRefIdeal.τ) (Cert.QuantWRefIdeal.main (F := Ideal))) ⟨m', fun _ => 0, g'⟩ (fun r => ∀ c : Dev Cert.QuantWRefIdeal.nD,
          r.2.mem ((c.tc : Thread Cert.QuantWRefIdeal.nD Cert.QuantWRefIdeal.τ).loc Cert.QuantWRefIdeal.main_v0_0) = v0 c
          ∧ r.2.mem ((c.tc : Thread Cert.QuantWRefIdeal.nD Cert.QuantWRefIdeal.τ).loc Cert.QuantWRefIdeal.main_v0_1) = v1 c
          ∧ r.2.mem ((c.tc : Thread Cert.QuantWRefIdeal.nD Cert.QuantWRefIdeal.τ).loc Cert.QuantWRefIdeal.main_v0_2) = v2 c
          ∧ r.2.mem ((c.tc : Thread Cert.QuantWRefIdeal.nD Cert.QuantWRefIdeal.τ).loc Cert.QuantWRefIdeal.main_v0_3) = v3 c
          ∧ r.2.mem ((c.tc : Thread Cert.QuantWRefIdeal.nD Cert.QuantWRefIdeal.τ).loc Cert.QuantWRefIdeal.main_arg0) = m' ((c.tc : Thread Cert.QuantWRefIdeal.nD Cert.QuantWRefIdeal.τ).loc Cert.QuantWRefIdeal.main_arg0)
          ∧ r.2.mem ((c.tc : Thread Cert.QuantWRefIdeal.nD Cert.QuantWRefIdeal.τ).loc Cert.QuantWRefIdeal.main_arg1) = m' ((c.tc : Thread Cert.QuantWRefIdeal.nD Cert.QuantWRefIdeal.τ).loc Cert.QuantWRefIdeal.main_arg1))

def Claim : Prop :=
  ∃ (hMatmul : Cert.Matmul.Facts) (hMatmulIdeal : Cert.MatmulIdeal.Facts) (hMatmulRefIdeal : Cert.MatmulRefIdeal.Facts) (hXAmax : Cert.XAmax.Facts) (hXAmaxIdeal : Cert.XAmaxIdeal.Facts) (hXAmaxRefIdeal : Cert.XAmaxRefIdeal.Facts) (hWAmax : Cert.WAmax.Facts) (hWAmaxIdeal : Cert.WAmaxIdeal.Facts) (hWAmaxRefIdeal : Cert.WAmaxRefIdeal.Facts) (hQuantX : Cert.QuantX.Facts) (hQuantXIdeal : Cert.QuantXIdeal.Facts) (hQuantXRefIdeal : Cert.QuantXRefIdeal.Facts) (hQuantW : Cert.QuantW.Facts) (hQuantWIdeal : Cert.QuantWIdeal.Facts) (hQuantWRefIdeal : Cert.QuantWRefIdeal.Facts) (hPre_amax_nonneg : Cert.Pre_amax_nonneg.Facts) (hPre_w_amax_nonneg : Cert.Pre_w_amax_nonneg.Facts),
    quiescent_Matmul (hMatmul := hMatmul)
    ∧ quiescent_MatmulIdeal (hMatmulIdeal := hMatmulIdeal)
    ∧ quiescent_MatmulRefIdeal (hMatmulRefIdeal := hMatmulRefIdeal)
    ∧ quiescent_XAmax (hXAmax := hXAmax)
    ∧ quiescent_XAmaxIdeal (hXAmaxIdeal := hXAmaxIdeal)
    ∧ quiescent_XAmaxRefIdeal (hXAmaxRefIdeal := hXAmaxRefIdeal)
    ∧ quiescent_WAmax (hWAmax := hWAmax)
    ∧ quiescent_WAmaxIdeal (hWAmaxIdeal := hWAmaxIdeal)
    ∧ quiescent_WAmaxRefIdeal (hWAmaxRefIdeal := hWAmaxRefIdeal)
    ∧ quiescent_QuantX (hQuantX := hQuantX)
    ∧ quiescent_QuantXIdeal (hQuantXIdeal := hQuantXIdeal)
    ∧ quiescent_QuantXIdeal_pre_amax_nonneg (hQuantXIdeal := hQuantXIdeal) (hPre_amax_nonneg := hPre_amax_nonneg)
    ∧ quiescent_QuantXRefIdeal (hQuantXRefIdeal := hQuantXRefIdeal)
    ∧ quiescent_QuantXRefIdeal_pre_amax_nonneg (hQuantXRefIdeal := hQuantXRefIdeal) (hPre_amax_nonneg := hPre_amax_nonneg)
    ∧ quiescent_QuantW (hQuantW := hQuantW)
    ∧ quiescent_QuantWIdeal (hQuantWIdeal := hQuantWIdeal)
    ∧ quiescent_QuantWIdeal_pre_w_amax_nonneg (hQuantWIdeal := hQuantWIdeal) (hPre_w_amax_nonneg := hPre_w_amax_nonneg)
    ∧ quiescent_QuantWRefIdeal (hQuantWRefIdeal := hQuantWRefIdeal)
    ∧ quiescent_QuantWRefIdeal_pre_w_amax_nonneg (hQuantWRefIdeal := hQuantWRefIdeal) (hPre_w_amax_nonneg := hPre_w_amax_nonneg)
    ∧ preserves_Matmul_MatmulIdeal
    ∧ algebraic_MatmulIdeal_MatmulRefIdeal (hMatmulIdeal := hMatmulIdeal) (hMatmulRefIdeal := hMatmulRefIdeal)
    ∧ preserves_XAmax_XAmaxIdeal
    ∧ algebraic_XAmaxIdeal_XAmaxRefIdeal (hXAmaxIdeal := hXAmaxIdeal) (hXAmaxRefIdeal := hXAmaxRefIdeal)
    ∧ preserves_WAmax_WAmaxIdeal
    ∧ algebraic_WAmaxIdeal_WAmaxRefIdeal (hWAmaxIdeal := hWAmaxIdeal) (hWAmaxRefIdeal := hWAmaxRefIdeal)
    ∧ preserves_QuantX_QuantXIdeal
    ∧ algebraic_QuantXIdeal_QuantXRefIdeal_pre_amax_nonneg (hQuantXIdeal := hQuantXIdeal) (hQuantXRefIdeal := hQuantXRefIdeal) (hPre_amax_nonneg := hPre_amax_nonneg)
    ∧ preserves_QuantW_QuantWIdeal
    ∧ algebraic_QuantWIdeal_QuantWRefIdeal_pre_w_amax_nonneg (hQuantWIdeal := hQuantWIdeal) (hQuantWRefIdeal := hQuantWRefIdeal) (hPre_w_amax_nonneg := hPre_w_amax_nonneg)
-- ==== Pre_amax_nonneg.lean ====
abbrev S6144x12288 : Shape := ⟨2, ![6144, 12288]⟩
abbrev S1x1 : Shape := ⟨2, ![1, 1]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S6144x12288 .bf16) (main_arg1 : FVec F S1x1 .f32) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .oge main_arg1 main_v0
  main_v1
-- ==== Pre_w_amax_nonneg.lean ====
abbrev S4608x12288 : Shape := ⟨2, ![4608, 12288]⟩
abbrev S1x1 : Shape := ⟨2, ![1, 1]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S4608x12288 .bf16) (main_arg1 : FVec F S1x1 .f32) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .oge main_arg1 main_v0
  main_v1
-- ==== Matmul.lean ====
abbrev S6144x12288 : Shape := ⟨2, ![6144, 12288]⟩
abbrev S4608x12288 : Shape := ⟨2, ![4608, 12288]⟩
abbrev S1x128 : Shape := ⟨2, ![1, 128]⟩
abbrev S6144x4608 : Shape := ⟨2, ![6144, 4608]⟩
abbrev S1024x2048 : Shape := ⟨2, ![1024, 2048]⟩
abbrev S1536x2048 : Shape := ⟨2, ![1536, 2048]⟩
abbrev S1024x1536 : Shape := ⟨2, ![1024, 1536]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S6144x12288, .bf16⟩
  | .hbm, ⟨1, _⟩ => ⟨S4608x12288, .bf16⟩
  | .hbm, ⟨2, _⟩ => ⟨S1x128, .f32⟩
  | .hbm, ⟨3, _⟩ => ⟨S1x128, .f32⟩
  | .hbm, ⟨4, _⟩ => ⟨S6144x4608, .bf16⟩
  | .local _ .vmem, ⟨0, _⟩ => ⟨S1x128, .f32⟩
  | .local _ .vmem, ⟨1, _⟩ => ⟨S1x128, .f32⟩
  | .local _ .vmem, ⟨2, _⟩ => ⟨S1024x2048, .bf16⟩
  | .local _ .vmem, ⟨3, _⟩ => ⟨S1024x2048, .bf16⟩
  | .local _ .vmem, ⟨4, _⟩ => ⟨S1536x2048, .bf16⟩
  | .local _ .vmem, ⟨5, _⟩ => ⟨S1536x2048, .bf16⟩
  | .local _ .vmem, ⟨6, _⟩ => ⟨S1024x1536, .bf16⟩
  | .local _ .vmem, ⟨7, _⟩ => ⟨S1024x1536, .bf16⟩
  | .local _ .vmem, ⟨8, _⟩ => ⟨S1024x1536, .f32⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![6, 3, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1536x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MatmulRefIdeal.lean ====
abbrev S6144x12288 : Shape := ⟨2, ![6144, 12288]⟩
abbrev S4608x12288 : Shape := ⟨2, ![4608, 12288]⟩
abbrev S1x128 : Shape := ⟨2, ![1, 128]⟩
abbrev S6144x4608 : Shape := ⟨2, ![6144, 4608]⟩
abbrev S1x1 : Shape := ⟨2, ![1, 1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S6144x12288, .bf16⟩
  | .hbm, ⟨1, _⟩ => ⟨S4608x12288, .bf16⟩
  | .hbm, ⟨2, _⟩ => ⟨S1x128, .f32⟩
  | .hbm, ⟨3, _⟩ => ⟨S1x128, .f32⟩
  | .hbm, ⟨4, _⟩ => ⟨S6144x4608, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S6144x4608, .f32⟩
  | .hbm, ⟨15, _⟩ => ⟨S6144x4608, .f32⟩
  | .hbm, ⟨16, _⟩ => ⟨S6144x4608, .bf16⟩
  | _, _ => ⟨S6144x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== XAmax.lean ====
abbrev S6144x12288 : Shape := ⟨2, ![6144, 12288]⟩
abbrev S1x128 : Shape := ⟨2, ![1, 128]⟩
abbrev S256x12288 : Shape := ⟨2, ![256, 12288]⟩
abbrev S8x12288 : Shape := ⟨2, ![8, 12288]⟩
abbrev S8x2048 : Shape := ⟨2, ![8, 2048]⟩
abbrev S12288 : Shape := ⟨1, ![12288]⟩
abbrev S1x12288 : Shape := ⟨2, ![1, 12288]⟩
abbrev S1 : Shape := ⟨1, ![1]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S6144x12288, .bf16⟩
  | .hbm, ⟨1, _⟩ => ⟨S1x128, .f32⟩
  | .local _ .vmem, ⟨0, _⟩ => ⟨S256x12288, .bf16⟩
  | .local _ .vmem, ⟨1, _⟩ => ⟨S256x12288, .bf16⟩
  | .local _ .vmem, ⟨2, _⟩ => ⟨S1x128, .f32⟩
  | .local _ .vmem, ⟨3, _⟩ => ⟨S8x12288, .bf16⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v603 : BitVec 1 := Scalar.cmpi .eq arg0 c23_i32
  let v604 : BitVec 32 := Scalar.extui v603
  let c0_i32_372 : BitVec 32 := 0#32
  let v605 : BitVec 1 := Scalar.cmpi .ne v604 c0_i32_372
  v605

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== XAmaxIdeal.lean ====
abbrev S6144x12288 : Shape := ⟨2, ![6144, 12288]⟩
abbrev S1x128 : Shape := ⟨2, ![1, 128]⟩
abbrev S256x12288 : Shape := ⟨2, ![256, 12288]⟩
abbrev S8x12288 : Shape := ⟨2, ![8, 12288]⟩
abbrev S8x2048 : Shape := ⟨2, ![8, 2048]⟩
abbrev S12288 : Shape := ⟨1, ![12288]⟩
abbrev S1x12288 : Shape := ⟨2, ![1, 12288]⟩
abbrev S1 : Shape := ⟨1, ![1]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S6144x12288, .bf16⟩
  | .hbm, ⟨1, _⟩ => ⟨S1x128, .f32⟩
  | .local _ .vmem, ⟨0, _⟩ => ⟨S256x12288, .bf16⟩
  | .local _ .vmem, ⟨1, _⟩ => ⟨S256x12288, .bf16⟩
  | .local _ .vmem, ⟨2, _⟩ => ⟨S1x128, .f32⟩
  | .local _ .vmem, ⟨3, _⟩ => ⟨S8x12288, .bf16⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v603 : BitVec 1 := Scalar.cmpi .eq arg0 c23_i32
  let v604 : BitVec 32 := Scalar.extui v603
  let c0_i32_372 : BitVec 32 := 0#32
  let v605 : BitVec 1 := Scalar.cmpi .ne v604 c0_i32_372
  v605

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== XAmaxRefIdeal.lean ====
abbrev S6144x12288 : Shape := ⟨2, ![6144, 12288]⟩
abbrev S_ : Shape := ⟨0, ![]⟩
abbrev S1x128 : Shape := ⟨2, ![1, 128]⟩

abbrev nBuf : Space → Nat
  | .hbm => 6
  | .vmem => 0
  | .smem => 0
  | _ => 0

abbrev bufTy : (tb : Table) → Fin (tcTables nBuf tb) → BufTy
  | .hbm, ⟨0, _⟩ => ⟨S6144x12288, .bf16⟩
  | .hbm, ⟨1, _⟩ => ⟨S6144x12288, .f32⟩
  | .hbm, ⟨2, _⟩ => ⟨S6144x12288, .f32⟩
  | .hbm, ⟨3, _⟩ => ⟨S_, .f32⟩
  | .hbm, ⟨4, _⟩ => ⟨S_, .f32⟩
  | .hbm, ⟨5, _⟩ => ⟨S1x128, .f32⟩
  | _, _ => ⟨S6144x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WAmax.lean ====
abbrev S4608x12288 : Shape := ⟨2, ![4608, 12288]⟩
abbrev S1x128 : Shape := ⟨2, ![1, 128]⟩
abbrev S256x12288 : Shape := ⟨2, ![256, 12288]⟩
abbrev S8x12288 : Shape := ⟨2, ![8, 12288]⟩
abbrev S8x2048 : Shape := ⟨2, ![8, 2048]⟩
abbrev S12288 : Shape := ⟨1, ![12288]⟩
abbrev S1x12288 : Shape := ⟨2, ![1, 12288]⟩
abbrev S1 : Shape := ⟨1, ![1]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S4608x12288, .bf16⟩
  | .hbm, ⟨1, _⟩ => ⟨S1x128, .f32⟩
  | .local _ .vmem, ⟨0, _⟩ => ⟨S256x12288, .bf16⟩
  | .local _ .vmem, ⟨1, _⟩ => ⟨S256x12288, .bf16⟩
  | .local _ .vmem, ⟨2, _⟩ => ⟨S1x128, .f32⟩
  | .local _ .vmem, ⟨3, _⟩ => ⟨S8x12288, .bf16⟩
  | _, _ => ⟨S4608x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c17_i32 : BitVec 32 := 17#32
  let v603 : BitVec 1 := Scalar.cmpi .eq arg0 c17_i32
  let v604 : BitVec 32 := Scalar.extui v603
  let c0_i32_372 : BitVec 32 := 0#32
  let v605 : BitVec 1 := Scalar.cmpi .ne v604 c0_i32_372
  v605

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== WAmaxRefIdeal.lean ====
abbrev S4608x12288 : Shape := ⟨2, ![4608, 12288]⟩
abbrev S_ : Shape := ⟨0, ![]⟩
abbrev S1x128 : Shape := ⟨2, ![1, 128]⟩

abbrev nBuf : Space → Nat
  | .hbm => 6
  | .vmem => 0
  | .smem => 0
  | _ => 0

abbrev bufTy : (tb : Table) → Fin (tcTables nBuf tb) → BufTy
  | .hbm, ⟨0, _⟩ => ⟨S4608x12288, .bf16⟩
  | .hbm, ⟨1, _⟩ => ⟨S4608x12288, .f32⟩
  | .hbm, ⟨2, _⟩ => ⟨S4608x12288, .f32⟩
  | .hbm, ⟨3, _⟩ => ⟨S_, .f32⟩
  | .hbm, ⟨4, _⟩ => ⟨S_, .f32⟩
  | .hbm, ⟨5, _⟩ => ⟨S1x128, .f32⟩
  | _, _ => ⟨S4608x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QuantX.lean ====
abbrev S6144x12288 : Shape := ⟨2, ![6144, 12288]⟩
abbrev S1x1 : Shape := ⟨2, ![1, 1]⟩
abbrev S1x128 : Shape := ⟨2, ![1, 128]⟩
abbrev S6144x6144 : Shape := ⟨2, ![6144, 6144]⟩
abbrev S6144x768 : Shape := ⟨2, ![6144, 768]⟩
abbrev S128x2048 : Shape := ⟨2, ![128, 2048]⟩
abbrev S128x1024 : Shape := ⟨2, ![128, 1024]⟩
abbrev S128x128 : Shape := ⟨2, ![128, 128]⟩
abbrev S64x128 : Shape := ⟨2, ![64, 128]⟩
abbrev S64x128x1 : Shape := ⟨3, ![64, 128, 1]⟩
abbrev S2048x128 : Shape := ⟨2, ![2048, 128]⟩
abbrev S1024x2x128 : Shape := ⟨3, ![1024, 2, 128]⟩
abbrev S1024x1x128 : Shape := ⟨3, ![1024, 1, 128]⟩
abbrev S1024x128 : Shape := ⟨2, ![1024, 128]⟩

abbrev nBuf : Space → Nat
  | .hbm => 6
  | .vmem => 10
  | .smem => 0
  | _ => 0

abbrev bufTy : (tb : Table) → Fin (tcTables nBuf tb) → BufTy
  | .hbm, ⟨0, _⟩ => ⟨S6144x12288, .bf16⟩
  | .hbm, ⟨1, _⟩ => ⟨S1x1, .f32⟩
  | .hbm, ⟨2, _⟩ => ⟨S1x128, .f32⟩
  | .hbm, ⟨3, _⟩ => ⟨S6144x12288, .bf16⟩
  | .hbm, ⟨4, _⟩ => ⟨S6144x6144, .i8⟩
  | .hbm, ⟨5, _⟩ => ⟨S6144x768, .fp8e4m3⟩
  | .local _ .vmem, ⟨0, _⟩ => ⟨S1x128, .f32⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x1024, .i8⟩
  | .local _ .vmem, ⟨6, _⟩ => ⟨S128x1024, .i8⟩
  | .local _ .vmem, ⟨7, _⟩ => ⟨S128x128, .fp8e4m3⟩
  | .local _ .vmem, ⟨8, _⟩ => ⟨S128x128, .fp8e4m3⟩
  | .local _ .vmem, ⟨9, _⟩ => ⟨S128x2048, .i8⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QuantXRefIdeal.lean ====
abbrev S6144x12288 : Shape := ⟨2, ![6144, 12288]⟩
abbrev S1x1 : Shape := ⟨2, ![1, 1]⟩
abbrev S6144x6144 : Shape := ⟨2, ![6144, 6144]⟩
abbrev S6144x768 : Shape := ⟨2, ![6144, 768]⟩
abbrev S6144x768x16 : Shape := ⟨3, ![6144, 768, 16]⟩
abbrev S6144x768x1 : Shape := ⟨3, ![6144, 768, 1]⟩
abbrev S6144x6144x2 : Shape := ⟨3, ![6144, 6144, 2]⟩
abbrev S6144x6144x1 : Shape := ⟨3, ![6144, 6144, 1]⟩

abbrev nBuf : Space → Nat
  | .hbm => 5
  | .vmem => 5
  | .smem => 0
  | _ => 0

abbrev bufTy : (tb : Table) → Fin (tcTables nBuf tb) → BufTy
  | .hbm, ⟨0, _⟩ => ⟨S6144x12288, .bf16⟩
  | .hbm, ⟨1, _⟩ => ⟨S1x1, .f32⟩
  | .hbm, ⟨2, _⟩ => ⟨S6144x12288, .bf16⟩
  | .hbm, ⟨3, _⟩ => ⟨S6144x6144, .i8⟩
  | .hbm, ⟨4, _⟩ => ⟨S6144x768, .fp8e4m3⟩
  | .local _ .vmem, ⟨0, _⟩ => ⟨S6144x12288, .bf16⟩
  | .local _ .vmem, ⟨1, _⟩ => ⟨S1x1, .f32⟩
  | .local _ .vmem, ⟨2, _⟩ => ⟨S6144x12288, .bf16⟩
  | .local _ .vmem, ⟨3, _⟩ => ⟨S6144x6144, .i8⟩
  | .local _ .vmem, ⟨4, _⟩ => ⟨S6144x768, .fp8e4m3⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QuantW.lean ====
abbrev S4608x12288 : Shape := ⟨2, ![4608, 12288]⟩
abbrev S1x1 : Shape := ⟨2, ![1, 1]⟩
abbrev S1x128 : Shape := ⟨2, ![1, 128]⟩
abbrev S4608x6144 : Shape := ⟨2, ![4608, 6144]⟩
abbrev S12288x2304 : Shape := ⟨2, ![12288, 2304]⟩
abbrev S288x768 : Shape := ⟨2, ![288, 768]⟩
abbrev S512x2048 : Shape := ⟨2, ![512, 2048]⟩
abbrev S512x1024 : Shape := ⟨2, ![512, 1024]⟩
abbrev S2048x256 : Shape := ⟨2, ![2048, 256]⟩
abbrev S32x128 : Shape := ⟨2, ![32, 128]⟩
abbrev S256x2048 : Shape := ⟨2, ![256, 2048]⟩
abbrev S8x128 : Shape := ⟨2, ![8, 128]⟩
abbrev S64x128 : Shape := ⟨2, ![64, 128]⟩
abbrev S64x128x1 : Shape := ⟨3, ![64, 128, 1]⟩
abbrev S16x128 : Shape := ⟨2, ![16, 128]⟩
abbrev S128 : Shape := ⟨1, ![128]⟩
abbrev S8x128x1 : Shape := ⟨3, ![8, 128, 1]⟩
abbrev S16x128x1 : Shape := ⟨3, ![16, 128, 1]⟩
abbrev S32x2x128 : Shape := ⟨3, ![32, 2, 128]⟩
abbrev S32x1x128 : Shape := ⟨3, ![32, 1, 128]⟩
abbrev S2048x512 : Shape := ⟨2, ![2048, 512]⟩
abbrev S1024x2x512 : Shape := ⟨3, ![1024, 2, 512]⟩
abbrev S1024x1x512 : Shape := ⟨3, ![1024, 1, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S4608x12288, .bf16⟩
  | .hbm, ⟨1, _⟩ => ⟨S1x1, .f32⟩
  | .hbm, ⟨2, _⟩ => ⟨S1x128, .f32⟩
  | .hbm, ⟨3, _⟩ => ⟨S4608x12288, .bf16⟩
  | .hbm, ⟨4, _⟩ => ⟨S4608x6144, .i8⟩
  | .hbm, ⟨5, _⟩ => ⟨S12288x2304, .i8⟩
  | .hbm, ⟨6, _⟩ => ⟨S288x768, .fp8e4m3⟩
  | .local _ .vmem, ⟨0, _⟩ => ⟨S1x128, .f32⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x1024, .i8⟩
  | .local _ .vmem, ⟨6, _⟩ => ⟨S512x1024, .i8⟩
  | .local _ .vmem, ⟨7, _⟩ => ⟨S2048x256, .i8⟩
  | .local _ .vmem, ⟨8, _⟩ => ⟨S2048x256, .i8⟩
  | .local _ .vmem, ⟨9, _⟩ => ⟨S32x128, .fp8e4m3⟩
  | .local _ .vmem, ⟨10, _⟩ => ⟨S32x128, .fp8e4m3⟩
  | .local _ .vmem, ⟨11, _⟩ => ⟨S512x2048, .i8⟩
  | .local _ .vmem, ⟨12, _⟩ => ⟨S256x2048, .i8⟩
  | .local _ .vmem, ⟨13, _⟩ => ⟨S32x128, .f32⟩
  | _, _ => ⟨S4608x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QuantWRefIdeal.lean ====
abbrev S4608x12288 : Shape := ⟨2, ![4608, 12288]⟩
abbrev S1x1 : Shape := ⟨2, ![1, 1]⟩
abbrev S4608x6144 : Shape := ⟨2, ![4608, 6144]⟩
abbrev S12288x2304 : Shape := ⟨2, ![12288, 2304]⟩
abbrev S288x768 : Shape := ⟨2, ![288, 768]⟩
abbrev S288x16x768x16 : Shape := ⟨4, ![288, 16, 768, 16]⟩
abbrev S288x1x768x1 : Shape := ⟨4, ![288, 1, 768, 1]⟩
abbrev S4608x6144x2 : Shape := ⟨3, ![4608, 6144, 2]⟩
abbrev S4608x6144x1 : Shape := ⟨3, ![4608, 6144, 1]⟩
abbrev S2304x2x12288 : Shape := ⟨3, ![2304, 2, 12288]⟩
abbrev S2304x1x12288 : Shape := ⟨3, ![2304, 1, 12288]⟩
abbrev S2304x12288 : Shape := ⟨2, ![2304, 12288]⟩

abbrev nBuf : Space → Nat
  | .hbm => 6
  | .vmem => 6
  | .smem => 0
  | _ => 0

abbrev bufTy : (tb : Table) → Fin (tcTables nBuf tb) → BufTy
  | .hbm, ⟨0, _⟩ => ⟨S4608x12288, .bf16⟩
  | .hbm, ⟨1, _⟩ => ⟨S1x1, .f32⟩
  | .hbm, ⟨2, _⟩ => ⟨S4608x12288, .bf16⟩
  | .hbm, ⟨3, _⟩ => ⟨S4608x6144, .i8⟩
  | .hbm, ⟨4, _⟩ => ⟨S12288x2304, .i8⟩
  | .hbm, ⟨5, _⟩ => ⟨S288x768, .fp8e4m3⟩
  | .local _ .vmem, ⟨0, _⟩ => ⟨S4608x12288, .bf16⟩
  | .local _ .vmem, ⟨1, _⟩ => ⟨S1x1, .f32⟩
  | .local _ .vmem, ⟨2, _⟩ => ⟨S4608x12288, .bf16⟩
  | .local _ .vmem, ⟨3, _⟩ => ⟨S4608x6144, .i8⟩
  | .local _ .vmem, ⟨4, _⟩ => ⟨S12288x2304, .i8⟩
  | .local _ .vmem, ⟨5, _⟩ => ⟨S288x768, .fp8e4m3⟩
  | _, _ => ⟨S4608x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4608x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2304 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.MatmulCases.lean ====
/- The value of each grid point of the matmul kernel, read off the body's run: the first point of a reduction
   run leaves `0 + x wᵀ` in the accumulator, every later one leaves `acc + x wᵀ`, and the last one also writes
   the accumulator, scaled, to the output block. -/
module

public import proofs.«01_k».proof.Proof.Gen.MatmulIdeal.Value
public import Idealize.ShloMosaic.Lib.ValueIdx
public import Idealize.ShloMosaic.Lib.Tactic

@[expose] public section

noncomputable section

namespace Cert.MatmulIdeal.Hand

open Cert.MatmulIdeal Cert.MatmulIdeal.Gen Cert.MatmulIdeal.Value
open Idealize.ShloMosaic Idealize.ShloMosaic.TcCoe Idealize.SL.Sem

variable {F : FTy → Type} [FloatOps F]

theorem hz : (![0, 0] : Fin 2 → Nat) = fun _ => 0 := funext fun a => by fin_cases a <;> rfl

/-- A later point leaves the accumulator plus its product. -/
theorem sout_B (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S1024x2048 .bf16) (harg5 : arg5.IsWhole) (arg6 : Memref sig .tc .vmem S1536x2048 .bf16) (harg6 : arg6.IsWhole) (arg7 : Memref sig .tc .vmem S1024x1536 .bf16) (harg7 : arg7.IsWhole) (arg8 : Memref sig .tc .vmem S1024x1536 .f32) (harg8 : arg8.IsWhole) (hc0 : ¬cond0_0 i) (hc1 : ¬cond0_1 i)
    (x0 : Vec F S1x128 .f32) (x1 : Vec F S1x128 .f32) (x2 : Vec F S1024x2048 .bf16) (x3 : Vec F S1536x2048 .bf16) (xs0 : Vec F S1024x1536 .f32) :
    sout0_B_0 c i arg3 harg3 arg4 harg4 arg5 harg5 arg6 harg6 arg7 harg7 arg8 harg8 hc0 hc1 x0 x1 x2 x3 xs0 = k0_pay2 xs0 x2 x3 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg8.read_unread, harg5.read_unread, harg6.read_unread, View.ld_unit_zero (S := S1024x1536) hz, View.ld_unit_zero (S := S1024x2048) hz, View.ld_unit_zero (S := S1536x2048) hz]

/-- So does the last point of a run. -/
theorem sout_C (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S1024x2048 .bf16) (harg5 : arg5.IsWhole) (arg6 : Memref sig .tc .vmem S1536x2048 .bf16) (harg6 : arg6.IsWhole) (arg7 : Memref sig .tc .vmem S1024x1536 .bf16) (harg7 : arg7.IsWhole) (arg8 : Memref sig .tc .vmem S1024x1536 .f32) (harg8 : arg8.IsWhole) (hc0 : ¬cond0_0 i) (hc1 : cond0_1 i)
    (x0 : Vec F S1x128 .f32) (x1 : Vec F S1x128 .f32) (x2 : Vec F S1024x2048 .bf16) (x3 : Vec F S1536x2048 .bf16) (xs0 : Vec F S1024x1536 .f32) :
    sout0_C_0 c i arg3 harg3 arg4 harg4 arg5 harg5 arg6 harg6 arg7 harg7 arg8 harg8 hc0 hc1 x0 x1 x2 x3 xs0 = k0_pay2 xs0 x2 x3 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg8.read_unread, harg5.read_unread, harg6.read_unread, View.ld_unit_zero (S := S1024x1536) hz, View.ld_unit_zero (S := S1024x2048) hz, View.ld_unit_zero (S := S1536x2048) hz]

/-- The first point of a run leaves zero plus its product. -/
theorem sout_A (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S1024x2048 .bf16) (harg5 : arg5.IsWhole) (arg6 : Memref sig .tc .vmem S1536x2048 .bf16) (harg6 : arg6.IsWhole) (arg7 : Memref sig .tc .vmem S1024x1536 .bf16) (harg7 : arg7.IsWhole) (arg8 : Memref sig .tc .vmem S1024x1536 .f32) (harg8 : arg8.IsWhole) (hc0 : cond0_0 i) (hc1 : ¬cond0_1 i)
    (x0 : Vec F S1x128 .f32) (x1 : Vec F S1x128 .f32) (x2 : Vec F S1024x2048 .bf16) (x3 : Vec F S1536x2048 .bf16) :
    sout0_A_0 c i arg3 harg3 arg4 harg4 arg5 harg5 arg6 harg6 arg7 harg7 arg8 harg8 hc0 hc1 x0 x1 x2 x3 = k0_pay2 k0_pay1 x2 x3 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1536) hz, View.readCov_unit_zero (S := S1024x1536) _ hz]
  simp only [View.readAt_eq_ld, harg5.read_unread, harg6.read_unread, View.ld_unit_zero (S := S1024x2048) hz, View.ld_unit_zero (S := S1536x2048) hz]

/-- The last point of a run writes the accumulator, after its own product is added, scaled by the two tensor scales. -/
theorem out_C (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S1024x2048 .bf16) (harg5 : arg5.IsWhole) (arg6 : Memref sig .tc .vmem S1536x2048 .bf16) (harg6 : arg6.IsWhole) (arg7 : Memref sig .tc .vmem S1024x1536 .bf16) (harg7 : arg7.IsWhole) (arg8 : Memref sig .tc .vmem S1024x1536 .f32) (harg8 : arg8.IsWhole) (hc0 : ¬cond0_0 i) (hc1 : cond0_1 i)
    (x0 : Vec F S1x128 .f32) (x1 : Vec F S1x128 .f32) (x2 : Vec F S1024x2048 .bf16) (x3 : Vec F S1536x2048 .bf16) (xs0 : Vec F S1024x1536 .f32) :
    out0_C_4 c i arg3 harg3 arg4 harg4 arg5 harg5 arg6 harg6 arg7 harg7 arg8 harg8 hc0 hc1 x0 x1 x2 x3 xs0 = k0_pay3 x0 x1 (k0_pay2 xs0 x2 x3) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x1536) _ hz]
  simp only [View.readAt_eq_ld, harg3.read_unread, harg4.read_unread, harg8.read_unread, harg5.read_unread, harg6.read_unread, View.ld_unit_zero (S := S1x128) hz, View.ld_unit_zero (S := S1024x1536) hz, View.ld_unit_zero (S := S1024x2048) hz, View.ld_unit_zero (S := S1536x2048) hz]

end Cert.MatmulIdeal.Hand

end
-- ==== Proof.MatmulDots.lean ====
/- The two contractions of the matmul certificate read at an index: the kernel's block product is a sum over the
   2048 columns of the block, the reference's product a sum over all 12288 columns. -/
module

public import proofs.«01_k».proof.Proof.Gen.MatmulIdeal
public import proofs.«01_k».proof.Proof.Gen.MatmulRefIdeal
public import Idealize.ShloMosaic.Lib.ValueIdx

@[expose] public section

noncomputable section

open Idealize.ShloMosaic Idealize.ShloMosaic.ValueIdx
open scoped BigOperators

/-- The dimension numbers of `x wᵀ`: both operands contracted over their last axis. -/
abbrev Cert.ntDims (M N K : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- Such a product at an index: the accumulator plus the sum over the common axis. -/
theorem Cert.nt_dot {M N K : Nat} (wf : DotDims.WF ⟨2, ![M, K]⟩ ⟨2, ![N, K]⟩ ⟨2, ![M, N]⟩ [1] [1] [0] [0] [] [])
    (l : (⟨2, ![M, K]⟩ : Shape).Idx → EReal) (r : (⟨2, ![N, K]⟩ : Shape).Idx → EReal) (acc : (⟨2, ![M, N]⟩ : Shape).Idx → EReal) (a : Fin M) (b : Fin N) :
    Ideal.matmul (Cert.ntDims M N K wf) l r acc (ix2 a b) = acc (ix2 a b) + ∑ k : Fin K, l (ix2 a k) * r (ix2 b k) := by
  unfold Ideal.matmul
  congr 1
  rw [← Equiv.sum_comp (contrEquiv1 (Cert.ntDims M N K wf) K rfl rfl).symm]
  refine Finset.sum_congr rfl fun k _ => ?_
  congr 2
  · funext x; apply Fin.ext; match x with | ⟨0, _⟩ => rfl | ⟨1, _⟩ => rfl
  · funext x; apply Fin.ext; match x with | ⟨0, _⟩ => rfl | ⟨1, _⟩ => rfl

/-- The block product at an index. -/
theorem Cert.MatmulIdeal.Hand.block_dot [Cert.MatmulIdeal.Facts] (l : Cert.MatmulIdeal.S1024x2048.Idx → EReal) (r : Cert.MatmulIdeal.S1536x2048.Idx → EReal)
    (acc : Cert.MatmulIdeal.S1024x1536.Idx → EReal) (a : Fin 1024) (b : Fin 1536) :
    Ideal.matmul Cert.MatmulIdeal.dot_S1024x2048_S1536x2048_S1024x1536_1_1_0_0_n_n l r acc (ix2 a b)
      = acc (ix2 a b) + ∑ k : Fin 2048, l (ix2 a k) * r (ix2 b k) :=
  Cert.nt_dot Cert.MatmulIdeal.dot_S1024x2048_S1536x2048_S1024x1536_1_1_0_0_n_n.wf l r acc a b

/-- The whole product at an index. -/
theorem Cert.MatmulRefIdeal.Hand.whole_dot [Cert.MatmulRefIdeal.Facts] (l : Cert.MatmulRefIdeal.S6144x12288.Idx → EReal) (r : Cert.MatmulRefIdeal.S4608x12288.Idx → EReal)
    (acc : Cert.MatmulRefIdeal.S6144x4608.Idx → EReal) (a : Fin 6144) (b : Fin 4608) :
    Ideal.matmul Cert.MatmulRefIdeal.dot_S6144x12288_S4608x12288_S6144x4608_1_1_0_0_n_n l r acc (ix2 a b)
      = acc (ix2 a b) + ∑ k : Fin 12288, l (ix2 a k) * r (ix2 b k) :=
  Cert.nt_dot Cert.MatmulRefIdeal.dot_S6144x12288_S4608x12288_S6144x4608_1_1_0_0_n_n.wf l r acc a b

/-- A sum over 12288 columns in six runs of 2048. -/
theorem Cert.sum_runs (f : ℕ → EReal) :
    ∑ s ∈ Finset.range 6, ∑ k : Fin 2048, f (s * 2048 + k.val) = ∑ k : Fin 12288, f k.val := by
  rw [Finset.sum_range (fun s => ∑ k : Fin 2048, f (s * 2048 + k.val)), ← Fintype.sum_prod_type' (f := fun (s : Fin 6) (k : Fin 2048) => f (s.val * 2048 + k.val)),
    ← Equiv.sum_comp (finProdFinEquiv (m := 6) (n := 2048))]
  refine Finset.sum_congr rfl fun p _ => ?_
  congr 1
  show p.1.val * 2048 + p.2.val = p.2.val + 2048 * p.1.val
  omega

end
-- ==== Proof.MatmulValue.lean ====
/- The matmul kernel's result over the extended reals: the six partial products of a reduction run add up to the
   whole product, and the last point scales it by the two tensor scales. -/
module

public import proofs.«01_k».proof.Proof.MatmulCases
public import proofs.«01_k».proof.Proof.MatmulDots
public import proofs.«01_k».proof.Proof.Gen.MatmulRefIdeal.Run

@[expose] public section

noncomputable section

namespace Cert.MatmulIdeal.Hand

open Cert.MatmulIdeal Cert.MatmulIdeal.Gen Cert.MatmulIdeal.Value
open Idealize.ShloMosaic Idealize.ShloMosaic.TcCoe Idealize.SL.Sem Idealize.ShloMosaic.ValueIdx
open scoped BigOperators

variable (m : (ℓ : Loc nD τ sig) → Buf (Elt Ideal) ℓ)

/-- The kernel's two operands and its two amax arrays, as functions of an index. -/
abbrev X (c : Dev nD) : S6144x12288.Idx → EReal := m ((c : Thread nD τ).loc main_arg0)
abbrev W (c : Dev nD) : S4608x12288.Idx → EReal := m ((c : Thread nD τ).loc main_arg1)
abbrev AW (c : Dev nD) : S1x128.Idx → EReal := m ((c : Thread nD τ).loc main_arg2)
abbrev AX (c : Dev nD) : S1x128.Idx → EReal := m ((c : Thread nD τ).loc main_arg3)

/-- The same operands at natural coordinates, zero outside the arrays. -/
def xat (c : Dev nD) (i k : ℕ) : EReal := if h : i < 6144 ∧ k < 12288 then X m c (ix2 ⟨i, h.1⟩ ⟨k, h.2⟩) else 0
def wat (c : Dev nD) (i k : ℕ) : EReal := if h : i < 4608 ∧ k < 12288 then W m c (ix2 ⟨i, h.1⟩ ⟨k, h.2⟩) else 0

/-- The printed index maps of the two operands, over the grid. -/
theorem idx2 : ∀ t : Fin cfg0.N, win0_2.index t (0 : Fin 2) = t.val / 18 ∧ win0_2.index t (1 : Fin 2) = t.val % 6 :=
  (by decide +kernel : ∀ t : Fin grid0.N, _)
theorem idx3 : ∀ t : Fin cfg0.N, win0_3.index t (0 : Fin 2) = t.val / 6 % 3 ∧ win0_3.index t (1 : Fin 2) = t.val % 6 :=
  (by decide +kernel : ∀ t : Fin grid0.N, _)

/-- The block of the first operand at a point. -/
theorem blk2 (c : Dev nD) (t : Fin cfg0.N) (a : Fin 1024) (k : Fin 2048) :
    (iblk m c 2 t : Vec Ideal S1024x2048 .bf16) (ix2 a k) = xat m c (t.val / 18 * 1024 + a.val) (t.val % 6 * 2048 + k.val) := by
  have hN : t.val < 108 := lt_of_lt_of_eq t.isLt (show cfg0.N = 108 from N_0)
  have h := idx2 t
  have ha := a.isLt
  have hk := k.isLt
  unfold xat
  rw [dif_pos ⟨by omega, by omega⟩]
  unfold iblk
  rw [View.read_apply]
  show V m c main_arg0 _ = m _ _
  unfold V
  congr 1
  funext x; apply Fin.ext
  match x with
  | ⟨0, _⟩ => show win0_2.index t 0 * 1024 + 1 * a.val = t.val / 18 * 1024 + a.val; rw [h.1]; omega
  | ⟨1, _⟩ => show win0_2.index t 1 * 2048 + 1 * k.val = t.val % 6 * 2048 + k.val; rw [h.2]; omega

/-- The block of the second operand at a point. -/
theorem blk3 (c : Dev nD) (t : Fin cfg0.N) (a : Fin 1536) (k : Fin 2048) :
    (iblk m c 3 t : Vec Ideal S1536x2048 .bf16) (ix2 a k) = wat m c (t.val / 6 % 3 * 1536 + a.val) (t.val % 6 * 2048 + k.val) := by
  have hN : t.val < 108 := lt_of_lt_of_eq t.isLt (show cfg0.N = 108 from N_0)
  have h := idx3 t
  have ha := a.isLt
  have hk := k.isLt
  unfold wat
  rw [dif_pos ⟨by omega, by omega⟩]
  unfold iblk
  rw [View.read_apply]
  show V m c main_arg1 _ = m _ _
  unfold V
  congr 1
  funext x; apply Fin.ext
  match x with
  | ⟨0, _⟩ => show win0_3.index t 0 * 1536 + 1 * a.val = t.val / 6 % 3 * 1536 + a.val; rw [h.1]; omega
  | ⟨1, _⟩ => show win0_3.index t 1 * 2048 + 1 * k.val = t.val % 6 * 2048 + k.val; rw [h.2]; omega

/-- The two amax arrays are read whole at every point. -/
theorem blk0 (c : Dev nD) (t : Fin cfg0.N) : (iblk m c 0 t : Vec Ideal S1x128 .f32) = AW m c := by
  funext j
  unfold iblk
  rw [View.read_apply]
  show V m c main_arg2 _ = m _ _
  unfold V
  congr 1
  funext x; apply Fin.ext
  match x with
  | ⟨0, _⟩ => show 0 * 1 + 1 * (j 0).val = (j 0).val; omega
  | ⟨1, _⟩ => show 0 * 128 + 1 * (j 1).val = (j 1).val; omega
theorem blk1 (c : Dev nD) (t : Fin cfg0.N) : (iblk m c 1 t : Vec Ideal S1x128 .f32) = AX m c := by
  funext j
  unfold iblk
  rw [View.read_apply]
  show V m c main_arg3 _ = m _ _
  unfold V
  congr 1
  funext x; apply Fin.ext
  match x with
  | ⟨0, _⟩ => show 0 * 1 + 1 * (j 0).val = (j 0).val; omega
  | ⟨1, _⟩ => show 0 * 128 + 1 * (j 1).val = (j 1).val; omega

theorem zero_bits : Ideal.ofBits .f32 0x00000000#32 = 0 := by simp [Ideal.ofBits, Ideal.ieee]

/-- One step of the accumulation at an index. -/
theorem pay2_apply (acc : Vec Ideal S1024x1536 .f32) (x : Vec Ideal S1024x2048 .bf16) (w : Vec Ideal S1536x2048 .bf16) (a : Fin 1024) (b : Fin 1536) :
    k0_pay2 acc x w (ix2 a b) = acc (ix2 a b) + ∑ k : Fin 2048, x (ix2 a k) * w (ix2 b k) := by
  unfold k0_pay2
  rw [shapeCast_self]
  show acc (ix2 a b) + Ideal.matmul dot_S1024x2048_S1536x2048_S1024x1536_1_1_0_0_n_n x w (constant (F := Ideal) S1024x1536 .f32 0x00000000#32) (ix2 a b) = _
  rw [block_dot, constant_apply, zero_bits, zero_add]

/-- What a point adds at an index of the accumulator. -/
def addend (c : Dev nD) (n : ℕ) (j : S1024x1536.Idx) : EReal :=
  ∑ k : Fin 2048, xat m c (n / 18 * 1024 + (j 0).val) (n % 6 * 2048 + k.val) * wat m c (n / 6 % 3 * 1536 + (j 1).val) (n % 6 * 2048 + k.val)

theorem pay2_blk (c : Dev nD) (t : Fin cfg0.N) (acc : Vec Ideal S1024x1536 .f32) (j : S1024x1536.Idx) :
    k0_pay2 acc (iblk m c 2 t) (iblk m c 3 t) j = acc j + addend m c t.val j := by
  obtain ⟨a, b, rfl⟩ : ∃ a b, j = ix2 a b := ⟨_, _, eq_ix2 j⟩
  rw [pay2_apply]
  congr 1
  exact Finset.sum_congr rfl fun k _ => by rw [blk2, blk3]

/-- The accumulator after the last point of a run. -/
theorem acc_run (c : Dev nD) (q : ℕ) (h : 6 * q + 5 < cfg0.N) (j : S1024x1536.Idx) :
    (outsAt0 m c (6 * q + 5) h).2 j = ∑ s ∈ Finset.range 6, addend m c (6 * q + s) j := by
  have e := soutsAt0_0_eq m c ⟨6 * q + 5, h⟩
  have hd : (6 * q + 5) / 6 = q := by omega
  have hm : (6 * q + 5) % 6 = 5 := by omega
  simp only [hd, hm] at e
  rw [e]
  refine (Pipeline.accAt_add_apply _ _ (fun _ => 0) (addend m c) (6 * q) 5 ?_ ?_ 5 le_rfl _ j).trans (zero_add _)
  · intro hb i
    have h0 : (6 * q) % 6 = 0 := by omega
    have h1 : ¬(6 * q) % 6 = 5 := by omega
    unfold scAt0_0
    rw [dif_pos h0, dif_neg h1, sout_A, pay2_blk]
    congr 1
    unfold k0_pay1
    rw [shapeCast_self]
    exact zero_bits
  · intro n hb acc i h1 h2
    have h0 : ¬n % 6 = 0 := by omega
    unfold scAt0_0
    rw [dif_neg h0]
    by_cases h3 : n % 6 = 5
    · rw [dif_pos h3, sout_C, pay2_blk]
    · rw [dif_neg h3, sout_B, pay2_blk]

/-- The six addends of a run make the whole product at the run's place in the result. -/
theorem run_sum (c : Dev nD) (i : S6144x4608.Idx) :
    ∑ s ∈ Finset.range 6, addend m c (6 * run4Of i + s) (loc4Of i) = ∑ k : Fin 12288, X m c (ix2 (i 0) k) * W m c (ix2 (i 1) k) := by
  have h0 : (i 0).val < 6144 := (i 0).isLt
  have h1 : (i 1).val < 4608 := (i 1).isLt
  have e : ∀ k : Fin 12288, X m c (ix2 (i 0) k) * W m c (ix2 (i 1) k) = xat m c (i 0).val k.val * wat m c (i 1).val k.val := fun k => by
    unfold xat wat; rw [dif_pos ⟨h0, k.isLt⟩, dif_pos ⟨h1, k.isLt⟩]; rfl
  rw [Finset.sum_congr rfl (fun k _ => e k), ← Cert.sum_runs (fun k => xat m c (i 0).val k * wat m c (i 1).val k)]
  refine Finset.sum_congr rfl fun s hs => ?_
  have hs : s < 6 := Finset.mem_range.mp hs
  unfold addend
  refine Finset.sum_congr rfl fun k _ => ?_
  have e0 : (6 * run4Of i + s) / 18 * 1024 + (loc4Of i 0).val = (i 0).val := by
    show (6 * run4Of i + s) / 18 * 1024 + (i 0).val % 1024 = (i 0).val
    show (6 * (3 * ((i 0).val / 1024 - 0) + 1 * ((i 1).val / 1536 - 0)) + s) / 18 * 1024 + (i 0).val % 1024 = (i 0).val
    omega
  have e1 : (6 * run4Of i + s) / 6 % 3 * 1536 + (loc4Of i 1).val = (i 1).val := by
    show (6 * (3 * ((i 0).val / 1024 - 0) + 1 * ((i 1).val / 1536 - 0)) + s) / 6 % 3 * 1536 + (i 1).val % 1536 = (i 1).val
    omega
  have e2 : (6 * run4Of i + s) % 6 = s := by omega
  rw [e0, e1, e2]

/-- The one element of a slice of size one. -/
theorem slice_apply (v : S1x128.Idx → EReal) (h : S1x128.Slices ![0, 0] S1x1) (y : S1x1.Idx) :
    extractStridedSlice S1x1 ![0, 0] v h y = v (ix2 0 0) := by
  unfold extractStridedSlice
  congr 1
  funext x; apply Fin.ext
  have h0 : (y 0).val < 1 := (y 0).isLt
  have h1 : (y 1).val < 1 := (y 1).isLt
  match x with
  | ⟨0, _⟩ => show 0 + (y 0).val = 0; omega
  | ⟨1, _⟩ => show 0 + (y 1).val = 0; omega

/-- The epilogue at an index. -/
theorem pay3_apply (aw ax : Vec Ideal S1x128 .f32) (acc : Vec Ideal S1024x1536 .f32) (j : S1024x1536.Idx) :
    k0_pay3 aw ax acc j = acc j * (Ideal.div (aw (ix2 0 0)) (Ideal.ofBits .f32 0x45280000#32) * Ideal.div (ax (ix2 0 0)) (Ideal.ofBits .f32 0x45280000#32)) := by
  unfold k0_pay3
  rw [truncf_apply, mulf_apply]
  unfold broadcastTo
  rw [slice_apply]
  rfl

/-- The kernel's result at an index. -/
theorem G4_apply (c : Dev nD) (i : S6144x4608.Idx) :
    G4 m c i = (∑ k : Fin 12288, X m c (ix2 (i 0) k) * W m c (ix2 (i 1) k))
      * (Ideal.div (AW m c (ix2 0 0)) (Ideal.ofBits .f32 0x45280000#32) * Ideal.div (AX m c (ix2 0 0)) (Ideal.ofBits .f32 0x45280000#32)) := by
  have h0 : (i 0).val < 6144 := (i 0).isLt
  have h1 : (i 1).val < 4608 := (i 1).isLt
  have hp : pt4Of i < cfg0.N := by
    rw [show cfg0.N = 108 from N_0]
    show 6 * (3 * ((i 0).val / 1024 - 0) + 1 * ((i 1).val / 1536 - 0)) + 5 < 108
    omega
  unfold G4
  rw [dif_pos hp, ← outsAt0_sweep m c (pt4Of i) hp]
  have hm0 : ¬(⟨pt4Of i, hp⟩ : Fin cfg0.N).val % 6 = 0 := by show ¬(6 * run4Of i + 5) % 6 = 0; omega
  have hm1 : (⟨pt4Of i, hp⟩ : Fin cfg0.N).val % 6 = 5 := by show (6 * run4Of i + 5) % 6 = 5; omega
  have eC := outsAt0_C m c ⟨pt4Of i, hp⟩ hm0 hm1
  have e2 := congrArg Prod.snd eC
  have e1 := congrArg Prod.fst eC
  dsimp only at e1 e2
  rw [sout_C] at e2
  rw [out_C, ← e2, blk0, blk1] at e1
  rw [e1, pay3_apply, acc_run m c (run4Of i) hp, run_sum]

end Cert.MatmulIdeal.Hand

namespace Cert.MatmulRefIdeal.Hand

open Cert.MatmulRefIdeal Cert.MatmulRefIdeal.Gen Idealize.ShloMosaic Idealize.ShloMosaic.ValueIdx

/-- The reference's term at an index: the same product, scaled the same way. -/
theorem term_apply (x : FVec Ideal S6144x12288 .bf16) (w : FVec Ideal S4608x12288 .bf16) (aw ax : FVec Ideal S1x128 .f32) (a : Fin 6144) (b : Fin 4608) :
    (truncf .bf16 (mulf (Host.dotGeneral dot_S6144x12288_S4608x12288_S6144x4608_1_1_0_0_n_n none x w) (broadcastInDim S6144x4608 ![] bcast_S_S6144x4608 (mulf (Host.divf (shapeCast S_ (extractStridedSlice S1x1 ![0, 0] aw slices_S1x128_S1x1_0_0) shapeCasts_S1x1_S_) (constant S_ .f32 0x45280000#32)) (Host.divf (shapeCast S_ (extractStridedSlice S1x1 ![0, 0] ax slices_S1x128_S1x1_0_0) shapeCasts_S1x1_S_) (constant S_ .f32 0x45280000#32))))) bitsLt_bf16_f32 : FVec Ideal S6144x4608 .bf16) (ix2 a b)
      = (∑ k : Fin 12288, x (ix2 a k) * w (ix2 b k))
        * (Ideal.div (aw (ix2 0 0)) (Ideal.ofBits .f32 0x45280000#32) * Ideal.div (ax (ix2 0 0)) (Ideal.ofBits .f32 0x45280000#32)) := by
  rw [truncf_apply, mulf_apply]
  have e : ∀ (v : FVec Ideal S1x128 .f32) (y : S_.Idx), shapeCast S_ (extractStridedSlice S1x1 ![0, 0] v slices_S1x128_S1x1_0_0) shapeCasts_S1x1_S_ y = v (ix2 0 0) :=
    fun v y => Cert.MatmulIdeal.Hand.slice_apply v _ _
  refine congrArg₂ (· * ·) ?_ ?_
  · refine (whole_dot x w (fun _ => 0) a b).trans (zero_add _)
  · unfold broadcastInDim
    rw [mulf_apply]
    show Ideal.div (shapeCast S_ (extractStridedSlice S1x1 ![0, 0] aw slices_S1x128_S1x1_0_0) shapeCasts_S1x1_S_ _) _ * Ideal.div (shapeCast S_ (extractStridedSlice S1x1 ![0, 0] ax slices_S1x128_S1x1_0_0) shapeCasts_S1x1_S_ _) _ = _
    rw [e, e]
    rfl

end Cert.MatmulRefIdeal.Hand

end
-- ==== Proof.MaxBounds.lean ====
/- Maxima over the extended reals, characterised by their upper bounds: a chain of maxima, a reduction of a vector, a
   reduction of a host array. -/
module

public import Idealize.ShloMosaic.Lib.ValueIdx
public import Idealize.ShloMosaic.PureOps.Ideal
public import Idealize.ShloMosaic.PureOps.Reduce

@[expose] public section

noncomputable section

namespace Cert.MaxBounds

open Idealize.ShloMosaic Idealize.ShloMosaic.ValueIdx

/-- `acc`, then the maximum with `f 0`, `f 1`, …, `f (n - 1)` in turn. -/
def chain (acc : EReal) (f : ℕ → EReal) : ℕ → EReal
  | 0 => acc
  | n + 1 => max (chain acc f n) (f n)

theorem chain_le_iff (acc : EReal) (f : ℕ → EReal) (u : EReal) (n : ℕ) :
    chain acc f n ≤ u ↔ acc ≤ u ∧ ∀ j < n, f j ≤ u := by
  induction n with
  | zero => simp [chain]
  | succ n ih =>
    simp only [chain, max_le_iff, ih]
    constructor
    · rintro ⟨⟨h1, h2⟩, h3⟩
      refine ⟨h1, fun j hj => ?_⟩
      rcases Nat.lt_succ_iff_lt_or_eq.mp hj with h | h
      · exact h2 j h
      · exact h ▸ h3
    · rintro ⟨h1, h2⟩
      exact ⟨⟨h1, fun j hj => h2 j (Nat.lt_succ_of_lt hj)⟩, h2 n (Nat.lt_succ_self n)⟩

/-- An absolute value is not negative. -/
theorem zero_le_abs (x : EReal) : 0 ≤ max x (-x) := by
  rcases le_total 0 x with h | h
  · exact le_max_of_le_left h
  · exact le_max_of_le_right (EReal.neg_nonneg.mpr h)

/-- The word of minus infinity is the least extended real. -/
theorem neg_inf_bits : Ideal.ofBits .f32 0xFF800000#32 = ⊥ := by simp [Ideal.ofBits, Ideal.ieee]

/-- A maximum reduction is bounded when every element it runs over is. -/
theorem reduceFold_le_iff {s t : Shape} {axes : List (Fin s.rank)} (h : s.Reduces axes t) (x : s.Idx → EReal) (j : t.Idx) (u : EReal) :
    reduceFold h (max : EReal → EReal → EReal) ⊥ x j ≤ u ↔ ∀ i, h.drop i = j → x i ≤ u := by
  rw [reduceFold_eq_fold, Finset.fold_max_le]
  simp

/-- The same for the host's reduction. -/
theorem hostReduce_le_iff {s t v : Shape} {axes : List (Fin s.rank)} (x : s.Idx → EReal) (init : v.Idx → EReal) (h : s.ReducesTo axes t)
    (hv : 0 < v.numel) (hi : ∀ k, init k = ⊥) (j : t.Idx) (u : EReal) :
    Host.reduce (max : EReal → EReal → EReal) x init h hv j ≤ u ↔ ∀ i, h.drop i = j → x i ≤ u := by
  rw [Host.reduce_eq_fold, Finset.fold_max_le, hi]
  simp

/-- The same for the kernel's reduction, from −∞. -/
theorem multiReduction_le_iff {s t : Shape} {axes : List (Fin s.rank)} (x : FVec Ideal s .f32) (h : s.Reduces axes t) (hφ : FKind.Formats .f32)
    (hacc : 0xFF800000#32 = FKind.maximumf.neutral .f32 hφ) (j : t.Idx) (u : EReal) :
    multiReduction (F := Ideal) .maximumf axes t x 0xFF800000#32 h hφ hacc j ≤ u ↔ ∀ i, h.drop i = j → x i ≤ u := by
  rw [multiReduction_maximumf_eq_reduceFold]
  show reduceFold h (max : EReal → EReal → EReal) (Ideal.ofBits .f32 0xFF800000#32) x j ≤ u ↔ _
  rw [neg_inf_bits]
  exact reduceFold_le_iff h x j u

/-- A reshape has the elements it was made of. -/
theorem forall_shapeCast {s t : Shape} (x : s.Idx → EReal) (h : s.ShapeCasts t) (u : EReal) :
    (∀ j, shapeCast t x h j ≤ u) ↔ ∀ i, x i ≤ u := by
  constructor
  · intro H i
    have := H ((Shape.reshapeEquiv h).symm i)
    unfold shapeCast at this
    rwa [Equiv.apply_symm_apply] at this
  · intro H j
    exact H _

end Cert.MaxBounds

end
-- ==== Proof.XAmaxCases.lean ====
/- The value of each grid point of the `amax` kernel, read off the body's run: every point takes, at each of the
   8 x 12288 places of the accumulator, the maximum of what the accumulator held and the absolute values of the 32 rows of
   its block eight apart; the first point starts from zero and the last one also reduces the accumulator. -/
module

public import proofs.«01_k».proof.Proof.Gen.XAmaxIdeal.Value
public import proofs.«01_k».proof.Proof.MaxBounds
public import Idealize.ShloMosaic.Lib.ValueIdx
public import Idealize.ShloMosaic.Lib.Tactic
public import Idealize.ShloMosaic.Lib.Pipeline.ValueKit.Tiles
public import Idealize.ShloMosaic.Lib.Pipeline.ReadBack

@[expose] public section

set_option maxRecDepth 16384

noncomputable section

namespace Cert.XAmaxIdeal.Hand

open Cert.XAmaxIdeal Cert.XAmaxIdeal.Gen Cert.XAmaxIdeal.Value Cert.MaxBounds
open Idealize.ShloMosaic Idealize.ShloMosaic.TcCoe Idealize.ShloMosaic.Tactic Idealize.SL.Sem Idealize.ShloMosaic.ValueIdx

theorem hz : (![0, 0] : Fin 2 → Nat) = fun _ => 0 := funext fun a => by fin_cases a <;> rfl

/-- The absolute value of a block's element at natural coordinates, zero outside the block. -/
def bat (x0 : Vec Ideal S256x12288 .bf16) (a b : ℕ) : EReal :=
  if h : a < 256 ∧ b < 12288 then max (x0 (ix2 ⟨a, h.1⟩ ⟨b, h.2⟩)) (-x0 (ix2 ⟨a, h.1⟩ ⟨b, h.2⟩)) else 0

/-- What a point leaves at a place of the accumulator that held `acc`. -/
def upd (x0 : Vec Ideal S256x12288 .bf16) (acc : EReal) (y : S8x12288.Idx) : EReal :=
  chain acc (fun j => bat x0 (8 * j + (y 0).val) (y 1).val) 32

/-- The absolute value of one loaded row group at an index. -/
theorem abs_ld (x0 : Vec Ideal S256x12288 .bf16) (p q : ℕ) (inb) (x : S8x2048.Idx) :
    FloatOps.absf (F := Ideal) (φ := .bf16) (View.ld (Val := Elt Ideal) (e' := .bf16) x0 (Rect.unit (s := S256x12288) ![p, q] ![8, 2048] inb) x)
      = bat x0 (p + (x 0).val) (q + (x 1).val) := by
  have h0 : p + 8 ≤ 256 := inb 0
  have h1 : q + 2048 ≤ 12288 := inb 1
  have hx0 : (x 0).val < 8 := (x 0).isLt
  have hx1 : (x 1).val < 2048 := (x 1).isLt
  unfold bat
  rw [dif_pos ⟨by omega, by omega⟩]
  rw [View.ld_unit_apply_of x0 ![p, q] ![8, 2048] inb x (ix2 ⟨p + (x 0).val, by omega⟩ ⟨q + (x 1).val, by omega⟩)
    (fun a => by match a with | ⟨0, _⟩ => rfl | ⟨1, _⟩ => rfl)]
  rfl

theorem absf_at {s : Shape} {φ : FTy} (a : FVec Ideal s φ) (i : s.Idx) : absf a i = FloatOps.absf (a i) := rfl

/-- A place of the accumulator read back through one of the six column blocks. -/
theorem acc_ld (xs0 : Vec Ideal S8x12288 .bf16) (q : ℕ) (inb) (x : S8x2048.Idx) (y : S8x12288.Idx)
    (hx : ∀ a, (y a : ℕ) = (![0, q] : Fin 2 → ℕ) a + x a) :
    View.ld (Val := Elt Ideal) (e' := .bf16) xs0 (Rect.unit (s := S8x12288) ![0, q] ![8, 2048] inb) x = xs0 y :=
  View.ld_unit_apply_of xs0 ![0, q] ![8, 2048] inb x y hx

/-- A later point updates every place. -/
theorem sout_B (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : ¬cond0_0 i) (hc1 : ¬cond0_1 i)
    (x0 : Vec Ideal S256x12288 .bf16) (xs0 : Vec Ideal S8x12288 .bf16) :
    sout0_B_0 c i arg1 harg1 arg2 harg2 arg3 harg3 hc0 hc1 x0 xs0 = fun y => upd x0 (xs0 y) y := by
  have hcov := scover0_B_0 c i arg1 harg1 arg2 harg2 arg3 harg3 hc0 hc1 x0 xs0
  unfold sout0_B_0
  rw [View.read_writes_eq_canon _ _ _ hcov]
  funext y
  refine View.canon_eq_of_allAt _ y _ (hcov y) ?_
  clear hcov
  unfold kernelRun0_B
  dsimp only
  sl_unfold_words
  simp only [View.readAt_eq_ld, harg1.read_unread, harg3.read_unread]
  repeat' (first | exact View.allAt_nil _ _ | refine View.allAt_cons_unit _ _ _ _ _ ?_ ?_)
  all_goals
    intro x hx
    simp only [k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26,
      shapeCast_self, maximumf_apply, absf_at]
    have h0 : (y 0 : ℕ) = 0 + (x 0).val := hx 0
    have h1 : (y 1 : ℕ) = _ + (x 1).val := hx 1
    rw [Nat.zero_add] at h0
    unfold upd
    rw [h0, h1]
    iterate 32 refine congrArg₂ max ?_ (abs_ld x0 _ _ _ x)
    exact acc_ld xs0 _ _ x y hx

/-- The last point updates every place too. -/
theorem sout_C (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : ¬cond0_0 i) (hc1 : cond0_1 i)
    (x0 : Vec Ideal S256x12288 .bf16) (xs0 : Vec Ideal S8x12288 .bf16) :
    sout0_C_0 c i arg1 harg1 arg2 harg2 arg3 harg3 hc0 hc1 x0 xs0 = fun y => upd x0 (xs0 y) y := by
  have hcov := scover0_C_0 c i arg1 harg1 arg2 harg2 arg3 harg3 hc0 hc1 x0 xs0
  unfold sout0_C_0
  rw [View.read_writes_eq_canon _ _ _ hcov]
  funext y
  refine View.canon_eq_of_allAt _ y _ (hcov y) ?_
  clear hcov
  unfold kernelRun0_C
  dsimp only
  sl_unfold_words
  simp only [View.readAt_eq_ld, harg1.read_unread, harg3.read_unread]
  repeat' (first | exact View.allAt_nil _ _ | refine View.allAt_cons_unit _ _ _ _ _ ?_ ?_)
  all_goals
    intro x hx
    simp only [k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26,
      shapeCast_self, maximumf_apply, absf_at]
    have h0 : (y 0 : ℕ) = 0 + (x 0).val := hx 0
    have h1 : (y 1 : ℕ) = _ + (x 1).val := hx 1
    rw [Nat.zero_add] at h0
    unfold upd
    rw [h0, h1]
    iterate 32 refine congrArg₂ max ?_ (abs_ld x0 _ _ _ x)
    exact acc_ld xs0 _ _ x y hx

/-- … and writes the reduction of the accumulator it leaves. -/
theorem out_C (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : ¬cond0_0 i) (hc1 : cond0_1 i)
    (x0 : Vec Ideal S256x12288 .bf16) (xs0 : Vec Ideal S8x12288 .bf16) :
    out0_C_1 c i arg1 harg1 arg2 harg2 arg3 harg3 hc0 hc1 x0 xs0 = k0_pay1 (F := Ideal) (fun y => upd x0 (xs0 y) y) := by
  rw [← sout_C c i arg1 harg1 arg2 harg2 arg3 harg3 hc0 hc1 x0 xs0]
  have hcov := scover0_C_0 c i arg1 harg1 arg2 harg2 arg3 harg3 hc0 hc1 x0 xs0
  unfold out0_C_1 sout0_C_0
  rw [View.read_writes_eq_canon _ _ _ (cover0_C_1 c i arg1 harg1 arg2 harg2 arg3 harg3 hc0 hc1 x0 xs0), View.read_writes_eq_canon _ _ _ hcov]
  clear hcov
  unfold kernelRun0_C
  dsimp only
  sl_unfold_words
  rw [View.canon_unit_zero hz]
  refine congrArg k0_pay1 ?_
  rw [View.readCov_eq_canon']
  exact View.ld_unit_zero (S := S8x12288) hz _ _

/-- Zero, in the accumulator's format. -/
theorem zero_bf16 : Ideal.ofBits .bf16 0x0000#16 = 0 := by simp [Ideal.ofBits, Ideal.ieee]

/-- A column block read back after stores to other column blocks and a fill of the whole accumulator with zero. -/
theorem zero_ld (q : ℕ) (inb) (x : S8x2048.Idx) :
    View.ld (Val := Elt Ideal) (e' := .bf16) (k0_pay2 (F := Ideal)) (Rect.unit (s := S8x12288) ![0, q] ![8, 2048] inb) x = (0 : EReal) := by
  rw [View.ld_apply]
  unfold k0_pay2
  rw [shapeCast_self]
  exact zero_bf16

end Cert.XAmaxIdeal.Hand

end
-- ==== Proof.XAmaxStart.lean ====
/- The first grid point of the `amax` kernel: it fills the accumulator with zero and then does what every point does. -/
module

public import proofs.«01_k».proof.Proof.XAmaxCases
public import Idealize.ShloMosaic.Lib.ValueIdx
public import Idealize.ShloMosaic.Lib.Tactic
public import Idealize.ShloMosaic.Lib.Pipeline.ValueKit.Tiles
public import Idealize.ShloMosaic.Lib.Pipeline.ReadBack

@[expose] public section

set_option maxRecDepth 16384

noncomputable section

namespace Cert.XAmaxIdeal.Hand

open Cert.XAmaxIdeal Cert.XAmaxIdeal.Gen Cert.XAmaxIdeal.Value Cert.MaxBounds
open Idealize.ShloMosaic Idealize.ShloMosaic.TcCoe Idealize.ShloMosaic.Tactic Idealize.SL.Sem Idealize.ShloMosaic.ValueIdx

/-- A store through a unit-stride box, read back at a place: its payload inside the box, what was there before outside. -/
theorem canon_cons_unit_of {Val : EltTy → Type} [∀ e, Nonempty (Val e)] {S : Shape} {e : EltTy} {y : S.Idx} {v : Val e} (off size : Fin S.rank → Nat)
    (inb : ∀ a, off a + size a ≤ S.size a) (w : (Rect.unit off size inb).shape.Idx → Val e) (L : List (View.Piece Val S e))
    (h1 : View.TileAt y off size w v) (h2 : (¬∀ a, off a ≤ (y a).val ∧ (y a).val < off a + size a) → View.canon L y = v) :
    View.canon ((⟨Rect.unit off size inb, w⟩ : View.Piece Val S e) :: L) y = v := by
  by_cases hm : y ∈ (Rect.unit off size inb).set
  · obtain ⟨x, rfl⟩ := (Rect.unit off size inb).exists_idx_of_mem hm
    rw [show (Rect.unit off size inb).idx x = (Rect.unit off size inb).emb x from rfl, View.canon_cons_emb]
    exact h1 x fun a => Rect.idx_unit_val off size inb x a
  · rw [View.canon_cons_of_not_mem _ _ hm]
    exact h2 fun h => hm (Rect.mem_set_unit.mpr h)

/-- The first point starts from zero. -/
theorem sout_A (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : cond0_0 i) (hc1 : ¬cond0_1 i)
    (x0 : Vec Ideal S256x12288 .bf16) :
    sout0_A_0 c i arg1 harg1 arg2 harg2 arg3 harg3 hc0 hc1 x0 = fun y => upd x0 0 y := by
  have hcov := scover0_A_0 c i arg1 harg1 arg2 harg2 arg3 harg3 hc0 hc1 x0
  unfold sout0_A_0
  rw [View.read_writes_eq_canon _ _ _ hcov]
  funext y
  clear hcov
  unfold kernelRun0_A
  dsimp only
  sl_unfold_words
  simp (disch := decide) only [↓View.readCov_skip, ↓View.readCov_fill, View.readAt_eq_ld, harg1.read_unread]
  iterate 6
    refine canon_cons_unit_of _ _ _ _ _ ?_ fun hn => ?_
    · intro x hx
      simp only [k0_pay3, k0_pay4, k0_pay5, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, k0_pay25, k0_pay26,
        shapeCast_self, maximumf_apply, absf_at]
      have h0 : (y 0 : ℕ) = 0 + (x 0).val := hx 0
      have h1 : (y 1 : ℕ) = _ + (x 1).val := hx 1
      rw [Nat.zero_add] at h0
      unfold upd
      rw [h0, h1]
      iterate 32 refine congrArg₂ max ?_ (abs_ld x0 _ _ _ x)
      exact zero_ld _ _ x
  exfalso
  have hy0 : (y 0).val < 8 := (y 0).isLt
  have hy1 : (y 1).val < 12288 := (y 1).isLt
  rename_i n5 n4 n3 n2 n1
  have key : ∀ q : ℕ, (¬∀ a : Fin 2, (![0, q] : Fin 2 → ℕ) a ≤ (y a).val ∧ (y a).val < (![0, q] : Fin 2 → ℕ) a + (![8, 2048] : Fin 2 → ℕ) a) →
      ¬(q ≤ (y 1).val ∧ (y 1).val < q + 2048) := fun q hq h => hq fun a => by
    match a with
    | ⟨0, _⟩ => exact ⟨Nat.zero_le _, by simpa using hy0⟩
    | ⟨1, _⟩ => exact h
  have m0 := key 0 hn
  have m1 := key _ n1
  have m2 := key _ n2
  have m3 := key _ n3
  have m4 := key _ n4
  have m5 := key _ n5
  omega

end Cert.XAmaxIdeal.Hand

end
-- ==== Proof.XAmaxValue.lean ====
/- The result of the `amax` kernel over the extended reals: a bound of the accumulator's reduction is a bound of every
   absolute value in the array, which is what a bound of the reference's one reduction is. -/
module

public import proofs.«01_k».proof.Proof.XAmaxStart
public import proofs.«01_k».proof.Proof.Gen.XAmaxRefIdeal.Run

@[expose] public section

noncomputable section

namespace Cert.XAmaxIdeal.Hand

open Cert.XAmaxIdeal Cert.XAmaxIdeal.Gen Cert.XAmaxIdeal.Value Cert.MaxBounds
open Idealize.ShloMosaic Idealize.ShloMosaic.TcCoe Idealize.SL.Sem Idealize.ShloMosaic.ValueIdx

variable (m : (ℓ : Loc nD τ sig) → Buf (Elt Ideal) ℓ)

/-- The array, as a function of an index. -/
abbrev X (c : Dev nD) : S6144x12288.Idx → EReal := m ((c : Thread nD τ).loc main_arg0)

/-- The absolute value of the array's element at natural coordinates, zero outside the array. -/
def xabs (c : Dev nD) (i k : ℕ) : EReal :=
  if h : i < 6144 ∧ k < 12288 then max (X m c (ix2 ⟨i, h.1⟩ ⟨k, h.2⟩)) (-X m c (ix2 ⟨i, h.1⟩ ⟨k, h.2⟩)) else 0

/-- The printed index map of the array, over the grid. -/
theorem idx0 : ∀ t : Fin cfg0.N, win0_0.index t (0 : Fin 2) = t.val ∧ win0_0.index t (1 : Fin 2) = 0 :=
  (by decide +kernel : ∀ t : Fin grid0.N, _)

/-- The block of the array at a point. -/
theorem blk0 (c : Dev nD) (t : Fin cfg0.N) (a b : ℕ) (ha : a < 256) (hb : b < 12288) :
    bat (iblk m c 0 t : Vec Ideal S256x12288 .bf16) a b = xabs m c (256 * t.val + a) b := by
  have hN : t.val < 24 := lt_of_lt_of_eq t.isLt (show cfg0.N = 24 from N_0)
  have h := idx0 t
  have e : (iblk m c 0 t : Vec Ideal S256x12288 .bf16) (ix2 ⟨a, ha⟩ ⟨b, hb⟩) = X m c (ix2 ⟨256 * t.val + a, by omega⟩ ⟨b, hb⟩) := by
    unfold iblk
    rw [View.read_apply]
    show V m c main_arg0 _ = m _ _
    unfold V
    congr 1
    funext x; apply Fin.ext
    match x with
    | ⟨0, _⟩ => show win0_0.index t 0 * 256 + 1 * a = 256 * t.val + a; rw [h.1]; omega
    | ⟨1, _⟩ => show win0_0.index t 1 * 12288 + 1 * b = b; rw [h.2]; omega
  unfold bat xabs
  rw [dif_pos ⟨ha, hb⟩, dif_pos ⟨by omega, hb⟩, e]

/-- A bound of what a point leaves at a place. -/
theorem upd_le_iff (c : Dev nD) (t : Fin cfg0.N) (acc : EReal) (y : S8x12288.Idx) (u : EReal) :
    upd (iblk m c 0 t : Vec Ideal S256x12288 .bf16) acc y ≤ u
      ↔ acc ≤ u ∧ ∀ j < 32, xabs m c (256 * t.val + (8 * j + (y 0).val)) (y 1).val ≤ u := by
  have h0 : (y 0).val < 8 := (y 0).isLt
  have h1 : (y 1).val < 12288 := (y 1).isLt
  unfold upd
  rw [chain_le_iff]
  refine and_congr Iff.rfl (forall_congr' fun j => forall_congr' fun hj => ?_)
  rw [blk0 m c t _ _ (by omega) h1]

/-- What the accumulator holds after a point, over what it held before. -/
theorem acc_succ (c : Dev nD) (n : ℕ) (hn : n + 1 < cfg0.N) (y : S8x12288.Idx) :
    (outsAt0 m c (n + 1) hn).2 y = upd (iblk m c 0 ⟨n + 1, hn⟩) ((outsAt0 m c n (Nat.lt_of_succ_lt hn)).2 y) y := by
  have hN : n + 1 < 24 := lt_of_lt_of_eq hn (show cfg0.N = 24 from N_0)
  have h0 : ¬(n + 1) % 24 = 0 := by omega
  rw [outsAt0_succ]
  by_cases h1 : (n + 1) % 24 = 23
  · rw [stAt0_C m c ⟨n + 1, hn⟩ _ h0 h1]
    dsimp only
    rw [sout_C]
  · rw [stAt0_B m c ⟨n + 1, hn⟩ _ h0 h1]
    dsimp only
    rw [sout_B]

theorem acc_zero (c : Dev nD) (hn : 0 < cfg0.N) (y : S8x12288.Idx) :
    (outsAt0 m c 0 hn).2 y = upd (iblk m c 0 ⟨0, hn⟩) 0 y := by
  rw [outsAt0_zero, stAt0_A m c ⟨0, hn⟩ _ (Nat.zero_mod _) (fun h => by (try dsimp only at h); omega)]
  dsimp only
  rw [sout_A]

/-- A bound of the accumulator after a point bounds every absolute value taken in so far at that place. -/
theorem acc_le_iff (c : Dev nD) (n : ℕ) (hn : n < cfg0.N) (y : S8x12288.Idx) (u : EReal) :
    (outsAt0 m c n hn).2 y ≤ u
      ↔ 0 ≤ u ∧ ∀ t ≤ n, ∀ j < 32, xabs m c (256 * t + (8 * j + (y 0).val)) (y 1).val ≤ u := by
  induction n with
  | zero =>
    rw [acc_zero, upd_le_iff]
    refine and_congr Iff.rfl ⟨fun h t ht => ?_, fun h => h 0 le_rfl⟩
    obtain rfl : t = 0 := by omega
    exact h
  | succ n ih =>
    rw [acc_succ, upd_le_iff, ih (Nat.lt_of_succ_lt hn)]
    constructor
    · rintro ⟨⟨hu, h⟩, h'⟩
      refine ⟨hu, fun t ht => ?_⟩
      rcases Nat.lt_or_ge n t with h2 | h2
      · obtain rfl : t = n + 1 := by omega
        exact h'
      · exact h t h2
    · rintro ⟨hu, h⟩
      exact ⟨⟨hu, fun t ht => h t (by omega)⟩, h (n + 1) le_rfl⟩

/-- A bound of the accumulator's reduction bounds the accumulator everywhere. -/
theorem pay1_le_iff (v : Vec Ideal S8x12288 .bf16) (i : S1x128.Idx) (u : EReal) : k0_pay1 v i ≤ u ↔ ∀ y, v y ≤ u := by
  unfold k0_pay1
  dsimp only
  rw [shapeCast_self]
  have e : ∀ (x y : S1.Idx), x = y := fun x y => funext fun a => Fin.ext (by
    have hx : (x a).val < S1.size a := (x a).isLt
    have hy : (y a).val < S1.size a := (y a).isLt
    have hs : S1.size a = 1 := by match a with | ⟨0, _⟩ => rfl
    omega)
  generalize hM : multiReduction .maximumf [0] S12288 (extf (F := Ideal) .f32 v bitsLt_bf16_f32) 0xFF800000#32 reduces_S8x12288_S12288 (.inl rfl) rfl = M
  have inner : ∀ j, M j ≤ u ↔ ∀ y, reduces_S8x12288_S12288.drop y = j → v y ≤ u := fun j => by
    rw [← hM]
    exact multiReduction_le_iff _ reduces_S8x12288_S12288 (.inl rfl) rfl j u
  have cast := forall_shapeCast M shapeCasts_S12288_S1x12288 u
  generalize shapeCast S1x12288 M shapeCasts_S12288_S1x12288 = M' at cast ⊢
  unfold broadcastTo
  unfold shapeCast
  refine (multiReduction_le_iff _ reduces_S1x12288_S1 _ _ _ u).trans ?_
  constructor
  · intro h y
    exact (inner _).1 (cast.1 (fun i => h i (e _ _)) (reduces_S8x12288_S12288.drop y)) y rfl
  · intro h i _
    exact cast.2 (fun j => (inner j).2 fun y _ => h y) i

/-- A bound of the kernel's result bounds every absolute value in the array. -/
theorem G1_le_iff (c : Dev nD) (i : S1x128.Idx) (u : EReal) :
    (show S1x128.Idx → EReal from G1 m c) i ≤ u ↔ ∀ k : S6144x12288.Idx, max (X m c k) (-X m c k) ≤ u := by
  have hn : 23 < cfg0.N := lt_of_lt_of_eq (by decide) N_0.symm
  have e : (show S1x128.Idx → EReal from G1 m c) = k0_pay1 (F := Ideal) (outsAt0 m c 23 hn).2 := by
    show G1 m c = _
    rw [G1_last, ← outsAt0_sweep m c 23 hn, outsAt0_succ, stAt0_C m c ⟨22 + 1, hn⟩ _ (show ¬(22 + 1) % 24 = 0 by decide) (show (22 + 1) % 24 = 23 by decide)]
    dsimp only
    rw [sout_C, out_C]
  rw [e, pay1_le_iff]
  constructor
  · intro h k
    have hk0 : (k 0).val < 6144 := (k 0).isLt
    have hk1 : (k 1).val < 12288 := (k 1).isLt
    have h2 := ((acc_le_iff m c 23 hn (ix2 ⟨(k 0).val % 8, by omega⟩ ⟨(k 1).val, hk1⟩) u).1 (h _)).2 ((k 0).val / 256) (by omega)
      ((k 0).val % 256 / 8) (by omega)
    have e0 : 256 * ((k 0).val / 256) + (8 * ((k 0).val % 256 / 8) + (k 0).val % 8) = (k 0).val := by omega
    have h3 : xabs m c (256 * ((k 0).val / 256) + (8 * ((k 0).val % 256 / 8) + (k 0).val % 8)) (k 1).val ≤ u := h2
    rw [e0] at h3
    unfold xabs at h3
    rw [dif_pos ⟨hk0, hk1⟩] at h3
    rw [eq_ix2 k]
    exact h3
  · intro h y
    have hu : 0 ≤ u := (zero_le_abs _).trans (h (ix2 ⟨0, by decide⟩ ⟨0, by decide⟩))
    refine (acc_le_iff m c 23 hn y u).2 ⟨hu, fun t ht j hj => ?_⟩
    unfold xabs
    split
    · exact h _
    · exact hu

/-- A bound of the reference's result bounds every absolute value in the array. -/
theorem ref_le_iff (x : Cert.XAmaxRefIdeal.S6144x12288.Idx → EReal) (i : Cert.XAmaxRefIdeal.S1x128.Idx) (u : EReal) :
    (broadcastInDim Cert.XAmaxRefIdeal.S1x128 ![] Cert.XAmaxRefIdeal.Gen.bcast_S_S1x128
      (Host.reduce (FloatOps.maximumf (F := Ideal) (φ := .f32)) (Host.absf (extf (F := Ideal) .f32 x Cert.XAmaxRefIdeal.Gen.bitsLt_bf16_f32))
        (constant (F := Ideal) Cert.XAmaxRefIdeal.S_ .f32 0xFF800000#32) Cert.XAmaxRefIdeal.Gen.reducesTo_S6144x12288_S_d0_1 Cert.XAmaxRefIdeal.Gen.h_S_) : _ → EReal) i ≤ u
      ↔ ∀ k, max (x k) (-x k) ≤ u := by
  unfold broadcastInDim
  refine (hostReduce_le_iff _ _ _ _ (fun _ => neg_inf_bits) _ u).trans ?_
  exact ⟨fun h k => h k (funext fun a => a.elim0), fun h k _ => h k⟩

end Cert.XAmaxIdeal.Hand

end
-- ==== Proof.WAmaxCases.lean ====
/- The value of each grid point of the `amax` kernel, read off the body's run: every point takes, at each of the
   8 x 12288 places of the accumulator, the maximum of what the accumulator held and the absolute values of the 32 rows of
   its block eight apart; the first point starts from zero and the last one also reduces the accumulator. -/
module

public import proofs.«01_k».proof.Proof.Gen.WAmaxIdeal.Value
public import proofs.«01_k».proof.Proof.MaxBounds
public import Idealize.ShloMosaic.Lib.ValueIdx
public import Idealize.ShloMosaic.Lib.Tactic
public import Idealize.ShloMosaic.Lib.Pipeline.ValueKit.Tiles
public import Idealize.ShloMosaic.Lib.Pipeline.ReadBack

@[expose] public section

set_option maxRecDepth 16384

noncomputable section

namespace Cert.WAmaxIdeal.Hand

open Cert.WAmaxIdeal Cert.WAmaxIdeal.Gen Cert.WAmaxIdeal.Value Cert.MaxBounds
open Idealize.ShloMosaic Idealize.ShloMosaic.TcCoe Idealize.ShloMosaic.Tactic Idealize.SL.Sem Idealize.ShloMosaic.ValueIdx

theorem hz : (![0, 0] : Fin 2 → Nat) = fun _ => 0 := funext fun a => by fin_cases a <;> rfl

/-- The absolute value of a block's element at natural coordinates, zero outside the block. -/
def bat (x0 : Vec Ideal S256x12288 .bf16) (a b : ℕ) : EReal :=
  if h : a < 256 ∧ b < 12288 then max (x0 (ix2 ⟨a, h.1⟩ ⟨b, h.2⟩)) (-x0 (ix2 ⟨a, h.1⟩ ⟨b, h.2⟩)) else 0

/-- What a point leaves at a place of the accumulator that held `acc`. -/
def upd (x0 : Vec Ideal S256x12288 .bf16) (acc : EReal) (y : S8x12288.Idx) : EReal :=
  chain acc (fun j => bat x0 (8 * j + (y 0).val) (y 1).val) 32

/-- The absolute value of one loaded row group at an index. -/
theorem abs_ld (x0 : Vec Ideal S256x12288 .bf16) (p q : ℕ) (inb) (x : S8x2048.Idx) :
    FloatOps.absf (F := Ideal) (φ := .bf16) (View.ld (Val := Elt Ideal) (e' := .bf16) x0 (Rect.unit (s := S256x12288) ![p, q] ![8, 2048] inb) x)
      = bat x0 (p + (x 0).val) (q + (x 1).val) := by
  have h0 : p + 8 ≤ 256 := inb 0
  have h1 : q + 2048 ≤ 12288 := inb 1
  have hx0 : (x 0).val < 8 := (x 0).isLt
  have hx1 : (x 1).val < 2048 := (x 1).isLt
  unfold bat
  rw [dif_pos ⟨by omega, by omega⟩]
  rw [View.ld_unit_apply_of x0 ![p, q] ![8, 2048] inb x (ix2 ⟨p + (x 0).val, by omega⟩ ⟨q + (x 1).val, by omega⟩)
    (fun a => by match a with | ⟨0, _⟩ => rfl | ⟨1, _⟩ => rfl)]
  rfl

theorem absf_at {s : Shape} {φ : FTy} (a : FVec Ideal s φ) (i : s.Idx) : absf a i = FloatOps.absf (a i) := rfl

/-- A place of the accumulator read back through one of the six column blocks. -/
theorem acc_ld (xs0 : Vec Ideal S8x12288 .bf16) (q : ℕ) (inb) (x : S8x2048.Idx) (y : S8x12288.Idx)
    (hx : ∀ a, (y a : ℕ) = (![0, q] : Fin 2 → ℕ) a + x a) :
    View.ld (Val := Elt Ideal) (e' := .bf16) xs0 (Rect.unit (s := S8x12288) ![0, q] ![8, 2048] inb) x = xs0 y :=
  View.ld_unit_apply_of xs0 ![0, q] ![8, 2048] inb x y hx

/-- A later point updates every place. -/
theorem sout_B (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : ¬cond0_0 i) (hc1 : ¬cond0_1 i)
    (x0 : Vec Ideal S256x12288 .bf16) (xs0 : Vec Ideal S8x12288 .bf16) :
    sout0_B_0 c i arg1 harg1 arg2 harg2 arg3 harg3 hc0 hc1 x0 xs0 = fun y => upd x0 (xs0 y) y := by
  have hcov := scover0_B_0 c i arg1 harg1 arg2 harg2 arg3 harg3 hc0 hc1 x0 xs0
  unfold sout0_B_0
  rw [View.read_writes_eq_canon _ _ _ hcov]
  funext y
  refine View.canon_eq_of_allAt _ y _ (hcov y) ?_
  clear hcov
  unfold kernelRun0_B
  dsimp only
  sl_unfold_words
  simp only [View.readAt_eq_ld, harg1.read_unread, harg3.read_unread]
  repeat' (first | exact View.allAt_nil _ _ | refine View.allAt_cons_unit _ _ _ _ _ ?_ ?_)
  all_goals
    intro x hx
    simp only [k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26,
      shapeCast_self, maximumf_apply, absf_at]
    have h0 : (y 0 : ℕ) = 0 + (x 0).val := hx 0
    have h1 : (y 1 : ℕ) = _ + (x 1).val := hx 1
    rw [Nat.zero_add] at h0
    unfold upd
    rw [h0, h1]
    iterate 32 refine congrArg₂ max ?_ (abs_ld x0 _ _ _ x)
    exact acc_ld xs0 _ _ x y hx

/-- The last point updates every place too. -/
theorem sout_C (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : ¬cond0_0 i) (hc1 : cond0_1 i)
    (x0 : Vec Ideal S256x12288 .bf16) (xs0 : Vec Ideal S8x12288 .bf16) :
    sout0_C_0 c i arg1 harg1 arg2 harg2 arg3 harg3 hc0 hc1 x0 xs0 = fun y => upd x0 (xs0 y) y := by
  have hcov := scover0_C_0 c i arg1 harg1 arg2 harg2 arg3 harg3 hc0 hc1 x0 xs0
  unfold sout0_C_0
  rw [View.read_writes_eq_canon _ _ _ hcov]
  funext y
  refine View.canon_eq_of_allAt _ y _ (hcov y) ?_
  clear hcov
  unfold kernelRun0_C
  dsimp only
  sl_unfold_words
  simp only [View.readAt_eq_ld, harg1.read_unread, harg3.read_unread]
  repeat' (first | exact View.allAt_nil _ _ | refine View.allAt_cons_unit _ _ _ _ _ ?_ ?_)
  all_goals
    intro x hx
    simp only [k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26,
      shapeCast_self, maximumf_apply, absf_at]
    have h0 : (y 0 : ℕ) = 0 + (x 0).val := hx 0
    have h1 : (y 1 : ℕ) = _ + (x 1).val := hx 1
    rw [Nat.zero_add] at h0
    unfold upd
    rw [h0, h1]
    iterate 32 refine congrArg₂ max ?_ (abs_ld x0 _ _ _ x)
    exact acc_ld xs0 _ _ x y hx

/-- … and writes the reduction of the accumulator it leaves. -/
theorem out_C (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : ¬cond0_0 i) (hc1 : cond0_1 i)
    (x0 : Vec Ideal S256x12288 .bf16) (xs0 : Vec Ideal S8x12288 .bf16) :
    out0_C_1 c i arg1 harg1 arg2 harg2 arg3 harg3 hc0 hc1 x0 xs0 = k0_pay1 (F := Ideal) (fun y => upd x0 (xs0 y) y) := by
  rw [← sout_C c i arg1 harg1 arg2 harg2 arg3 harg3 hc0 hc1 x0 xs0]
  have hcov := scover0_C_0 c i arg1 harg1 arg2 harg2 arg3 harg3 hc0 hc1 x0 xs0
  unfold out0_C_1 sout0_C_0
  rw [View.read_writes_eq_canon _ _ _ (cover0_C_1 c i arg1 harg1 arg2 harg2 arg3 harg3 hc0 hc1 x0 xs0), View.read_writes_eq_canon _ _ _ hcov]
  clear hcov
  unfold kernelRun0_C
  dsimp only
  sl_unfold_words
  rw [View.canon_unit_zero hz]
  refine congrArg k0_pay1 ?_
  rw [View.readCov_eq_canon']
  exact View.ld_unit_zero (S := S8x12288) hz _ _

/-- Zero, in the accumulator's format. -/
theorem zero_bf16 : Ideal.ofBits .bf16 0x0000#16 = 0 := by simp [Ideal.ofBits, Ideal.ieee]

/-- A column block read back after stores to other column blocks and a fill of the whole accumulator with zero. -/
theorem zero_ld (q : ℕ) (inb) (x : S8x2048.Idx) :
    View.ld (Val := Elt Ideal) (e' := .bf16) (k0_pay2 (F := Ideal)) (Rect.unit (s := S8x12288) ![0, q] ![8, 2048] inb) x = (0 : EReal) := by
  rw [View.ld_apply]
  unfold k0_pay2
  rw [shapeCast_self]
  exact zero_bf16

end Cert.WAmaxIdeal.Hand

end
-- ==== Proof.WAmaxStart.lean ====
/- The first grid point of the `amax` kernel: it fills the accumulator with zero and then does what every point does. -/
module

public import proofs.«01_k».proof.Proof.WAmaxCases
public import Idealize.ShloMosaic.Lib.ValueIdx
public import Idealize.ShloMosaic.Lib.Tactic
public import Idealize.ShloMosaic.Lib.Pipeline.ValueKit.Tiles
public import Idealize.ShloMosaic.Lib.Pipeline.ReadBack

@[expose] public section

set_option maxRecDepth 16384

noncomputable section

namespace Cert.WAmaxIdeal.Hand

open Cert.WAmaxIdeal Cert.WAmaxIdeal.Gen Cert.WAmaxIdeal.Value Cert.MaxBounds
open Idealize.ShloMosaic Idealize.ShloMosaic.TcCoe Idealize.ShloMosaic.Tactic Idealize.SL.Sem Idealize.ShloMosaic.ValueIdx

/-- A store through a unit-stride box, read back at a place: its payload inside the box, what was there before outside. -/
theorem canon_cons_unit_of {Val : EltTy → Type} [∀ e, Nonempty (Val e)] {S : Shape} {e : EltTy} {y : S.Idx} {v : Val e} (off size : Fin S.rank → Nat)
    (inb : ∀ a, off a + size a ≤ S.size a) (w : (Rect.unit off size inb).shape.Idx → Val e) (L : List (View.Piece Val S e))
    (h1 : View.TileAt y off size w v) (h2 : (¬∀ a, off a ≤ (y a).val ∧ (y a).val < off a + size a) → View.canon L y = v) :
    View.canon ((⟨Rect.unit off size inb, w⟩ : View.Piece Val S e) :: L) y = v := by
  by_cases hm : y ∈ (Rect.unit off size inb).set
  · obtain ⟨x, rfl⟩ := (Rect.unit off size inb).exists_idx_of_mem hm
    rw [show (Rect.unit off size inb).idx x = (Rect.unit off size inb).emb x from rfl, View.canon_cons_emb]
    exact h1 x fun a => Rect.idx_unit_val off size inb x a
  · rw [View.canon_cons_of_not_mem _ _ hm]
    exact h2 fun h => hm (Rect.mem_set_unit.mpr h)

/-- The first point starts from zero. -/
theorem sout_A (c : Dev nD) (i : grid0.Coords) (arg1 : Memref sig .tc .vmem S256x12288 .bf16) (harg1 : arg1.IsWhole) (arg2 : Memref sig .tc .vmem S1x128 .f32) (harg2 : arg2.IsWhole) (arg3 : Memref sig .tc .vmem S8x12288 .bf16) (harg3 : arg3.IsWhole) (hc0 : cond0_0 i) (hc1 : ¬cond0_1 i)
    (x0 : Vec Ideal S256x12288 .bf16) :
    sout0_A_0 c i arg1 harg1 arg2 harg2 arg3 harg3 hc0 hc1 x0 = fun y => upd x0 0 y := by
  have hcov := scover0_A_0 c i arg1 harg1 arg2 harg2 arg3 harg3 hc0 hc1 x0
  unfold sout0_A_0
  rw [View.read_writes_eq_canon _ _ _ hcov]
  funext y
  clear hcov
  unfold kernelRun0_A
  dsimp only
  sl_unfold_words
  simp (disch := decide) only [↓View.readCov_skip, ↓View.readCov_fill, View.readAt_eq_ld, harg1.read_unread]
  iterate 6
    refine canon_cons_unit_of _ _ _ _ _ ?_ fun hn => ?_
    · intro x hx
      simp only [k0_pay3, k0_pay4, k0_pay5, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, k0_pay25, k0_pay26,
        shapeCast_self, maximumf_apply, absf_at]
      have h0 : (y 0 : ℕ) = 0 + (x 0).val := hx 0
      have h1 : (y 1 : ℕ) = _ + (x 1).val := hx 1
      rw [Nat.zero_add] at h0
      unfold upd
      rw [h0, h1]
      iterate 32 refine congrArg₂ max ?_ (abs_ld x0 _ _ _ x)
      exact zero_ld _ _ x
  exfalso
  have hy0 : (y 0).val < 8 := (y 0).isLt
  have hy1 : (y 1).val < 12288 := (y 1).isLt
  rename_i n5 n4 n3 n2 n1
  have key : ∀ q : ℕ, (¬∀ a : Fin 2, (![0, q] : Fin 2 → ℕ) a ≤ (y a).val ∧ (y a).val < (![0, q] : Fin 2 → ℕ) a + (![8, 2048] : Fin 2 → ℕ) a) →
      ¬(q ≤ (y 1).val ∧ (y 1).val < q + 2048) := fun q hq h => hq fun a => by
    match a with
    | ⟨0, _⟩ => exact ⟨Nat.zero_le _, by simpa using hy0⟩
    | ⟨1, _⟩ => exact h
  have m0 := key 0 hn
  have m1 := key _ n1
  have m2 := key _ n2
  have m3 := key _ n3
  have m4 := key _ n4
  have m5 := key _ n5
  omega

end Cert.WAmaxIdeal.Hand

end
-- ==== Proof.WAmaxValue.lean ====
/- The result of the `amax` kernel over the extended reals: a bound of the accumulator's reduction is a bound of every
   absolute value in the array, which is what a bound of the reference's one reduction is. -/
module

public import proofs.«01_k».proof.Proof.WAmaxStart
public import proofs.«01_k».proof.Proof.Gen.WAmaxRefIdeal.Run

@[expose] public section

noncomputable section

namespace Cert.WAmaxIdeal.Hand

open Cert.WAmaxIdeal Cert.WAmaxIdeal.Gen Cert.WAmaxIdeal.Value Cert.MaxBounds
open Idealize.ShloMosaic Idealize.ShloMosaic.TcCoe Idealize.SL.Sem Idealize.ShloMosaic.ValueIdx

variable (m : (ℓ : Loc nD τ sig) → Buf (Elt Ideal) ℓ)

/-- The array, as a function of an index. -/
abbrev X (c : Dev nD) : S4608x12288.Idx → EReal := m ((c : Thread nD τ).loc main_arg0)

/-- The absolute value of the array's element at natural coordinates, zero outside the array. -/
def xabs (c : Dev nD) (i k : ℕ) : EReal :=
  if h : i < 4608 ∧ k < 12288 then max (X m c (ix2 ⟨i, h.1⟩ ⟨k, h.2⟩)) (-X m c (ix2 ⟨i, h.1⟩ ⟨k, h.2⟩)) else 0

/-- The printed index map of the array, over the grid. -/
theorem idx0 : ∀ t : Fin cfg0.N, win0_0.index t (0 : Fin 2) = t.val ∧ win0_0.index t (1 : Fin 2) = 0 :=
  (by decide +kernel : ∀ t : Fin grid0.N, _)

/-- The block of the array at a point. -/
theorem blk0 (c : Dev nD) (t : Fin cfg0.N) (a b : ℕ) (ha : a < 256) (hb : b < 12288) :
    bat (iblk m c 0 t : Vec Ideal S256x12288 .bf16) a b = xabs m c (256 * t.val + a) b := by
  have hN : t.val < 18 := lt_of_lt_of_eq t.isLt (show cfg0.N = 18 from N_0)
  have h := idx0 t
  have e : (iblk m c 0 t : Vec Ideal S256x12288 .bf16) (ix2 ⟨a, ha⟩ ⟨b, hb⟩) = X m c (ix2 ⟨256 * t.val + a, by omega⟩ ⟨b, hb⟩) := by
    unfold iblk
    rw [View.read_apply]
    show V m c main_arg0 _ = m _ _
    unfold V
    congr 1
    funext x; apply Fin.ext
    match x with
    | ⟨0, _⟩ => show win0_0.index t 0 * 256 + 1 * a = 256 * t.val + a; rw [h.1]; omega
    | ⟨1, _⟩ => show win0_0.index t 1 * 12288 + 1 * b = b; rw [h.2]; omega
  unfold bat xabs
  rw [dif_pos ⟨ha, hb⟩, dif_pos ⟨by omega, hb⟩, e]

/-- A bound of what a point leaves at a place. -/
theorem upd_le_iff (c : Dev nD) (t : Fin cfg0.N) (acc : EReal) (y : S8x12288.Idx) (u : EReal) :
    upd (iblk m c 0 t : Vec Ideal S256x12288 .bf16) acc y ≤ u
      ↔ acc ≤ u ∧ ∀ j < 32, xabs m c (256 * t.val + (8 * j + (y 0).val)) (y 1).val ≤ u := by
  have h0 : (y 0).val < 8 := (y 0).isLt
  have h1 : (y 1).val < 12288 := (y 1).isLt
  unfold upd
  rw [chain_le_iff]
  refine and_congr Iff.rfl (forall_congr' fun j => forall_congr' fun hj => ?_)
  rw [blk0 m c t _ _ (by omega) h1]

/-- What the accumulator holds after a point, over what it held before. -/
theorem acc_succ (c : Dev nD) (n : ℕ) (hn : n + 1 < cfg0.N) (y : S8x12288.Idx) :
    (outsAt0 m c (n + 1) hn).2 y = upd (iblk m c 0 ⟨n + 1, hn⟩) ((outsAt0 m c n (Nat.lt_of_succ_lt hn)).2 y) y := by
  have hN : n + 1 < 18 := lt_of_lt_of_eq hn (show cfg0.N = 18 from N_0)
  have h0 : ¬(n + 1) % 18 = 0 := by omega
  rw [outsAt0_succ]
  by_cases h1 : (n + 1) % 18 = 17
  · rw [stAt0_C m c ⟨n + 1, hn⟩ _ h0 h1]
    dsimp only
    rw [sout_C]
  · rw [stAt0_B m c ⟨n + 1, hn⟩ _ h0 h1]
    dsimp only
    rw [sout_B]

theorem acc_zero (c : Dev nD) (hn : 0 < cfg0.N) (y : S8x12288.Idx) :
    (outsAt0 m c 0 hn).2 y = upd (iblk m c 0 ⟨0, hn⟩) 0 y := by
  rw [outsAt0_zero, stAt0_A m c ⟨0, hn⟩ _ (Nat.zero_mod _) (fun h => by (try dsimp only at h); omega)]
  dsimp only
  rw [sout_A]

/-- A bound of the accumulator after a point bounds every absolute value taken in so far at that place. -/
theorem acc_le_iff (c : Dev nD) (n : ℕ) (hn : n < cfg0.N) (y : S8x12288.Idx) (u : EReal) :
    (outsAt0 m c n hn).2 y ≤ u
      ↔ 0 ≤ u ∧ ∀ t ≤ n, ∀ j < 32, xabs m c (256 * t + (8 * j + (y 0).val)) (y 1).val ≤ u := by
  induction n with
  | zero =>
    rw [acc_zero, upd_le_iff]
    refine and_congr Iff.rfl ⟨fun h t ht => ?_, fun h => h 0 le_rfl⟩
    obtain rfl : t = 0 := by omega
    exact h
  | succ n ih =>
    rw [acc_succ, upd_le_iff, ih (Nat.lt_of_succ_lt hn)]
    constructor
    · rintro ⟨⟨hu, h⟩, h'⟩
      refine ⟨hu, fun t ht => ?_⟩
      rcases Nat.lt_or_ge n t with h2 | h2
      · obtain rfl : t = n + 1 := by omega
        exact h'
      · exact h t h2
    · rintro ⟨hu, h⟩
      exact ⟨⟨hu, fun t ht => h t (by omega)⟩, h (n + 1) le_rfl⟩

/-- A bound of the accumulator's reduction bounds the accumulator everywhere. -/
theorem pay1_le_iff (v : Vec Ideal S8x12288 .bf16) (i : S1x128.Idx) (u : EReal) : k0_pay1 v i ≤ u ↔ ∀ y, v y ≤ u := by
  unfold k0_pay1
  dsimp only
  rw [shapeCast_self]
  have e : ∀ (x y : S1.Idx), x = y := fun x y => funext fun a => Fin.ext (by
    have hx : (x a).val < S1.size a := (x a).isLt
    have hy : (y a).val < S1.size a := (y a).isLt
    have hs : S1.size a = 1 := by match a with | ⟨0, _⟩ => rfl
    omega)
  generalize hM : multiReduction .maximumf [0] S12288 (extf (F := Ideal) .f32 v bitsLt_bf16_f32) 0xFF800000#32 reduces_S8x12288_S12288 (.inl rfl) rfl = M
  have inner : ∀ j, M j ≤ u ↔ ∀ y, reduces_S8x12288_S12288.drop y = j → v y ≤ u := fun j => by
    rw [← hM]
    exact multiReduction_le_iff _ reduces_S8x12288_S12288 (.inl rfl) rfl j u
  have cast := forall_shapeCast M shapeCasts_S12288_S1x12288 u
  generalize shapeCast S1x12288 M shapeCasts_S12288_S1x12288 = M' at cast ⊢
  unfold broadcastTo
  unfold shapeCast
  refine (multiReduction_le_iff _ reduces_S1x12288_S1 _ _ _ u).trans ?_
  constructor
  · intro h y
    exact (inner _).1 (cast.1 (fun i => h i (e _ _)) (reduces_S8x12288_S12288.drop y)) y rfl
  · intro h i _
    exact cast.2 (fun j => (inner j).2 fun y _ => h y) i

/-- A bound of the kernel's result bounds every absolute value in the array. -/
theorem G1_le_iff (c : Dev nD) (i : S1x128.Idx) (u : EReal) :
    (show S1x128.Idx → EReal from G1 m c) i ≤ u ↔ ∀ k : S4608x12288.Idx, max (X m c k) (-X m c k) ≤ u := by
  have hn : 17 < cfg0.N := lt_of_lt_of_eq (by decide) N_0.symm
  have e : (show S1x128.Idx → EReal from G1 m c) = k0_pay1 (F := Ideal) (outsAt0 m c 17 hn).2 := by
    show G1 m c = _
    rw [G1_last, ← outsAt0_sweep m c 17 hn, outsAt0_succ, stAt0_C m c ⟨16 + 1, hn⟩ _ (show ¬(16 + 1) % 18 = 0 by decide) (show (16 + 1) % 18 = 17 by decide)]
    dsimp only
    rw [sout_C, out_C]
  rw [e, pay1_le_iff]
  constructor
  · intro h k
    have hk0 : (k 0).val < 4608 := (k 0).isLt
    have hk1 : (k 1).val < 12288 := (k 1).isLt
    have h2 := ((acc_le_iff m c 17 hn (ix2 ⟨(k 0).val % 8, by omega⟩ ⟨(k 1).val, hk1⟩) u).1 (h _)).2 ((k 0).val / 256) (by omega)
      ((k 0).val % 256 / 8) (by omega)
    have e0 : 256 * ((k 0).val / 256) + (8 * ((k 0).val % 256 / 8) + (k 0).val % 8) = (k 0).val := by omega
    have h3 : xabs m c (256 * ((k 0).val / 256) + (8 * ((k 0).val % 256 / 8) + (k 0).val % 8)) (k 1).val ≤ u := h2
    rw [e0] at h3
    unfold xabs at h3
    rw [dif_pos ⟨hk0, hk1⟩] at h3
    rw [eq_ix2 k]
    exact h3
  · intro h y
    have hu : 0 ≤ u := (zero_le_abs _).trans (h (ix2 ⟨0, by decide⟩ ⟨0, by decide⟩))
    refine (acc_le_iff m c 17 hn y u).2 ⟨hu, fun t ht j hj => ?_⟩
    unfold xabs
    split
    · exact h _
    · exact hu

/-- A bound of the reference's result bounds every absolute value in the array. -/
theorem ref_le_iff (x : Cert.WAmaxRefIdeal.S4608x12288.Idx → EReal) (i : Cert.WAmaxRefIdeal.S1x128.Idx) (u : EReal) :
    (broadcastInDim Cert.WAmaxRefIdeal.S1x128 ![] Cert.WAmaxRefIdeal.Gen.bcast_S_S1x128
      (Host.reduce (FloatOps.maximumf (F := Ideal) (φ := .f32)) (Host.absf (extf (F := Ideal) .f32 x Cert.WAmaxRefIdeal.Gen.bitsLt_bf16_f32))
        (constant (F := Ideal) Cert.WAmaxRefIdeal.S_ .f32 0xFF800000#32) Cert.WAmaxRefIdeal.Gen.reducesTo_S4608x12288_S_d0_1 Cert.WAmaxRefIdeal.Gen.h_S_) : _ → EReal) i ≤ u
      ↔ ∀ k, max (x k) (-x k) ≤ u := by
  unfold broadcastInDim
  refine (hostReduce_le_iff _ _ _ _ (fun _ => neg_inf_bits) _ u).trans ?_
  exact ⟨fun h k => h k (funext fun a => a.elim0), fun h k _ => h k⟩

end Cert.WAmaxIdeal.Hand

end
-- ==== Proof.QuantXDefs.lean ====
/- The vectors the `quant_x` kernel's body computes, written once each: a step of the butterfly that takes the maximum over
   a group of sixteen lanes, the block scales and their reciprocals, a tile's quotients, its values and its codes. The
   body's own vectors are these at each row half and each tile. -/
module

public import proofs.«01_k».proof.Proof.Gen.QuantXIdeal.Value
public import Idealize.ShloMosaic.Lib.ValueIdx
public import Idealize.ShloMosaic.Lib.Tactic
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.QuantXIdeal.Hand

open Cert.QuantXIdeal Cert.QuantXIdeal.Gen Cert.QuantXIdeal.Value
open Idealize.ShloMosaic Idealize.ShloMosaic.TcCoe Idealize.ShloMosaic.Tactic Idealize.SL.Sem Idealize.ShloMosaic.ValueIdx

/-- A tile of f32 lanes. -/
abbrev Tile := FVec Ideal S64x128 .f32

/-- The lane number. -/
def laneV : IVec S64x128 32 := iota .tc S64x128 32 [1] iota_S64x128_d1_w32

/-- A gather's index vector: a negative index counts from the end. -/
def gidx (p : IVec S64x128 32) : IVec S64x128 32 :=
  shapeCast S64x128 (shapeCast S64x128x1 (select (cmpi .slt p (broadcast S64x128 0#32)) (addi p (broadcast S64x128 128#32)) p)
    shapeCasts_S64x128_S64x128x1) shapeCasts_S64x128x1_S64x128

/-- The lanes that keep their own tile at a step of the butterfly. -/
def keepV (b : BitVec 32) : IVec S64x128 1 := cmpi .eq (andi laneV (broadcast S64x128 b)) (broadcast S64x128 0#32)

/-- The partner lanes of a step of the butterfly. -/
def permV (b : BitVec 32) : IVec S64x128 32 := xori laneV (broadcast S64x128 b)

/-- A step of the butterfly. -/
def merge (b : BitVec 32) (x y : Tile) : Tile :=
  maximumf (select (keepV b) x y) (dynamicGather 1 (select (keepV b) y x) (gidx (permV b)))

/-- The four steps of the butterfly over sixteen tiles. -/
def amaxV (T : Fin 16 → Tile) : Tile :=
  merge 1#32
    (merge 2#32 (merge 4#32 (merge 8#32 (T 0) (T 8)) (merge 8#32 (T 4) (T 12))) (merge 4#32 (merge 8#32 (T 2) (T 10)) (merge 8#32 (T 6) (T 14))))
    (merge 2#32 (merge 4#32 (merge 8#32 (T 1) (T 9)) (merge 8#32 (T 5) (T 13))) (merge 4#32 (merge 8#32 (T 3) (T 11)) (merge 8#32 (T 7) (T 15))))

/-- A tile's absolute values. -/
def absV (x : Vec Ideal S64x128 .bf16) : Tile := absf (extf .f32 x bitsLt_bf16_f32)

/-- The tensor scale. -/
def stV (x0 : Vec Ideal S1x128 .f32) : FVec Ideal S1x128 .f32 :=
  divf (F := Ideal) (φ := .f32) (shapeCast S1x128 x0 shapeCasts_S1x128_S1x128) (broadcast S1x128 (Scalar.ofBits .f32 0x45280000#32))

/-- One where the tensor amax is negative, else zero. -/
def zeroV (x0 : Vec Ideal S1x128 .f32) : FVec Ideal S1x128 .f32 :=
  select (cmpf (F := Ideal) (φ := .f32) .olt (shapeCast S1x128 x0 shapeCasts_S1x128_S1x128) (broadcast S1x128 (Scalar.ofBits .f32 0x00000000#32)))
    (broadcast S1x128 (Scalar.ofBits .f32 0x3F800000#32)) (broadcast S1x128 (Scalar.ofBits .f32 0x00000000#32))

/-- The block scales of a group's amax. -/
def sbV (s : FVec Ideal S1x128 .f32) (A : Tile) : Tile :=
  extf .f32 (truncf .fp8e4m3 (minimumf (divf A (broadcastTo S64x128 (mulf s (broadcast S1x128 (Scalar.ofBits .f32 0x40C00000#32)))
    broadcasts_S1x128_S64x128)) (broadcast S64x128 (Scalar.ofBits .f32 0x43E00000#32))) bitsLt_fp8e4m3_f32) bitsLt_fp8e4m3_f32

/-- The reciprocals of the block scales times the tensor scale, zero where that is not positive. -/
def rV (s : FVec Ideal S1x128 .f32) (SB : Tile) : Tile :=
  select (cmpf .ogt (mulf SB (broadcastTo S64x128 s broadcasts_S1x128_S64x128)) (broadcast S64x128 (Scalar.ofBits .f32 0x00000000#32)))
    (divf (broadcast S64x128 (Scalar.ofBits .f32 0x3F800000#32))
      (select (cmpf .ogt (mulf SB (broadcastTo S64x128 s broadcasts_S1x128_S64x128)) (broadcast S64x128 (Scalar.ofBits .f32 0x00000000#32)))
        (mulf SB (broadcastTo S64x128 s broadcasts_S1x128_S64x128)) (broadcast S64x128 (Scalar.ofBits .f32 0x3F800000#32))))
    (broadcast S64x128 (Scalar.ofBits .f32 0x00000000#32))

/-- The lane's scale in block order: lane `l` reads lane `(l % 8) * 16 + l / 8`, with Python's floor division and remainder. -/
def ordIdx : IVec S64x128 32 :=
  let r := remsi laneV (broadcast S64x128 8#32)
  let z := broadcast S64x128 (α := BitVec 32) 0#32
  addi
    (muli (select (andi (xori (cmpi .slt r z) (broadcastTo S64x128 (broadcast S64x128 0#1) broadcasts_S64x128_S64x128)) (cmpi .ne r z))
      (addi r (broadcast S64x128 8#32)) r) (broadcast S64x128 16#32))
    (select (andi (cmpi .ne (subi (extui 32 (cmpi .sgt laneV z) natLt_1_32) (extui 32 (cmpi .slt laneV z) natLt_1_32)) (broadcast S64x128 1#32))
        (cmpi .ne r z))
      (subi (divsi laneV (broadcast S64x128 8#32)) (broadcast S64x128 1#32)) (divsi laneV (broadcast S64x128 8#32)))

/-- The stored block scales of a row half. -/
def ordV (SB : Tile) : FVec Ideal S64x128 .fp8e4m3 := truncf .fp8e4m3 (dynamicGather 1 SB (gidx ordIdx)) bitsLt_fp8e4m3_f32

/-- The lane of tile `t`'s block: the group's first lane plus the tile's number. -/
def tidx (t : BitVec 32) : IVec S64x128 32 := addi (andi laneV (broadcast S64x128 4294967280#32)) (broadcast S64x128 t)

/-- A tile's quotients, clipped to the e2m1 range. -/
def vV (t : BitVec 32) (z : FVec Ideal S1x128 .f32) (R : Tile) (x : Vec Ideal S64x128 .bf16) : Tile :=
  minimumf (broadcast S64x128 (Scalar.ofBits .f32 0x40C00000#32)) (maximumf (broadcast S64x128 (Scalar.ofBits .f32 0xC0C00000#32))
    (addf (mulf (extf .f32 x bitsLt_bf16_f32) (dynamicGather 1 R (gidx (tidx t)))) (broadcastTo S64x128 z broadcasts_S1x128_S64x128)))

/-- The step of the e2m1 grid at a magnitude. -/
def stepV (a : Tile) : Tile :=
  select (cmpf .olt a (broadcast S64x128 (Scalar.ofBits .f32 0x40000000#32))) (broadcast S64x128 (Scalar.ofBits .f32 0x3F000000#32))
    (select (cmpf .olt a (broadcast S64x128 (Scalar.ofBits .f32 0x40800000#32))) (broadcast S64x128 (Scalar.ofBits .f32 0x3F800000#32))
      (broadcast S64x128 (Scalar.ofBits .f32 0x40000000#32)))

/-- The number of steps. -/
def nV (a : Tile) : Tile := roundeven (divf a (stepV a))

/-- The e2m1 value. -/
def qV (v : Tile) : Tile :=
  select (cmpf .olt v (broadcast S64x128 (Scalar.ofBits .f32 0x00000000#32)))
    (subf (broadcast S64x128 (Scalar.ofBits .f32 0x00000000#32)) (mulf (nV (absf v)) (stepV (absf v)))) (mulf (nV (absf v)) (stepV (absf v)))

/-- The e2m1 code. -/
def codeV (v : Tile) : IVec S64x128 32 :=
  let m := addi (fptosi 32 (nV (absf v))) (select (cmpf .olt (absf v) (broadcast S64x128 (Scalar.ofBits .f32 0x40000000#32))) (broadcast S64x128 0#32)
    (select (cmpf .olt (absf v) (broadcast S64x128 (Scalar.ofBits .f32 0x40800000#32))) (broadcast S64x128 2#32) (broadcast S64x128 4#32)))
  select (cmpf .olt v (broadcast S64x128 (Scalar.ofBits .f32 0x00000000#32))) (addi m (broadcast S64x128 8#32)) m

/-- A tile of the stored values. -/
def xqV (t : BitVec 32) (z : FVec Ideal S1x128 .f32) (SB R : Tile) (x : Vec Ideal S64x128 .bf16) : FVec Ideal S64x128 .bf16 :=
  mulf (truncf .bf16 (qV (vV t z R x)) bitsLt_bf16_f32) (truncf .bf16 (dynamicGather 1 SB (gidx (tidx t))) bitsLt_bf16_f32)

/-- A tile of the stored codes. -/
def nibV (t : BitVec 32) (z : FVec Ideal S1x128 .f32) (R : Tile) (x : Vec Ideal S64x128 .bf16) : IVec S64x128 8 :=
  shapeCast S64x128 (trunci 8 (codeV (vV t z R x)) natLt_8_32) shapeCasts_S64x128_S64x128

theorem hz : (![0, 0] : Fin 2 → Nat) = fun _ => 0 := funext fun a => by fin_cases a <;> rfl

/-- The amax window is read whole. -/
theorem ld0 (x0 : Vec Ideal S1x128 .f32) (inb) :
    View.ld (Val := Elt Ideal) (e' := .f32) x0 (Rect.unit (s := S1x128) ![0, 0] ![1, 128] inb) = x0 :=
  View.ld_unit_zero (S := S1x128) hz inb x0

/-- The tile at a row half and a tile number. -/
def tileX (x1 : Vec Ideal S128x2048 .bf16) (p q : ℕ) (inb : ∀ a, (![p, q] : Fin 2 → ℕ) a + (![64, 128] : Fin 2 → ℕ) a ≤ S128x2048.size a) : Vec Ideal S64x128 .bf16 :=
  View.ld (Val := Elt Ideal) (e' := .bf16) x1 (Rect.unit (s := S128x2048) ![p, q] ![64, 128] inb)

theorem inbT (h : Fin 2) (t : Fin 16) : ∀ a, (![64 * h.val, 128 * t.val] : Fin 2 → ℕ) a + (![64, 128] : Fin 2 → ℕ) a ≤ S128x2048.size a := by
  intro a
  have := h.isLt
  have := t.isLt
  match a with
  | ⟨0, _⟩ => show 64 * h.val + 64 ≤ 128; omega
  | ⟨1, _⟩ => show 128 * t.val + 128 ≤ 2048; omega

/-- The tiles of a row half. -/
def tilesX (x1 : Vec Ideal S128x2048 .bf16) (h : Fin 2) (t : Fin 16) : Vec Ideal S64x128 .bf16 :=
  tileX x1 (64 * h.val) (128 * t.val) (inbT h t)

/-- The block scales of a row half. -/
def sbX (x0 : Vec Ideal S1x128 .f32) (x1 : Vec Ideal S128x2048 .bf16) (h : Fin 2) : Tile := sbV (stV x0) (amaxV fun t => absV (tilesX x1 h t))

/-- Their reciprocals. -/
def rX (x0 : Vec Ideal S1x128 .f32) (x1 : Vec Ideal S128x2048 .bf16) (h : Fin 2) : Tile := rV (stV x0) (sbX x0 x1 h)

end Cert.QuantXIdeal.Hand

end
-- ==== Proof.QuantXScalar.lean ====
/- The quantiser on one element, in the kernel's words and in the reference's: the block scale of a block's amax, the
   quotient, its e2m1 value and its code. The two agree when the tensor amax is not negative. -/
module

public import Idealize.ShloMosaic.Lib.IdealHost
public import Idealize.ShloMosaic.Lib.Pointwise
public import Idealize.ShloMosaic.PureOps.Ideal

@[expose] public section

noncomputable section

namespace Cert.QuantX

open Idealize.ShloMosaic

/-- An f32 word's value. -/
abbrev w32 (b : BitVec 32) : EReal := Scalar.ofBits (F := Ideal) .f32 b

theorem w_zero : w32 0x00000000#32 = 0 := by simp [w32, Scalar.ofBits, Ideal.ofBits, Ideal.ieee]
theorem w_half : w32 0x3F000000#32 = ((1 / 2 : ℝ) : EReal) := by simp [w32, Scalar.ofBits, Ideal.ofBits, Ideal.ieee, -EReal.coe_mul]; norm_num
theorem w_one : w32 0x3F800000#32 = ((1 : ℝ) : EReal) := by simp [w32, Scalar.ofBits, Ideal.ofBits, Ideal.ieee, -EReal.coe_mul]; norm_num
theorem w_onehalf : w32 0x3FC00000#32 = ((3 / 2 : ℝ) : EReal) := by simp [w32, Scalar.ofBits, Ideal.ofBits, Ideal.ieee, -EReal.coe_mul]; norm_num
theorem w_two : w32 0x40000000#32 = ((2 : ℝ) : EReal) := by simp [w32, Scalar.ofBits, Ideal.ofBits, Ideal.ieee, -EReal.coe_mul]; norm_num
theorem w_three : w32 0x40400000#32 = ((3 : ℝ) : EReal) := by simp [w32, Scalar.ofBits, Ideal.ofBits, Ideal.ieee, -EReal.coe_mul]; norm_num
theorem w_four : w32 0x40800000#32 = ((4 : ℝ) : EReal) := by simp [w32, Scalar.ofBits, Ideal.ofBits, Ideal.ieee, -EReal.coe_mul]; norm_num
theorem w_six : w32 0x40C00000#32 = ((6 : ℝ) : EReal) := by simp [w32, Scalar.ofBits, Ideal.ofBits, Ideal.ieee, -EReal.coe_mul]; norm_num
theorem w_nsix : w32 0xC0C00000#32 = ((-6 : ℝ) : EReal) := by simp [w32, Scalar.ofBits, Ideal.ofBits, Ideal.ieee, -EReal.coe_mul, -EReal.coe_neg]; norm_num

/-! ## The scales -/

/-- The tensor scale. -/
def stF (am : EReal) : EReal := Ideal.div am (w32 0x45280000#32)

/-- One where the tensor amax is negative. -/
def zeroF (am : EReal) : EReal := Scalar.select (Ideal.cmp .olt am (w32 0x00000000#32)) (w32 0x3F800000#32) (w32 0x00000000#32)

/-- The block scale. -/
def sbF (am A : EReal) : EReal := min (Ideal.div A (stF am * w32 0x40C00000#32)) (w32 0x43E00000#32)

/-- The block scale times the tensor scale. -/
def dF (am A : EReal) : EReal := sbF am A * stF am

/-- Where that is positive. -/
def posF (am A : EReal) : BitVec 1 := Ideal.cmp .ogt (dF am A) (w32 0x00000000#32)

/-- The kernel's reciprocal. -/
def rF (am A : EReal) : EReal :=
  Scalar.select (posF am A) (Ideal.div (w32 0x3F800000#32) (Scalar.select (posF am A) (dF am A) (w32 0x3F800000#32))) (w32 0x00000000#32)

/-- A quotient clipped to the e2m1 range. -/
def clip (v : EReal) : EReal := min (w32 0x40C00000#32) (max (w32 0xC0C00000#32) v)

/-- The kernel's quotient. -/
def vK (am A x : EReal) : EReal := clip (x * rF am A + zeroF am)

/-- The reference's quotient. -/
def vR (am A x : EReal) : EReal :=
  clip (Scalar.select (posF am A) (Ideal.div x (Scalar.select (posF am A) (dF am A) (w32 0x3F800000#32))) (w32 0x00000000#32))

theorem sel_cmp {α : Type} (p : Prop) [Decidable p] (a b : α) : Scalar.select (BitVec.ofBool (decide p)) a b = if p then a else b := by
  by_cases h : p <;> simp [h, Scalar.select]

/-- The quotients agree when the tensor amax is not negative. -/
theorem vK_eq_vR (am A x : EReal) (h : 0 ≤ am) : vK am A x = vR am A x := by
  have hz : zeroF am = 0 := by
    unfold zeroF
    simp only [Ideal.cmp, sel_cmp, w_zero]
    rw [if_neg (not_lt.mpr h)]
  unfold vK vR rF posF
  rw [hz]
  simp only [Ideal.cmp, sel_cmp, w_zero]
  by_cases hd : 0 < dF am A
  · simp only [if_pos hd, add_zero]
    have h1 : w32 0x3F800000#32 = 1 := by rw [w_one]; rfl
    rw [h1, Ideal.mul_one_div (ne_of_gt hd)]
  · simp [hd]

/-! ## The e2m1 rounding -/

/-- The magnitude. -/
abbrev mag (v : EReal) : EReal := max v (-v)

/-- The kernel's step at a magnitude. -/
def stepF (a : EReal) : EReal :=
  Scalar.select (Ideal.cmp .olt a (w32 0x40000000#32)) (w32 0x3F000000#32)
    (Scalar.select (Ideal.cmp .olt a (w32 0x40800000#32)) (w32 0x3F800000#32) (w32 0x40000000#32))

/-- The kernel's number of steps. -/
def nF (a : EReal) : EReal := Ideal.liftRound Ideal.roundHalfEven (Ideal.div a (stepF a))

/-- The kernel's e2m1 value. -/
def qK (v : EReal) : EReal :=
  Scalar.select (Ideal.cmp .olt v (w32 0x00000000#32)) (w32 0x00000000#32 - nF (mag v) * stepF (mag v)) (nF (mag v) * stepF (mag v))

/-- The kernel's code before its sign. -/
def mK (a : EReal) : BitVec 32 :=
  Ideal.fptosi 32 (nF a) + Scalar.select (Ideal.cmp .olt a (w32 0x40000000#32)) 0#32
    (Scalar.select (Ideal.cmp .olt a (w32 0x40800000#32)) 2#32 4#32)

/-- The kernel's code. -/
def codeK (v : EReal) : BitVec 32 :=
  Scalar.select (Ideal.cmp .olt v (w32 0x00000000#32)) (mK (mag v) + 8#32) (mK (mag v))

/-- The reference's rounded magnitude. -/
def qmR (a : EReal) : EReal :=
  Scalar.select (Ideal.cmp .olt a (w32 0x40000000#32))
    (Ideal.div (Ideal.liftRound Ideal.roundHalfEven (w32 0x40000000#32 * a)) (w32 0x40000000#32))
    (Scalar.select (Ideal.cmp .olt a (w32 0x40800000#32)) (Ideal.liftRound Ideal.roundHalfEven a)
      (w32 0x40000000#32 * Ideal.liftRound Ideal.roundHalfEven (Ideal.div a (w32 0x40000000#32))))

/-- The reference's index of a rounded magnitude. -/
def idxR (q : EReal) : EReal :=
  Scalar.select (Ideal.cmp .olt q (w32 0x40000000#32)) (w32 0x40000000#32 * q)
    (Scalar.select (Ideal.cmp .olt q (w32 0x40800000#32)) (q + w32 0x40000000#32) (Ideal.div q (w32 0x40000000#32) + w32 0x40800000#32))

/-- The reference's code. -/
def codeR (v : EReal) : BitVec 32 :=
  IntOp.shli .vector ((Ideal.cmp .olt v (w32 0x00000000#32)).setWidth 32) 3#32 ||| Ideal.fptosi 32 (idxR (qmR (mag v)))

/-- A bit of a code. -/
def bitR (n : BitVec 32) (b : BitVec 32) : BitVec 1 := IntOp.cmpi .ne (n &&& b) 0#32

/-- The reference's decoding of a code. -/
def decR (n : BitVec 32) : EReal :=
  let b0 := bitR n 1#32
  let m := Scalar.select (bitR n 4#32)
    (Scalar.select (bitR n 2#32) (Scalar.select b0 (w32 0x40C00000#32) (w32 0x40800000#32)) (Scalar.select b0 (w32 0x40400000#32) (w32 0x40000000#32)))
    (Scalar.select (bitR n 2#32) (Scalar.select b0 (w32 0x3FC00000#32) (w32 0x3F800000#32)) (Scalar.select b0 (w32 0x3F000000#32) (w32 0x00000000#32)))
  Scalar.select (bitR n 8#32) (w32 0x00000000#32 - m) m

theorem round_le {r : ℝ} {k : ℤ} (h : r ≤ k) : Ideal.roundHalfEven r ≤ k := by
  unfold Ideal.roundHalfEven
  have hf : ⌊r⌋ ≤ k := by exact_mod_cast (Int.floor_le r).trans h
  rcases lt_or_eq_of_le hf with h1 | h1
  · dsimp only; split_ifs <;> omega
  · have : r - (⌊r⌋ : ℝ) < 1 / 2 := by rw [h1]; linarith
    dsimp only
    rw [if_pos this]
    exact hf

theorem le_round {r : ℝ} {k : ℤ} (h : (k : ℝ) ≤ r) : k ≤ Ideal.roundHalfEven r := by
  unfold Ideal.roundHalfEven
  have hf : k ≤ ⌊r⌋ := Int.le_floor.mpr h
  dsimp only; split_ifs <;> omega

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem fptosi_int (n : ℤ) (h0 : 0 ≤ n) (h1 : n < 100) : Ideal.fptosi 32 (((n : ℝ)) : EReal) = BitVec.ofInt 32 n := by
  unfold Ideal.fptosi
  congr 1
  show max _ (min _ (if (0:ℝ) ≤ (n:ℝ) then ⌊(n:ℝ)⌋ else ⌈(n:ℝ)⌉)) = n
  rw [if_pos (by exact_mod_cast h0), Int.floor_intCast]
  norm_num
  omega

/-- A clipped quotient is a real between -6 and 6. -/
theorem clip_real (v : EReal) : ∃ r : ℝ, clip v = (r : EReal) ∧ -6 ≤ r ∧ r ≤ 6 := by
  unfold clip
  rw [w_six, w_nsix]
  have hu : min ((6 : ℝ) : EReal) (max ((-6 : ℝ) : EReal) v) ≤ ((6 : ℝ) : EReal) := min_le_left _ _
  have hl : ((-6 : ℝ) : EReal) ≤ min ((6 : ℝ) : EReal) (max ((-6 : ℝ) : EReal) v) :=
    le_min (by norm_cast) (le_max_left _ _)
  generalize min ((6 : ℝ) : EReal) (max ((-6 : ℝ) : EReal) v) = w at hu hl
  induction w using EReal.rec with
  | bot => exact absurd hl (by simp)
  | top => exact absurd hu (by simp)
  | coe r => exact ⟨r, rfl, by exact_mod_cast hl, by exact_mod_cast hu⟩

theorem mag_coe (r : ℝ) : mag (r : EReal) = ((|r| : ℝ) : EReal) := by
  unfold mag
  rw [← EReal.coe_neg, ← EReal.coe_strictMono.monotone.map_max]
  rfl

theorem lt_coe_iff (a b : ℝ) : Ideal.cmp .olt (a : EReal) (b : EReal) = BitVec.ofBool (decide (a < b)) := by
  simp [Ideal.cmp]

theorem ite_coe (p : Prop) [Decidable p] (a b : ℝ) : (if p then (a : EReal) else (b : EReal)) = ((if p then a else b : ℝ) : EReal) := by
  split_ifs <;> rfl

theorem stepF_coe (a : ℝ) : stepF (a : EReal) = ((if a < 2 then 1 / 2 else if a < 4 then 1 else 2 : ℝ) : EReal) := by
  unfold stepF
  simp only [w_two, w_four, w_half, w_one, lt_coe_iff, sel_cmp, ite_coe]

theorem idxR_coe (q : ℝ) : idxR (q : EReal) = ((if q < 2 then 2 * q else if q < 4 then q + 2 else q / 2 + 4 : ℝ) : EReal) := by
  unfold idxR
  simp only [w_two, w_four, lt_coe_iff, sel_cmp, div_coe _ _ (two_ne_zero), ← EReal.coe_mul, ← EReal.coe_add, ite_coe]

theorem qmR_coe (a : ℝ) : qmR (a : EReal) = ((if a < 2 then (Ideal.roundHalfEven (2 * a) : ℝ) / 2
    else if a < 4 then (Ideal.roundHalfEven a : ℝ) else 2 * (Ideal.roundHalfEven (a / 2) : ℝ) : ℝ) : EReal) := by
  unfold qmR
  simp only [w_two, w_four, lt_coe_iff, sel_cmp, ← EReal.coe_mul, Ideal.liftRound_coe, div_coe _ _ (two_ne_zero), ite_coe]

theorem nF_coe (a : ℝ) : nF (a : EReal) = (((if a < 2 then Ideal.roundHalfEven (2 * a)
    else if a < 4 then Ideal.roundHalfEven a else Ideal.roundHalfEven (a / 2) : ℤ) : ℝ) : EReal) := by
  unfold nF
  rw [stepF_coe, div_coe _ _ (by split_ifs <;> norm_num), Ideal.liftRound_coe]
  congr 2
  split_ifs with h1 h2
  · congr 1; ring
  · congr 1; ring
  · rfl

theorem mK_coe (a : ℝ) : mK (a : EReal) = Ideal.fptosi 32 (nF (a : EReal)) + (if a < 2 then 0#32 else if a < 4 then 2#32 else 4#32) := by
  unfold mK
  simp only [w_two, w_four, lt_coe_iff, sel_cmp]

theorem dec_facts : decR 0#32 = ((0 : ℝ) : EReal) ∧ decR 1#32 = ((1 / 2 : ℝ) : EReal) ∧ decR 2#32 = ((1 : ℝ) : EReal) ∧
    decR 3#32 = ((3 / 2 : ℝ) : EReal) ∧ decR 4#32 = ((2 : ℝ) : EReal) ∧ decR 5#32 = ((3 : ℝ) : EReal) ∧
    decR 6#32 = ((4 : ℝ) : EReal) ∧ decR 7#32 = ((6 : ℝ) : EReal) := by
  refine ⟨?_, ?_, ?_, ?_, ?_, ?_, ?_, ?_⟩
  · exact w_zero
  · exact w_half
  · exact w_one
  · exact w_onehalf
  · exact w_two
  · exact w_three
  · exact w_four
  · exact w_six

/-- What the two make of a magnitude: the same value, the same index, and the decoding of the index is the value. -/
theorem mag_facts (a : ℝ) (h0 : 0 ≤ a) (h6 : a ≤ 6) : ∃ (q : ℝ) (k : Fin 8),
    nF (a : EReal) * stepF (a : EReal) = (q : EReal) ∧ qmR (a : EReal) = (q : EReal) ∧
    mK (a : EReal) = BitVec.ofNat 32 k.val ∧ Ideal.fptosi 32 (idxR (q : EReal)) = BitVec.ofNat 32 k.val ∧
    decR (BitVec.ofNat 32 k.val) = (q : EReal) := by
  obtain ⟨d0, d1, d2, d3, d4, d5, d6, d7⟩ := dec_facts
  rw [mK_coe, nF_coe, stepF_coe, qmR_coe, ← EReal.coe_mul]
  simp only [idxR_coe]
  by_cases h2 : a < 2
  · simp only [if_pos h2]
    have hl : (0 : ℤ) ≤ Ideal.roundHalfEven (2 * a) := le_round (by push_cast; linarith)
    have hu : Ideal.roundHalfEven (2 * a) ≤ 4 := round_le (by push_cast; linarith)
    generalize Ideal.roundHalfEven (2 * a) = n at hl hu
    rw [fptosi_int n hl (by omega)]
    interval_cases n
    · exact ⟨0, 0, by norm_num, by norm_num, by decide, by simpa using fptosi_int 0 (by norm_num) (by norm_num), d0⟩
    · exact ⟨1 / 2, 1, by norm_num, by norm_num, by decide, by norm_num; simpa using fptosi_int 1 (by norm_num) (by norm_num), d1⟩
    · exact ⟨1, 2, by norm_num, by norm_num, by decide, by norm_num; simpa using fptosi_int 2 (by norm_num) (by norm_num), d2⟩
    · exact ⟨3 / 2, 3, by norm_num, by norm_num, by decide, by norm_num; simpa using fptosi_int 3 (by norm_num) (by norm_num), d3⟩
    · exact ⟨2, 4, by norm_num, by norm_num, by decide, by norm_num; simpa using fptosi_int 4 (by norm_num) (by norm_num), d4⟩
  · simp only [if_neg h2]
    by_cases h4 : a < 4
    · simp only [if_pos h4]
      have hl : (2 : ℤ) ≤ Ideal.roundHalfEven a := le_round (by push_cast; linarith)
      have hu : Ideal.roundHalfEven a ≤ 4 := round_le (by push_cast; linarith)
      generalize Ideal.roundHalfEven a = n at hl hu
      rw [fptosi_int n (by omega) (by omega)]
      interval_cases n
      · exact ⟨2, 4, by norm_num, by norm_num, by decide, by norm_num; simpa using fptosi_int 4 (by norm_num) (by norm_num), d4⟩
      · exact ⟨3, 5, by norm_num, by norm_num, by decide, by norm_num; simpa using fptosi_int 5 (by norm_num) (by norm_num), d5⟩
      · exact ⟨4, 6, by norm_num, by norm_num, by decide, by norm_num; simpa using fptosi_int 6 (by norm_num) (by norm_num), d6⟩
    · simp only [if_neg h4]
      have hl : (2 : ℤ) ≤ Ideal.roundHalfEven (a / 2) := le_round (by push_cast; linarith)
      have hu : Ideal.roundHalfEven (a / 2) ≤ 3 := round_le (by push_cast; linarith)
      generalize Ideal.roundHalfEven (a / 2) = n at hl hu
      rw [fptosi_int n (by omega) (by omega)]
      interval_cases n
      · exact ⟨4, 6, by norm_num, by norm_num, by decide, by norm_num; simpa using fptosi_int 6 (by norm_num) (by norm_num), d6⟩
      · exact ⟨6, 7, by norm_num, by norm_num, by decide, by norm_num; simpa using fptosi_int 7 (by norm_num) (by norm_num), d7⟩

theorem code_neg : ∀ k : Fin 8, IntOp.shli .vector ((BitVec.ofBool true).setWidth 32) 3#32 ||| BitVec.ofNat 32 k.val = BitVec.ofNat 32 k.val + 8#32 := by
  decide

theorem code_pos : ∀ k : Fin 8, IntOp.shli .vector ((BitVec.ofBool false).setWidth 32) 3#32 ||| BitVec.ofNat 32 k.val = BitVec.ofNat 32 k.val := by
  decide

theorem dec_neg (k : Fin 8) : decR (BitVec.ofNat 32 k.val + 8#32) = 0 - decR (BitVec.ofNat 32 k.val) := by
  have h8 : bitR (BitVec.ofNat 32 k.val + 8#32) 8#32 = 1#1 := by revert k; decide
  have h8' : bitR (BitVec.ofNat 32 k.val) 8#32 = 0#1 := by revert k; decide
  have h4 : bitR (BitVec.ofNat 32 k.val + 8#32) 4#32 = bitR (BitVec.ofNat 32 k.val) 4#32 := by revert k; decide
  have h2 : bitR (BitVec.ofNat 32 k.val + 8#32) 2#32 = bitR (BitVec.ofNat 32 k.val) 2#32 := by revert k; decide
  have h1 : bitR (BitVec.ofNat 32 k.val + 8#32) 1#32 = bitR (BitVec.ofNat 32 k.val) 1#32 := by revert k; decide
  unfold decR
  rw [h8, h8', h4, h2, h1]
  simp only [w_zero]
  rfl

/-- The reference's decoding of its code is the kernel's value of the same quotient. -/
theorem dec_code (r : ℝ) (h0 : -6 ≤ r) (h6 : r ≤ 6) :
    decR (codeR (r : EReal)) = qK (r : EReal) ∧ codeR (r : EReal) = codeK (r : EReal) := by
  obtain ⟨q, k, e1, e2, e3, e4, e5⟩ := mag_facts |r| (abs_nonneg r) (abs_le.mpr ⟨h0, h6⟩)
  unfold codeR qK codeK
  rw [mag_coe, e1, e2, e3, e4, w_zero, ← EReal.coe_zero, lt_coe_iff]
  by_cases hr : r < 0
  · rw [show decide (r < 0) = true from decide_eq_true hr, code_neg k, dec_neg k, e5]
    exact ⟨rfl, rfl⟩
  · rw [show decide (r < 0) = false from decide_eq_false hr, code_pos k, e5]
    exact ⟨rfl, rfl⟩

/-- The two agree on a clipped quotient. -/
theorem dec_code_clip (v : EReal) : decR (codeR (clip v)) = qK (clip v) ∧ codeR (clip v) = codeK (clip v) := by
  obtain ⟨r, hr, h0, h6⟩ := clip_real v
  rw [hr]
  exact dec_code r h0 h6

end Cert.QuantX

end
-- ==== Proof.QuantXTiles.lean ====
/- The kernel's tile vectors at a row and a lane: the butterfly is the maximum over the group of sixteen, and a tile's
   values, codes and scales are the scalar quantiser's. -/
module

public import proofs.«01_k».proof.Proof.QuantXDefs
public import proofs.«01_k».proof.Proof.QuantXScalar

@[expose] public section

set_option maxRecDepth 16384

noncomputable section

namespace Cert.QuantXIdeal.Hand

open Cert.QuantXIdeal Cert.QuantXIdeal.Gen Cert.QuantXIdeal.Value Cert.QuantX
open Idealize.ShloMosaic Idealize.ShloMosaic.TcCoe Idealize.ShloMosaic.Tactic Idealize.SL.Sem

/-- The index of a row and a lane. -/
def ixT (r l : ℕ) : S64x128.Idx := fun a => match a with
  | ⟨0, _⟩ => ⟨r % 64, Nat.mod_lt _ (by norm_num)⟩
  | ⟨1, _⟩ => ⟨l % 128, Nat.mod_lt _ (by norm_num)⟩

/-- A tile's element at a row and a lane. -/
def at2 {α : Type} (x : S64x128.Idx → α) (r l : ℕ) : α := x (ixT r l)

theorem ixT_self (i : S64x128.Idx) : ixT (i 0).val (i 1).val = i := by
  funext a
  match a with
  | ⟨0, _⟩ => exact Fin.ext (Nat.mod_eq_of_lt (i 0).isLt)
  | ⟨1, _⟩ => exact Fin.ext (Nat.mod_eq_of_lt (i 1).isLt)

theorem ixT_lane (r l : ℕ) : (ixT r l 1).val = l % 128 := rfl

/-- The wrap of an index vector's element. -/
def wrapB (p : BitVec 32) : BitVec 32 := Scalar.select (IntOp.cmpi .slt p 0#32) (p + 128#32) p

theorem gidx_apply (p : IVec S64x128 32) (i : S64x128.Idx) : gidx p i = wrapB (p i) := by
  unfold gidx
  rw [shapeCast_shapeCast]
  rfl

theorem laneV_apply (r l : ℕ) : laneV (ixT r l) = BitVec.ofNat 32 (l % 128) := by
  unfold laneV
  rw [iota_single_apply]
  rfl

/-- A gather along the lanes at an index vector that names lane `g` at lane `l`. -/
theorem gather_at {α : Type} (R : S64x128.Idx → α) (p : IVec S64x128 32) (r l g : ℕ)
    (hg : (wrapB (p (ixT r l))).toNat % 128 = g) : at2 (dynamicGather 1 R (gidx p)) r l = at2 R r g := by
  show R _ = R _
  congr 1
  funext a
  match a with
  | ⟨0, _⟩ => rfl
  | ⟨1, _⟩ =>
    apply Fin.ext
    show (gidx p (ixT r l)).toNat % 128 = g % 128
    rw [gidx_apply, ← hg, Nat.mod_mod]

/-! ## The lane numbers -/

/-- The partner of a lane at a bit. -/
def fl (b l : ℕ) : ℕ := if l / b % 2 = 0 then l + b else l - b

/-- A bit's lanes: the ones that keep their own tile are those without the bit, and the partner of a lane has the bit changed. -/
def BitFacts (b : ℕ) : Prop := ∀ l : Fin 128,
  (IntOp.cmpi .eq (BitVec.ofNat 32 l.val &&& BitVec.ofNat 32 b) 0#32 = BitVec.ofBool (decide (l.val / b % 2 = 0))) ∧
  (wrapB (BitVec.ofNat 32 l.val ^^^ BitVec.ofNat 32 b)).toNat % 128 = fl b l.val

theorem bits1 : BitFacts 1 := by unfold BitFacts; decide +kernel
theorem bits2 : BitFacts 2 := by unfold BitFacts; decide +kernel
theorem bits4 : BitFacts 4 := by unfold BitFacts; decide +kernel
theorem bits8 : BitFacts 8 := by unfold BitFacts; decide +kernel

theorem tidx_lane : ∀ (t : Fin 16) (l : Fin 128),
    (wrapB ((BitVec.ofNat 32 l.val &&& 4294967280#32) + BitVec.ofNat 32 t.val)).toNat % 128 = l.val / 16 * 16 + t.val := by
  decide +kernel

/-- The block order of a lane. -/
def ordB (l : BitVec 32) : BitVec 32 :=
  let r := IntOp.remsi .vector l 8#32
  Scalar.select ((IntOp.cmpi .slt r 0#32 ^^^ 0#1) &&& IntOp.cmpi .ne r 0#32) (r + 8#32) r * 16#32 +
    Scalar.select (IntOp.cmpi .ne ((IntOp.cmpi .sgt l 0#32).setWidth 32 - (IntOp.cmpi .slt l 0#32).setWidth 32) 1#32 &&& IntOp.cmpi .ne r 0#32)
      (IntOp.divsi .vector l 8#32 - 1#32) (IntOp.divsi .vector l 8#32)

theorem ord_lane : ∀ l : Fin 128, (wrapB (ordB (BitVec.ofNat 32 l.val))).toNat % 128 = l.val % 8 * 16 + l.val / 8 := by
  decide +kernel

theorem tidx_at (t : Fin 16) (r l : ℕ) (hl : l < 128) : (wrapB (tidx (BitVec.ofNat 32 t.val) (ixT r l))).toNat % 128 = l / 16 * 16 + t.val := by
  have h := tidx_lane t ⟨l, hl⟩
  have e : tidx (BitVec.ofNat 32 t.val) (ixT r l) = (laneV (ixT r l) &&& 4294967280#32) + BitVec.ofNat 32 t.val := rfl
  rw [e, laneV_apply, Nat.mod_eq_of_lt hl]
  exact h

theorem ord_at (r l : ℕ) (hl : l < 128) : (wrapB (ordIdx (ixT r l))).toNat % 128 = l % 8 * 16 + l / 8 := by
  have h := ord_lane ⟨l, hl⟩
  have e : ordIdx (ixT r l) = ordB (laneV (ixT r l)) := rfl
  rw [e, laneV_apply, Nat.mod_eq_of_lt hl]
  exact h

/-! ## The butterfly -/

/-- A step of the butterfly is the larger of a lane's and its partner's element of the lane's own tile. -/
theorem merge_le (b : ℕ) (hb : BitFacts b) (x y : Tile) (r l : ℕ) (hl : l < 128) (hp : fl b l < 128)
    (hf : (fl b l / b % 2 = 0) ↔ ¬ (l / b % 2 = 0)) (u : EReal) :
    at2 (merge (BitVec.ofNat 32 b) x y) r l ≤ u ↔
      at2 (if l / b % 2 = 0 then x else y) r l ≤ u ∧ at2 (if l / b % 2 = 0 then x else y) r (fl b l) ≤ u := by
  have keep : ∀ k, k < 128 → ∀ p q : Tile, at2 (select (keepV (BitVec.ofNat 32 b)) p q) r k = at2 (if k / b % 2 = 0 then p else q) r k := by
    intro k hk p q
    have e : at2 (select (keepV (BitVec.ofNat 32 b)) p q) r k
        = Scalar.select (IntOp.cmpi .eq (laneV (ixT r k) &&& BitVec.ofNat 32 b) 0#32) (at2 p r k) (at2 q r k) := rfl
    rw [e, laneV_apply, Nat.mod_eq_of_lt hk, (hb ⟨k, hk⟩).1, sel_cmp]
    split_ifs <;> rfl
  have e : at2 (merge (BitVec.ofNat 32 b) x y) r l
      = max (at2 (select (keepV (BitVec.ofNat 32 b)) x y) r l)
          (at2 (dynamicGather 1 (select (keepV (BitVec.ofNat 32 b)) y x) (gidx (permV (BitVec.ofNat 32 b)))) r l) := rfl
  have g : (wrapB (permV (BitVec.ofNat 32 b) (ixT r l))).toNat % 128 = fl b l := by
    have e : permV (BitVec.ofNat 32 b) (ixT r l) = laneV (ixT r l) ^^^ BitVec.ofNat 32 b := rfl
    rw [e, laneV_apply, Nat.mod_eq_of_lt hl]
    exact (hb ⟨l, hl⟩).2
  rw [e, gather_at _ _ r l _ g, keep l hl, keep _ hp, max_le_iff]
  by_cases h : l / b % 2 = 0
  · rw [if_pos h, if_neg (by rw [hf]; exact not_not.mpr h)]
  · rw [if_neg h, if_pos (hf.mpr h)]

/-- One step. -/
theorem merge8 (x y : Tile) (r l : ℕ) (hl : l < 128) (u : EReal) : at2 (merge 8#32 x y) r l ≤ u ↔
    ∀ k < 128, k / 16 = l / 16 → k % 8 = l % 8 → at2 (if l / 8 % 2 = 0 then x else y) r k ≤ u := by
  rw [show (8#32 : BitVec 32) = BitVec.ofNat 32 8 from rfl]
  rw [merge_le 8 bits8 x y r l hl (by unfold fl; split_ifs <;> omega) (by unfold fl; split_ifs <;> omega)]
  constructor
  · rintro ⟨h1, h2⟩ k hk e1 e2
    have : k = l ∨ k = fl 8 l := by unfold fl; split_ifs <;> omega
    rcases this with rfl | rfl
    · exact h1
    · exact h2
  · intro h
    exact ⟨h l hl rfl rfl, h _ (by unfold fl; split_ifs <;> omega) (by unfold fl; split_ifs <;> omega) (by unfold fl; split_ifs <;> omega)⟩

/-- Two steps. -/
theorem merge4 (x0 x1 x2 x3 : Tile) (r l : ℕ) (hl : l < 128) (u : EReal) : at2 (merge 4#32 (merge 8#32 x0 x2) (merge 8#32 x1 x3)) r l ≤ u ↔
    ∀ k < 128, k / 16 = l / 16 → k % 4 = l % 4 →
      at2 (if l / 4 % 2 = 0 then (if l / 8 % 2 = 0 then x0 else x2) else (if l / 8 % 2 = 0 then x1 else x3)) r k ≤ u := by
  have hp : fl 4 l < 128 := by unfold fl; split_ifs <;> omega
  rw [show (4#32 : BitVec 32) = BitVec.ofNat 32 4 from rfl]
  rw [merge_le 4 bits4 _ _ r l hl hp (by unfold fl; split_ifs <;> omega)]
  have e8 : fl 4 l / 8 % 2 = l / 8 % 2 := by unfold fl; split_ifs <;> omega
  have key : ∀ x y : Tile, (at2 (merge 8#32 x y) r l ≤ u ∧ at2 (merge 8#32 x y) r (fl 4 l) ≤ u) ↔
      ∀ k < 128, k / 16 = l / 16 → k % 4 = l % 4 → at2 (if l / 8 % 2 = 0 then x else y) r k ≤ u := by
    intro x y
    rw [merge8 x y r l hl, merge8 x y r _ hp, e8]
    constructor
    · rintro ⟨h1, h2⟩ k hk e1 e2
      have : k % 8 = l % 8 ∨ (k / 16 = fl 4 l / 16 ∧ k % 8 = fl 4 l % 8) := by unfold fl; split_ifs <;> omega
      rcases this with h | ⟨h, h'⟩
      · exact h1 k hk e1 h
      · exact h2 k hk h h'
    · intro h
      exact ⟨fun k hk e1 e2 => h k hk e1 (by omega), fun k hk e1 e2 => h k hk (by revert e1; unfold fl; split_ifs <;> omega) (by revert e2; unfold fl; split_ifs <;> omega)⟩
  by_cases h : l / 4 % 2 = 0
  · simp only [if_pos h]; exact key x0 x2
  · simp only [if_neg h]; exact key x1 x3

/-- Three steps. -/
theorem merge2 (x0 x1 x2 x3 x4 x5 x6 x7 : Tile) (r l : ℕ) (hl : l < 128) (u : EReal) :
    at2 (merge 2#32 (merge 4#32 (merge 8#32 x0 x4) (merge 8#32 x2 x6)) (merge 4#32 (merge 8#32 x1 x5) (merge 8#32 x3 x7))) r l ≤ u ↔
    ∀ k < 128, k / 16 = l / 16 → k % 2 = l % 2 →
      at2 (if l / 2 % 2 = 0 then (if l / 4 % 2 = 0 then (if l / 8 % 2 = 0 then x0 else x4) else (if l / 8 % 2 = 0 then x2 else x6))
        else (if l / 4 % 2 = 0 then (if l / 8 % 2 = 0 then x1 else x5) else (if l / 8 % 2 = 0 then x3 else x7))) r k ≤ u := by
  have hp : fl 2 l < 128 := by unfold fl; split_ifs <;> omega
  rw [show (2#32 : BitVec 32) = BitVec.ofNat 32 2 from rfl]
  rw [merge_le 2 bits2 _ _ r l hl hp (by unfold fl; split_ifs <;> omega)]
  have e8 : fl 2 l / 8 % 2 = l / 8 % 2 := by unfold fl; split_ifs <;> omega
  have e4 : fl 2 l / 4 % 2 = l / 4 % 2 := by unfold fl; split_ifs <;> omega
  have key : ∀ a b c d : Tile, (at2 (merge 4#32 (merge 8#32 a c) (merge 8#32 b d)) r l ≤ u ∧ at2 (merge 4#32 (merge 8#32 a c) (merge 8#32 b d)) r (fl 2 l) ≤ u) ↔
      ∀ k < 128, k / 16 = l / 16 → k % 2 = l % 2 →
        at2 (if l / 4 % 2 = 0 then (if l / 8 % 2 = 0 then a else c) else (if l / 8 % 2 = 0 then b else d)) r k ≤ u := by
    intro a b c d
    rw [merge4 a b c d r l hl, merge4 a b c d r _ hp, e8, e4]
    constructor
    · rintro ⟨h1, h2⟩ k hk e1 e2
      have : k % 4 = l % 4 ∨ (k / 16 = fl 2 l / 16 ∧ k % 4 = fl 2 l % 4) := by unfold fl; split_ifs <;> omega
      rcases this with h | ⟨h, h'⟩
      · exact h1 k hk e1 h
      · exact h2 k hk h h'
    · intro h
      exact ⟨fun k hk e1 e2 => h k hk e1 (by omega), fun k hk e1 e2 => h k hk (by revert e1; unfold fl; split_ifs <;> omega) (by revert e2; unfold fl; split_ifs <;> omega)⟩
  by_cases h : l / 2 % 2 = 0
  · simp only [if_pos h]; exact key x0 x2 x4 x6
  · simp only [if_neg h]; exact key x1 x3 x5 x7

/-- The butterfly at a lane is the maximum, over the lane's group of sixteen, of the tile of the lane's number in its group. -/
theorem amaxV_le (T : Fin 16 → Tile) (r l : ℕ) (hl : l < 128) (u : EReal) :
    at2 (amaxV T) r l ≤ u ↔ ∀ k < 128, k / 16 = l / 16 → at2 (T ⟨l % 16, Nat.mod_lt _ (by norm_num)⟩) r k ≤ u := by
  have hp : fl 1 l < 128 := by unfold fl; split_ifs <;> omega
  unfold amaxV
  rw [show (1#32 : BitVec 32) = BitVec.ofNat 32 1 from rfl]
  rw [merge_le 1 bits1 _ _ r l hl hp (by unfold fl; split_ifs <;> omega)]
  have e8 : fl 1 l / 8 % 2 = l / 8 % 2 := by unfold fl; split_ifs <;> omega
  have e4 : fl 1 l / 4 % 2 = l / 4 % 2 := by unfold fl; split_ifs <;> omega
  have e2 : fl 1 l / 2 % 2 = l / 2 % 2 := by unfold fl; split_ifs <;> omega
  have key : ∀ x0 x1 x2 x3 x4 x5 x6 x7 : Tile,
      (at2 (merge 2#32 (merge 4#32 (merge 8#32 x0 x4) (merge 8#32 x2 x6)) (merge 4#32 (merge 8#32 x1 x5) (merge 8#32 x3 x7))) r l ≤ u ∧
       at2 (merge 2#32 (merge 4#32 (merge 8#32 x0 x4) (merge 8#32 x2 x6)) (merge 4#32 (merge 8#32 x1 x5) (merge 8#32 x3 x7))) r (fl 1 l) ≤ u) ↔
      ∀ k < 128, k / 16 = l / 16 →
        at2 (if l / 2 % 2 = 0 then (if l / 4 % 2 = 0 then (if l / 8 % 2 = 0 then x0 else x4) else (if l / 8 % 2 = 0 then x2 else x6))
          else (if l / 4 % 2 = 0 then (if l / 8 % 2 = 0 then x1 else x5) else (if l / 8 % 2 = 0 then x3 else x7))) r k ≤ u := by
    intro x0 x1 x2 x3 x4 x5 x6 x7
    rw [merge2 x0 x1 x2 x3 x4 x5 x6 x7 r l hl, merge2 x0 x1 x2 x3 x4 x5 x6 x7 r _ hp, e8, e4, e2]
    constructor
    · rintro ⟨h1, h2⟩ k hk e1
      have : k % 2 = l % 2 ∨ (k / 16 = fl 1 l / 16 ∧ k % 2 = fl 1 l % 2) := by unfold fl; split_ifs <;> omega
      rcases this with h | ⟨h, h'⟩
      · exact h1 k hk e1 h
      · exact h2 k hk h h'
    · intro h
      exact ⟨fun k hk e1 e2 => h k hk e1, fun k hk e1 e2 => h k hk (by revert e1; unfold fl; split_ifs <;> omega)⟩
  have pick : ∀ m : Fin 16, ∀ a, m = a → T m = T a := fun _ _ h => by rw [h]
  have fin : ∀ (n : ℕ) (hn : n < 16), l % 16 = n → (⟨l % 16, Nat.mod_lt _ (by norm_num)⟩ : Fin 16) = ⟨n, hn⟩ := fun n hn h => Fin.ext h
  by_cases h1 : l / 1 % 2 = 0
  · simp only [if_pos h1]
    rw [key]
    by_cases h2 : l / 2 % 2 = 0 <;> by_cases h4 : l / 4 % 2 = 0 <;> by_cases h8 : l / 8 % 2 = 0 <;> simp only [h2, h4, h8, if_true, if_false]
    · rw [fin 0 (by norm_num) (by omega)]; rfl
    · rw [fin 8 (by norm_num) (by omega)]; rfl
    · rw [fin 4 (by norm_num) (by omega)]; rfl
    · rw [fin 12 (by norm_num) (by omega)]; rfl
    · rw [fin 2 (by norm_num) (by omega)]; rfl
    · rw [fin 10 (by norm_num) (by omega)]; rfl
    · rw [fin 6 (by norm_num) (by omega)]; rfl
    · rw [fin 14 (by norm_num) (by omega)]; rfl
  · simp only [if_neg h1]
    rw [key]
    by_cases h2 : l / 2 % 2 = 0 <;> by_cases h4 : l / 4 % 2 = 0 <;> by_cases h8 : l / 8 % 2 = 0 <;> simp only [h2, h4, h8, if_true, if_false]
    · rw [fin 1 (by norm_num) (by omega)]; rfl
    · rw [fin 9 (by norm_num) (by omega)]; rfl
    · rw [fin 5 (by norm_num) (by omega)]; rfl
    · rw [fin 13 (by norm_num) (by omega)]; rfl
    · rw [fin 3 (by norm_num) (by omega)]; rfl
    · rw [fin 11 (by norm_num) (by omega)]; rfl
    · rw [fin 7 (by norm_num) (by omega)]; rfl
    · rw [fin 15 (by norm_num) (by omega)]; rfl

end Cert.QuantXIdeal.Hand

end
-- ==== Proof.QuantXPack.lean ====
/- The quantiser of a whole array, element by element: the maximum magnitude of a run of sixteen, and with it the element's
   value and code and the run's block scale. -/
module

public import proofs.«01_k».proof.Proof.QuantXScalar

@[expose] public section

noncomputable section

namespace Cert.QuantX

open Idealize.ShloMosaic

/-- The maximum magnitude of the `k`-th run of sixteen of a row. -/
def gA (B : ℕ → ℕ → EReal) (a k : ℕ) : EReal := Finset.univ.sup fun i : Fin 16 => mag (B a (16 * k + i.val))

/-- The kernel's value at a row and a column. -/
def xqS (am : EReal) (B : ℕ → ℕ → EReal) (a b : ℕ) : EReal :=
  qK (vK am (gA B a (b / 16)) (B a b)) * sbF am (gA B a (b / 16))

/-- The kernel's code at a row and a column. -/
def codeS (am : EReal) (B : ℕ → ℕ → EReal) (a b : ℕ) : BitVec 32 := codeK (vK am (gA B a (b / 16)) (B a b))

/-- The kernel's block scale at a row and a run. -/
def sS (am : EReal) (B : ℕ → ℕ → EReal) (a k : ℕ) : EReal := sbF am (gA B a k)

/-- Two codes in a byte. -/
def packS (C : ℕ → ℕ → BitVec 32) (a j : ℕ) : BitVec 8 := (C a (2 * j) ||| IntOp.shli .vector (C a (2 * j + 1)) 4#32).setWidth 8

end Cert.QuantX

end
-- ==== Proof.QuantXBlock.lean ====
/- What the kernel stores at a row and a column of its block: the scalar quantiser's value, code and block scale, with the
   maximum magnitude of the element's run of sixteen. -/
module

public import proofs.«01_k».proof.Proof.QuantXTiles
public import proofs.«01_k».proof.Proof.QuantXPack

@[expose] public section

set_option maxRecDepth 16384

noncomputable section

namespace Cert.QuantXIdeal.Hand

open Cert.QuantXIdeal Cert.QuantXIdeal.Gen Cert.QuantXIdeal.Value Cert.QuantX
open Idealize.ShloMosaic Idealize.ShloMosaic.TcCoe Idealize.ShloMosaic.Tactic Idealize.SL.Sem

/-- The index of a row and a column of the input block. -/
def ixB (a b : ℕ) : S128x2048.Idx := fun d => match d with
  | ⟨0, _⟩ => ⟨a % 128, Nat.mod_lt _ (by norm_num)⟩
  | ⟨1, _⟩ => ⟨b % 2048, Nat.mod_lt _ (by norm_num)⟩

/-- The input block's element at a row and a column. -/
def bAt (x1 : Vec Ideal S128x2048 .bf16) (a b : ℕ) : EReal := x1 (ixB a b)

theorem tile_at (x1 : Vec Ideal S128x2048 .bf16) (h : Fin 2) (t : Fin 16) (r l : ℕ) (hr : r < 64) (hl : l < 128) :
    at2 (tilesX x1 h t) r l = bAt x1 (64 * h.val + r) (128 * t.val + l) := by
  have := h.isLt
  have := t.isLt
  unfold at2 tilesX tileX bAt
  refine View.ld_unit_apply_of x1 ![64 * h.val, 128 * t.val] _ (inbT h t) (ixT r l) (ixB (64 * h.val + r) (128 * t.val + l)) ?_
  intro a
  match a with
  | ⟨0, _⟩ => show (64 * h.val + r) % 128 = 64 * h.val + r % 64; omega
  | ⟨1, _⟩ => show (128 * t.val + l) % 2048 = 128 * t.val + l % 128; omega

/-- The butterfly of a row half at a tile's lane of its block. -/
theorem amax_at (x1 : Vec Ideal S128x2048 .bf16) (h : Fin 2) (t : Fin 16) (r l : ℕ) (hr : r < 64) (hl : l < 128) :
    at2 (amaxV fun t => absV (tilesX x1 h t)) r (l / 16 * 16 + t.val) = gA (bAt x1) (64 * h.val + r) (8 * t.val + l / 16) := by
  have := t.isLt
  have ht : (⟨(l / 16 * 16 + t.val) % 16, Nat.mod_lt _ (by norm_num)⟩ : Fin 16) = t := Fin.ext (by show _ % 16 = _; omega)
  refine eq_of_forall_ge_iff fun u => ?_
  rw [amaxV_le _ r _ (by omega), ht]
  unfold gA
  rw [Finset.sup_le_iff]
  have e : ∀ k, k < 128 → at2 (absV (tilesX x1 h t)) r k = mag (bAt x1 (64 * h.val + r) (128 * t.val + k)) := by
    intro k hk
    rw [← tile_at x1 h t r k hr hk]
    rfl
  constructor
  · intro H i _
    have := i.isLt
    have h1 := H (16 * (l / 16) + i.val) (by omega) (by omega)
    rw [e _ (by omega)] at h1
    rw [show 16 * (8 * t.val + l / 16) + i.val = 128 * t.val + (16 * (l / 16) + i.val) by omega]
    exact h1
  · intro H k hk hg
    rw [e k hk]
    have h1 := H ⟨k % 16, Nat.mod_lt _ (by norm_num)⟩ (Finset.mem_univ _)
    rw [show 128 * t.val + k = 16 * (8 * t.val + l / 16) + k % 16 by omega]
    exact h1

theorem sb_at (am : EReal) (x1 : Vec Ideal S128x2048 .bf16) (h : Fin 2) (t : Fin 16) (r l : ℕ) (hr : r < 64) (hl : l < 128) :
    at2 (sbX (fun _ => am) x1 h) r (l / 16 * 16 + t.val) = sbF am (gA (bAt x1) (64 * h.val + r) (8 * t.val + l / 16)) := by
  rw [← amax_at x1 h t r l hr hl]
  rfl

theorem r_at (am : EReal) (x1 : Vec Ideal S128x2048 .bf16) (h : Fin 2) (t : Fin 16) (r l : ℕ) (hr : r < 64) (hl : l < 128) :
    at2 (rX (fun _ => am) x1 h) r (l / 16 * 16 + t.val) = rF am (gA (bAt x1) (64 * h.val + r) (8 * t.val + l / 16)) := by
  rw [← amax_at x1 h t r l hr hl]
  rfl

/-- The quotients of a tile. -/
theorem v_at (am : EReal) (x1 : Vec Ideal S128x2048 .bf16) (h : Fin 2) (t : Fin 16) (r l : ℕ) (hr : r < 64) (hl : l < 128) :
    at2 (vV (BitVec.ofNat 32 t.val) (zeroV fun _ => am) (rX (fun _ => am) x1 h) (tilesX x1 h t)) r l
      = vK am (gA (bAt x1) (64 * h.val + r) (8 * t.val + l / 16)) (bAt x1 (64 * h.val + r) (128 * t.val + l)) := by
  have e : at2 (vV (BitVec.ofNat 32 t.val) (zeroV fun _ => am) (rX (fun _ => am) x1 h) (tilesX x1 h t)) r l
      = clip (at2 (tilesX x1 h t) r l * at2 (dynamicGather 1 (rX (fun _ => am) x1 h) (gidx (tidx (BitVec.ofNat 32 t.val)))) r l + zeroF am) := rfl
  rw [e, gather_at _ _ r l _ (tidx_at t r l hl), tile_at x1 h t r l hr hl, r_at am x1 h t r l hr hl]
  rfl

/-- The stored values of a tile. -/
theorem xq_at (am : EReal) (x1 : Vec Ideal S128x2048 .bf16) (h : Fin 2) (t : Fin 16) (r l : ℕ) (hr : r < 64) (hl : l < 128) :
    at2 (xqV (BitVec.ofNat 32 t.val) (zeroV fun _ => am) (sbX (fun _ => am) x1 h) (rX (fun _ => am) x1 h) (tilesX x1 h t)) r l
      = xqS am (bAt x1) (64 * h.val + r) (128 * t.val + l) := by
  have e : at2 (xqV (BitVec.ofNat 32 t.val) (zeroV fun _ => am) (sbX (fun _ => am) x1 h) (rX (fun _ => am) x1 h) (tilesX x1 h t)) r l
      = qK (at2 (vV (BitVec.ofNat 32 t.val) (zeroV fun _ => am) (rX (fun _ => am) x1 h) (tilesX x1 h t)) r l)
        * at2 (dynamicGather 1 (sbX (fun _ => am) x1 h) (gidx (tidx (BitVec.ofNat 32 t.val)))) r l := rfl
  rw [e, v_at am x1 h t r l hr hl, gather_at _ _ r l _ (tidx_at t r l hl), sb_at am x1 h t r l hr hl]
  unfold xqS
  rw [show (128 * t.val + l) / 16 = 8 * t.val + l / 16 by omega]

/-- The stored codes of a tile. -/
theorem nib_at (am : EReal) (x1 : Vec Ideal S128x2048 .bf16) (h : Fin 2) (t : Fin 16) (r l : ℕ) (hr : r < 64) (hl : l < 128) :
    at2 (nibV (BitVec.ofNat 32 t.val) (zeroV fun _ => am) (rX (fun _ => am) x1 h) (tilesX x1 h t)) r l
      = (codeS am (bAt x1) (64 * h.val + r) (128 * t.val + l)).setWidth 8 := by
  have e : at2 (nibV (BitVec.ofNat 32 t.val) (zeroV fun _ => am) (rX (fun _ => am) x1 h) (tilesX x1 h t)) r l
      = (codeK (at2 (vV (BitVec.ofNat 32 t.val) (zeroV fun _ => am) (rX (fun _ => am) x1 h) (tilesX x1 h t)) r l)).setWidth 8 := by
    unfold nibV
    rw [shapeCast_self]
    rfl
  rw [e, v_at am x1 h t r l hr hl]
  unfold codeS
  rw [show (128 * t.val + l) / 16 = 8 * t.val + l / 16 by omega]

/-- The stored block scales of a row half. -/
theorem ord_sb_at (am : EReal) (x1 : Vec Ideal S128x2048 .bf16) (h : Fin 2) (r l : ℕ) (hr : r < 64) (hl : l < 128) :
    at2 (ordV (sbX (fun _ => am) x1 h)) r l = sS am (bAt x1) (64 * h.val + r) l := by
  have e : at2 (ordV (sbX (fun _ => am) x1 h)) r l = at2 (dynamicGather 1 (sbX (fun _ => am) x1 h) (gidx ordIdx)) r l := rfl
  have h1 := sb_at am x1 h ⟨l / 8, by omega⟩ r (l % 8 * 16) hr (by omega)
  rw [e, gather_at _ _ r l _ (ord_at r l hl), show l % 8 * 16 + l / 8 = l % 8 * 16 / 16 * 16 + l / 8 by omega, h1]
  unfold sS
  congr 2
  show 8 * (l / 8) + l % 8 * 16 / 16 = l
  omega

end Cert.QuantXIdeal.Hand

end
-- ==== Proof.QuantXScales.lean ====
/- What the body leaves in its scales window, at a row and a column. -/
module

public import proofs.«01_k».proof.Proof.QuantXBlock

@[expose] public section

set_option maxRecDepth 16384

noncomputable section

namespace Cert.QuantXIdeal.Hand

open Cert.QuantXIdeal Cert.QuantXIdeal.Gen Cert.QuantXIdeal.Value Cert.QuantX
open Idealize.ShloMosaic Idealize.ShloMosaic.TcCoe Idealize.ShloMosaic.Tactic Idealize.SL.Sem

/-- A store of a row half's scales, whatever its vector, when that is the half's. -/
theorem store4 (x0 : Vec Ideal S1x128 .f32) (x1 : Vec Ideal S128x2048 .bf16) (am : EReal) (hx0 : x0 = fun _ => am) (h : Fin 2) (p : ℕ) (hp : p = 64 * h.val)
    (P : FVec Ideal S64x128 .fp8e4m3) (hP : P = ordV (sbX x0 x1 h)) (x : S64x128.Idx) (y : S128x128.Idx)
    (hx : ∀ a, (y a).val = (![p, 0] : Fin 2 → ℕ) a + (x a).val) : P x = sS am (bAt x1) (y 0).val (y 1).val := by
  subst hx0 hp
  have h0 : (y 0).val = 64 * h.val + (x 0).val := hx 0
  have h1 : (y 1).val = 0 + (x 1).val := hx 1
  rw [hP, h0, h1, Nat.zero_add, ← ord_sb_at am x1 h _ _ (x 0).isLt (x 1).isLt]
  exact (congrArg _ (ixT_self x)).symm

/-- The scales window. -/
theorem out4 (c : Dev nD) (i : grid0.Coords) (arg2 : Memref sig .tc .vmem S1x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S128x2048 .i8) (harg7 : arg7.IsWhole)
    (x0 : Vec Ideal S1x128 .f32) (x1 : Vec Ideal S128x2048 .bf16) (am : EReal) (hx0 : x0 = fun _ => am) (y : S128x128.Idx) :
    out0_A_4 c i arg2 harg2 arg3 harg3 arg4 harg4 arg5 harg5 arg6 harg6 arg7 harg7 x0 x1 y = sS am (bAt x1) (y 0).val (y 1).val := by
  have hcov := cover0_A_4 c i arg2 harg2 arg3 harg3 arg4 harg4 arg5 harg5 arg6 harg6 arg7 harg7 x0 x1
  unfold out0_A_4
  rw [View.read_writes_eq_canon _ _ _ hcov]
  refine View.canon_eq_of_allAt _ y _ (hcov y) ?_
  clear hcov
  unfold kernelRun0_A
  dsimp only
  sl_unfold_words
  simp only [View.readAt_eq_ld, harg2.read_unread, harg3.read_unread, ld0]
  refine View.allAt_cons_unit _ _ _ _ _ ?_ (View.allAt_cons_unit _ _ _ _ _ ?_ (View.allAt_nil _ _))
  · intro x hx
    unfold_payloads
    refine store4 x0 x1 am hx0 1 64 rfl _ ?_ x y hx
    clear hx x y
    unfold ordV sbX sbV amaxV merge keepV permV absV gidx ordIdx laneV stV tilesX tileX
    dsimp only
    rfl
  · intro x hx
    unfold_payloads
    refine store4 x0 x1 am hx0 0 0 rfl _ ?_ x y hx
    clear hx x y
    unfold ordV sbX sbV amaxV merge keepV permV absV gidx ordIdx laneV stV tilesX tileX
    dsimp only
    rfl

end Cert.QuantXIdeal.Hand

end
-- ==== Proof.QuantXValues.lean ====
/- What the body leaves in its values window, at a row and a column. -/
module

public import proofs.«01_k».proof.Proof.QuantXBlock

@[expose] public section

set_option maxRecDepth 16384

noncomputable section

namespace Cert.QuantXIdeal.Hand

open Cert.QuantXIdeal Cert.QuantXIdeal.Gen Cert.QuantXIdeal.Value Cert.QuantX
open Idealize.ShloMosaic Idealize.ShloMosaic.TcCoe Idealize.ShloMosaic.Tactic Idealize.SL.Sem

/-- A store of a tile's values, whatever its vector, when that is the tile's. -/
theorem store2 (x0 : Vec Ideal S1x128 .f32) (x1 : Vec Ideal S128x2048 .bf16) (am : EReal) (hx0 : x0 = fun _ => am) (h : Fin 2) (t : Fin 16)
    (p q : ℕ) (hp : p = 64 * h.val) (hq : q = 128 * t.val)
    (P : FVec Ideal S64x128 .bf16) (hP : P = xqV (BitVec.ofNat 32 t.val) (zeroV x0) (sbX x0 x1 h) (rX x0 x1 h) (tilesX x1 h t)) (x : S64x128.Idx) (y : S128x2048.Idx)
    (hx : ∀ a, (y a).val = (![p, q] : Fin 2 → ℕ) a + (x a).val) : P x = xqS am (bAt x1) (y 0).val (y 1).val := by
  subst hx0 hp hq
  have h0 : (y 0).val = 64 * h.val + (x 0).val := hx 0
  have h1 : (y 1).val = 128 * t.val + (x 1).val := hx 1
  rw [hP, h0, h1, ← xq_at am x1 h t _ _ (x 0).isLt (x 1).isLt]
  exact (congrArg _ (ixT_self x)).symm

/-- The values window. -/
theorem out2 (c : Dev nD) (i : grid0.Coords) (arg2 : Memref sig .tc .vmem S1x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S128x2048 .i8) (harg7 : arg7.IsWhole)
    (x0 : Vec Ideal S1x128 .f32) (x1 : Vec Ideal S128x2048 .bf16) (am : EReal) (hx0 : x0 = fun _ => am) (y : S128x2048.Idx) :
    out0_A_2 c i arg2 harg2 arg3 harg3 arg4 harg4 arg5 harg5 arg6 harg6 arg7 harg7 x0 x1 y = xqS am (bAt x1) (y 0).val (y 1).val := by
  have hcov := cover0_A_2 c i arg2 harg2 arg3 harg3 arg4 harg4 arg5 harg5 arg6 harg6 arg7 harg7 x0 x1
  unfold out0_A_2
  rw [View.read_writes_eq_canon _ _ _ hcov]
  refine View.canon_eq_of_allAt _ y _ (hcov y) ?_
  clear hcov
  unfold kernelRun0_A
  dsimp only
  sl_unfold_words
  simp only [View.readAt_eq_ld, harg2.read_unread, harg3.read_unread, ld0]
  refine View.allAt_cons_unit _ _ _ _ _ ?_ ?_
  · intro x hx
    unfold_payloads
    refine store2 x0 x1 am hx0 1 15 64 1920 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 14 64 1792 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 13 64 1664 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 12 64 1536 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 11 64 1408 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 10 64 1280 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 9 64 1152 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 8 64 1024 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 7 64 896 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 6 64 768 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 5 64 640 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 4 64 512 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 3 64 384 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 2 64 256 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 1 64 128 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 1 0 64 0 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 15 0 1920 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 14 0 1792 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 13 0 1664 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 12 0 1536 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 11 0 1408 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 10 0 1280 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 9 0 1152 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 8 0 1024 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 7 0 896 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 6 0 768 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 5 0 640 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 4 0 512 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 3 0 384 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 2 0 256 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 1 0 128 rfl rfl _ ?_ x y hx
    clear hx x y
    unfold xqV vV qV nV stepV rX rV sbX sbV amaxV merge keepV permV absV gidx tidx laneV stV zeroV tilesX tileX
    dsimp only
    rfl
  refine View.allAt_cons_unit _ _ _ _ _ ?_ ?_
  · intro x hx
    unfold_payloads
    refine store2 x0 x1 am hx0 0 0 0 0 rfl rfl _ ?_ x y hx
    clear hx x y
    unfold xqV vV qV nV stepV rX rV sbX sbV amaxV merge keepV permV absV gidx tidx laneV stV zeroV tilesX tileX
    dsimp only
    rfl
  exact View.allAt_nil _ _

end Cert.QuantXIdeal.Hand

end
-- ==== Proof.QuantXCodes.lean ====
/- What the body leaves in its codes window, at a row and a column. -/
module

public import proofs.«01_k».proof.Proof.QuantXBlock
public import Idealize.ShloMosaic.Lib.ValueLayout

@[expose] public section

set_option maxRecDepth 16384

noncomputable section

namespace Cert.QuantXIdeal.Hand

open Cert.QuantXIdeal Cert.QuantXIdeal.Gen Cert.QuantXIdeal.Value Cert.QuantX
open Idealize.ShloMosaic Idealize.ShloMosaic.TcCoe Idealize.ShloMosaic.Tactic Idealize.SL.Sem

theorem setWidth_pack (a b : BitVec 32) :
    ((a.setWidth 8).setWidth 32 ||| (b.setWidth 8).setWidth 32 <<< 4).setWidth 8 = (a ||| b <<< 4).setWidth 8 := by
  ext i hi
  simp only [BitVec.getElem_setWidth, BitVec.getLsbD_or, BitVec.getLsbD_setWidth, BitVec.getLsbD_shiftLeft]
  have h1 : decide (i < 32) = true := decide_eq_true (by omega)
  have h2 : decide (i < 8) = true := decide_eq_true hi
  have h3 : decide (i - 4 < 32) = true := decide_eq_true (by omega)
  have h4 : decide (i - 4 < 8) = true := decide_eq_true (by omega)
  simp only [h1, h2, h3, h4, Bool.true_and]

theorem pay429_at (N : Vec Ideal S128x2048 .i8) (j : Fin 1024) (e : Fin 2) (a : Fin 128) :
    k0_pay429 N (ValueIdx.ix3 j e a) = BitVec.setWidth 32 (N (ValueIdx.ix2 a ⟨2 * j.val + e.val, by omega⟩) : BitVec 8) := by
  unfold k0_pay429
  dsimp only
  rw [shapeCast_apply _ _ (ValueIdx.ix3 j e a) (ValueIdx.ix2 ⟨2 * j.val + e.val, by omega⟩ a : S2048x128.Idx) (by
    rw [Shape.rowMajor_val_three, Shape.rowMajor_val_two]
    show (2 * j.val + e.val) * 128 + a.val = (j.val * 2 + e.val) * 128 + a.val
    ring)]
  show BitVec.setWidth 32 (transpose S2048x128 [1, 0] N transposes_S128x2048_p1_0_S2048x128 _) = _
  rw [ValueIdx.transpose_ix2_apply]

theorem slice_at (A : IVec S1024x2x128 32) (e : Fin 2) (h : S1024x2x128.Slices ![0, e.val, 0] S1024x1x128) (j : Fin 1024) (a : Fin 128) :
    shapeCast S1024x128 (extractStridedSlice S1024x1x128 ![0, e.val, 0] A h) shapeCasts_S1024x1x128_S1024x128 (ValueIdx.ix2 j a)
      = A (ValueIdx.ix3 j e a) := by
  rw [shapeCast_apply _ _ (ValueIdx.ix2 j a) (ValueIdx.ix3 j (0 : Fin 1) a : S1024x1x128.Idx) (by
    rw [Shape.rowMajor_val_three, Shape.rowMajor_val_two]
    show (j.val * 1 + 0) * 128 + a.val = j.val * 128 + a.val
    ring)]
  exact ValueIdx.slice3_axis1_apply e.val A h j 0 a e rfl

/-- The store of the packed codes, whatever the scratch's vector, when its elements are the codes. -/
theorem store3 (C : ℕ → ℕ → BitVec 32) (N : Vec Ideal S128x2048 .i8) (hN : N = fun z => (C (z 0).val (z 1).val).setWidth 8) (x y : S128x1024.Idx)
    (hx : ∀ a, (y a).val = (![0, 0] : Fin 2 → ℕ) a + (x a).val) :
    k0_pay1 (k0_pay429 N) (k0_pay430 N) x = packS C (y 0).val (y 1).val := by
  have h0 : (y 0).val = 0 + (x 0).val := hx 0
  have h1 : (y 1).val = 0 + (x 1).val := hx 1
  rw [h0, h1, Nat.zero_add, Nat.zero_add]
  have ex : x = (ValueIdx.ix2 (⟨(x 0).val, (x 0).isLt⟩ : Fin 128) (⟨(x 1).val, (x 1).isLt⟩ : Fin 1024) : S128x1024.Idx) := by
    funext a
    match a with
    | ⟨0, _⟩ => rfl
    | ⟨1, _⟩ => rfl
  rw [ex]
  generalize (⟨(x 0).val, (x 0).isLt⟩ : Fin 128) = a
  generalize (⟨(x 1).val, (x 1).isLt⟩ : Fin 1024) = j
  unfold k0_pay1 k0_pay430
  dsimp only
  rw [ValueIdx.transpose_ix2_apply]
  show BitVec.setWidth 8 (shapeCast S1024x128 (extractStridedSlice S1024x1x128 ![0, (0 : Fin 2).val, 0] (k0_pay429 N) slices_S1024x2x128_o0_0_0_S1024x1x128) shapeCasts_S1024x1x128_S1024x128 (ValueIdx.ix2 j a)
    ||| IntOp.shli .vector (shapeCast S1024x128 (extractStridedSlice S1024x1x128 ![0, (1 : Fin 2).val, 0] (k0_pay429 N) slices_S1024x2x128_o0_1_0_S1024x1x128) shapeCasts_S1024x1x128_S1024x128 (ValueIdx.ix2 j a)) 4#32) = _
  rw [slice_at, slice_at, pay429_at, pay429_at, hN]
  exact setWidth_pack _ _

/-- A store of a tile's codes, whatever its vector, when that is the tile's. -/
theorem store7 (x0 : Vec Ideal S1x128 .f32) (x1 : Vec Ideal S128x2048 .bf16) (am : EReal) (hx0 : x0 = fun _ => am) (h : Fin 2) (t : Fin 16)
    (p q : ℕ) (hp : p = 64 * h.val) (hq : q = 128 * t.val)
    (P : IVec S64x128 8) (hP : P = nibV (BitVec.ofNat 32 t.val) (zeroV x0) (rX x0 x1 h) (tilesX x1 h t)) (x : S64x128.Idx) (y : S128x2048.Idx)
    (hx : ∀ a, (y a).val = (![p, q] : Fin 2 → ℕ) a + (x a).val) : P x = (codeS am (bAt x1) (y 0).val (y 1).val).setWidth 8 := by
  subst hx0 hp hq
  have h0 : (y 0).val = 64 * h.val + (x 0).val := hx 0
  have h1 : (y 1).val = 128 * t.val + (x 1).val := hx 1
  rw [hP, h0, h1, ← nib_at am x1 h t _ _ (x 0).isLt (x 1).isLt]
  exact (congrArg _ (ixT_self x)).symm

/-- A whole read of a covered scratch, piece by piece. -/
theorem read7 (v : View sig .tc .vmem S128x2048 .i8) (L : List (View.Piece (Elt Ideal) S128x2048 .i8))
    (inb : ∀ a, (![0, 0] : Fin 2 → ℕ) a + S128x2048.size a ≤ S128x2048.size a) (f : Vec Ideal S128x2048 .i8)
    (hL : View.Piece.tiledL L S64x128.size = true) (h : ∀ y, View.AllAt L y (f y)) :
    v.readCov L (Rect.unit (s := S128x2048) ![0, 0] S128x2048.size inb).toLoadRect = f := by
  have hc := View.cover_of_tiledL L S64x128.size hL
  rw [View.readCov_eq_canon_ld _ _ _ hc, View.ld_unit_zero (S := S128x2048) hz]
  funext y
  exact View.canon_eq_of_allAt L y _ (hc y) (h y)

/-- The codes window: the code of an even column, and of the odd one after it four bits up. -/
theorem out3 (c : Dev nD) (i : grid0.Coords) (arg2 : Memref sig .tc .vmem S1x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x1024 .i8) (harg5 : arg5.IsWhole) (arg6 : Memref sig .tc .vmem S128x128 .fp8e4m3) (harg6 : arg6.IsWhole) (arg7 : Memref sig .tc .vmem S128x2048 .i8) (harg7 : arg7.IsWhole)
    (x0 : Vec Ideal S1x128 .f32) (x1 : Vec Ideal S128x2048 .bf16) (am : EReal) (hx0 : x0 = fun _ => am) (y : S128x1024.Idx) :
    out0_A_3 c i arg2 harg2 arg3 harg3 arg4 harg4 arg5 harg5 arg6 harg6 arg7 harg7 x0 x1 y = packS (codeS am (bAt x1)) (y 0).val (y 1).val := by
  have hcov := cover0_A_3 c i arg2 harg2 arg3 harg3 arg4 harg4 arg5 harg5 arg6 harg6 arg7 harg7 x0 x1
  unfold out0_A_3
  rw [View.read_writes_eq_canon _ _ _ hcov]
  refine View.canon_eq_of_allAt _ y _ (hcov y) ?_
  clear hcov
  unfold kernelRun0_A
  dsimp only
  sl_unfold_words
  refine View.allAt_cons_unit _ _ _ _ _ ?_ (View.allAt_nil _ _)
  intro x hx
  refine store3 (codeS am (bAt x1)) _ ?_ x y hx
  clear hx x y
  refine read7 _ _ _ _ (by sl_kernel_rfl) fun y => ?_
  simp only [View.readAt_eq_ld, harg2.read_unread, harg3.read_unread, ld0]
  refine View.allAt_cons_unit _ _ _ _ _ ?_ ?_
  · intro x hx
    unfold_payloads
    refine store7 x0 x1 am hx0 1 15 64 1920 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 14 64 1792 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 13 64 1664 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 12 64 1536 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 11 64 1408 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 10 64 1280 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 9 64 1152 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 8 64 1024 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 7 64 896 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 6 64 768 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 5 64 640 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 4 64 512 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 3 64 384 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 2 64 256 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 1 64 128 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 1 0 64 0 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 15 0 1920 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 14 0 1792 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 13 0 1664 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 12 0 1536 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 11 0 1408 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 10 0 1280 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 9 0 1152 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 8 0 1024 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 7 0 896 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 6 0 768 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 5 0 640 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 4 0 512 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 3 0 384 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 2 0 256 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 1 0 128 rfl rfl _ ?_ x y hx
    clear hx x y
    unfold nibV vV codeV nV stepV rX rV sbX sbV amaxV merge keepV permV absV gidx tidx laneV stV zeroV tilesX tileX
    dsimp only
    rfl
  refine View.allAt_cons_unit _ _ _ _ _ ?_ ?_
  · intro x hx
    unfold_payloads
    refine store7 x0 x1 am hx0 0 0 0 0 rfl rfl _ ?_ x y hx
    clear hx x y
    unfold nibV vV codeV nV stepV rX rV sbX sbV amaxV merge keepV permV absV gidx tidx laneV stV zeroV tilesX tileX
    dsimp only
    rfl
  exact View.allAt_nil _ _

end Cert.QuantXIdeal.Hand

end
-- ==== Proof.QuantXRef.lean ====
/- The reference's arrays at a row and a column: the same scalar quantiser, on the array's own runs of sixteen. -/
module

public import proofs.«01_k».proof.Proof.Gen.QuantXRefIdeal.Value
public import proofs.«01_k».proof.Proof.QuantXScalar
public import proofs.«01_k».proof.Proof.QuantXPack
public import proofs.«01_k».proof.Proof.MaxBounds
public import Idealize.ShloMosaic.Lib.ValueLayout
public import Idealize.ShloMosaic.Lib.Pointwise

@[expose] public section

set_option maxRecDepth 16384

noncomputable section

namespace Cert.QuantXRefIdeal.Hand

open Cert.QuantXRefIdeal Cert.QuantXRefIdeal.Gen Cert.QuantXRefIdeal.Value Cert.QuantX Cert.MaxBounds
open Idealize.ShloMosaic Idealize.ShloMosaic.TcCoe Idealize.ShloMosaic.Tactic Idealize.SL.Sem

/-- The array's element at a row and a column. -/
def arr (X : S6144x12288.Idx → EReal) (a b : ℕ) : EReal :=
  X (fun d => match d with
    | ⟨0, _⟩ => ⟨a % 6144, Nat.mod_lt _ (by norm_num)⟩
    | ⟨1, _⟩ => ⟨b % 12288, Nat.mod_lt _ (by norm_num)⟩)

theorem arr_ix (X : S6144x12288.Idx → EReal) (a : Fin 6144) (b : Fin 12288) : X (ValueIdx.ix2 a b) = arr X a.val b.val := by
  unfold arr
  congr 1
  funext d
  match d with
  | ⟨0, _⟩ => exact Fin.ext (Nat.mod_eq_of_lt a.isLt).symm
  | ⟨1, _⟩ => exact Fin.ext (Nat.mod_eq_of_lt b.isLt).symm

/-- The tensor amax. -/
def am1 (a1 : S1x1.Idx → EReal) : EReal := a1 (ValueIdx.ix2 0 0)

variable (a0 : Vec Ideal S6144x12288 .bf16) (a1 : Vec Ideal S1x1 .f32)

theorem ld_a1 : (View.ld a1 r0_0 : Vec Ideal S1x1 .f32) = a1 := View.ld_unit_zero (S := S1x1) (funext fun a => by fin_cases a <;> rfl) _ a1
theorem ld_a0 : (View.ld a0 r0_1 : Vec Ideal S6144x12288 .bf16) = a0 := View.ld_unit_zero (S := S6144x12288) (funext fun a => by fin_cases a <;> rfl) _ a0

theorem p3 : k0_pay3 a1 = stF (am1 a1) := by
  unfold k0_pay3 am1 stF
  dsimp only
  have e : extractAt ![0, 0] a1 inpos_S1x1_p0_0 = a1 (ValueIdx.ix2 0 0) := by
    unfold extractAt
    congr 1
    funext d
    match d with
    | ⟨0, _⟩ => rfl
    | ⟨1, _⟩ => rfl
  rw [e]
  rfl

theorem p4 (a : Fin 6144) (k : Fin 768) (i : Fin 16) : k0_pay4 a0 (ValueIdx.ix3 a k i) = arr a0 a.val (16 * k.val + i.val) := by
  unfold k0_pay4
  rw [shapeCast_apply _ _ (ValueIdx.ix3 a k i) (ValueIdx.ix2 a ⟨16 * k.val + i.val, by omega⟩ : S6144x12288.Idx) (by
    rw [Shape.rowMajor_val_three, Shape.rowMajor_val_two]
    show a.val * 12288 + (16 * k.val + i.val) = (a.val * 768 + k.val) * 16 + i.val
    ring)]
  exact arr_ix a0 a ⟨16 * k.val + i.val, by omega⟩

/-- The reduction over the last axis. -/
theorem red (a : Fin 6144) (k : Fin 768) :
    multiReduction (F := Ideal) .maximumf [2] S6144x768 (absf (k0_pay4 a0)) 0xFF800000#32 reduces_S6144x768x16_S6144x768 (.inl rfl) rfl (ValueIdx.ix2 a k)
      = gA (arr a0) a.val k.val := by
  refine eq_of_forall_ge_iff fun u => ?_
  refine (multiReduction_le_iff _ reduces_S6144x768x16_S6144x768 (.inl rfl) rfl _ u).trans ?_
  unfold gA
  rw [Finset.sup_le_iff]
  constructor
  · intro H i _
    have h := H (ValueIdx.ix3 a k i) (by
      funext b
      match b with
      | ⟨0, _⟩ => exact Fin.ext (reduces_S6144x768x16_S6144x768.drop_apply_val_of_eq (ValueIdx.ix3 a k i) 0 0)
      | ⟨1, _⟩ => exact Fin.ext (reduces_S6144x768x16_S6144x768.drop_apply_val_of_eq (ValueIdx.ix3 a k i) 1 1))
    rw [← p4 a0 a k i]
    exact h
  · intro H i hi
    have h0 : (i 0).val = a.val := by
      have := congrArg (fun j => (j 0).val) hi
      rwa [Shape.Reduces.drop_apply_val_of_eq _ _ _ 0] at this
    have h1 : (i 1).val = k.val := by
      have := congrArg (fun j => (j 1).val) hi
      rwa [Shape.Reduces.drop_apply_val_of_eq _ _ _ 1] at this
    have ei : i = ValueIdx.ix3 a k (⟨(i 2).val, (i 2).isLt⟩ : Fin 16) := by
      funext b
      match b with
      | ⟨0, _⟩ => exact Fin.ext h0
      | ⟨1, _⟩ => exact Fin.ext h1
      | ⟨2, _⟩ => rfl
    have h := H ⟨(i 2).val, (i 2).isLt⟩ (Finset.mem_univ _)
    rw [← p4 a0 a k ⟨(i 2).val, (i 2).isLt⟩, ← ei] at h
    exact h

theorem p5 (a : Fin 6144) (k : Fin 768) : k0_pay5 a1 a0 (ValueIdx.ix2 a k) = sS (am1 a1) (arr a0) a.val k.val := by
  unfold sS sbF
  rw [← red a0 a k, ← p3 a1]
  rfl

/-- A run's number, spread over its sixteen places. -/
theorem spread {α : Type} (v : S6144x768.Idx → α) (a : Fin 6144) (k : Fin 768) (i : Fin 16) :
    broadcastTo S6144x768x16 (shapeCast S6144x768x1 v shapeCasts_S6144x768_S6144x768x1) broadcasts_S6144x768x1_S6144x768x16 (ValueIdx.ix3 a k i)
      = v (ValueIdx.ix2 a k) := by
  unfold broadcastTo
  refine shapeCast_apply _ _ _ _ ?_
  rw [Shape.rowMajor_val_three, Shape.rowMajor_val_two]
  show a.val * 768 + k.val = (a.val * 768 + k.val) * 1 + 0
  ring

theorem p6 (a : Fin 6144) (k : Fin 768) (i : Fin 16) :
    k0_pay6 a1 a0 (ValueIdx.ix3 a k i) = vR (am1 a1) (gA (arr a0) a.val k.val) (arr a0 a.val (16 * k.val + i.val)) := by
  have h5 : sbF (am1 a1) (gA (arr a0) a.val k.val)
      = broadcastTo S6144x768x16 (shapeCast S6144x768x1 (k0_pay5 a1 a0) shapeCasts_S6144x768_S6144x768x1) broadcasts_S6144x768x1_S6144x768x16 (ValueIdx.ix3 a k i) := by
    rw [spread, p5]
    rfl
  unfold vR posF dF
  rw [h5, ← p4 a0 a k i, ← p3 a1]
  unfold k0_pay6
  rw [shapeCast_self]
  rfl

/-- The reference's code at an index. -/
theorem code (x : S6144x768x16.Idx) :
    k0_pay12 (k0_pay6 a1 a0) (k0_pay7 a1 a0) (k0_pay8 a1 a0) (k0_pay9 a1 a0) (k0_pay10 a1 a0) (k0_pay11 a1 a0) x = codeR (k0_pay6 a1 a0 x) := by
  unfold k0_pay8 k0_pay9 k0_pay10 k0_pay11 k0_pay7 k0_pay12
  generalize k0_pay6 a1 a0 = v
  rfl

/-- The scales. -/
theorem G4_at (a : Fin 6144) (k : Fin 768) : G4 (F := Ideal) a0 a1 (ValueIdx.ix2 a k) = sS (am1 a1) (arr a0) a.val k.val := by
  show k0_pay17 a0 a1 _ = _
  unfold k0_pay17
  rw [ld_a0, ld_a1, p5]

/-- The codes. -/
theorem G3_at (h : 0 ≤ am1 a1) (a : Fin 6144) (j : Fin 6144) :
    G3 (F := Ideal) a0 a1 (ValueIdx.ix2 a j) = packS (codeS (am1 a1) (arr a0)) a.val j.val := by
  show k0_pay2 _ _ = _
  unfold k0_pay18 k0_pay19 k0_pay20 k0_pay21 k0_pay22 k0_pay23
  rw [ld_a0, ld_a1]
  generalize hC : k0_pay12 (k0_pay6 a1 a0) (k0_pay7 a1 a0) (k0_pay8 a1 a0) (k0_pay9 a1 a0) (k0_pay10 a1 a0) (k0_pay11 a1 a0) = C
  have hc : ∀ e : Fin 2, shapeCast S6144x6144x2 C shapeCasts_S6144x768x16_S6144x6144x2 (ValueIdx.ix3 a j e)
      = codeS (am1 a1) (arr a0) a.val (2 * j.val + e.val) := by
    intro e
    have he := e.isLt
    rw [shapeCast_apply _ _ (ValueIdx.ix3 a j e) (ValueIdx.ix3 a (⟨(2 * j.val + e.val) / 16, by omega⟩ : Fin 768)
        (⟨(2 * j.val + e.val) % 16, Nat.mod_lt _ (by norm_num)⟩ : Fin 16) : S6144x768x16.Idx) (by
      rw [Shape.rowMajor_val_three, Shape.rowMajor_val_three]
      show (a.val * 768 + (2 * j.val + e.val) / 16) * 16 + (2 * j.val + e.val) % 16 = (a.val * 6144 + j.val) * 2 + e.val
      omega)]
    rw [← hC, code, p6, ← vK_eq_vR _ _ _ h]
    unfold codeS
    rw [show 16 * ((2 * j.val + e.val) / 16) + (2 * j.val + e.val) % 16 = 2 * j.val + e.val by omega]
    exact (dec_code_clip _).2
  have hs : ∀ (e : Fin 2) (hs : S6144x6144x2.Slices ![0, 0, e.val] S6144x6144x1),
      shapeCast S6144x6144 (extractStridedSlice S6144x6144x1 ![0, 0, e.val] (shapeCast S6144x6144x2 C shapeCasts_S6144x768x16_S6144x6144x2) hs)
        shapeCasts_S6144x6144x1_S6144x6144 (ValueIdx.ix2 a j) = codeS (am1 a1) (arr a0) a.val (2 * j.val + e.val) := by
    intro e hs
    rw [shapeCast_apply _ _ (ValueIdx.ix2 a j) (ValueIdx.ix3 a j (0 : Fin 1) : S6144x6144x1.Idx) (by
      rw [Shape.rowMajor_val_three, Shape.rowMajor_val_two]
      show (a.val * 6144 + j.val) * 1 + 0 = a.val * 6144 + j.val
      ring)]
    rw [extractStridedSlice_apply _ _ _ _ (ValueIdx.ix3 a j e) (fun ax => by
      match ax with
      | ⟨0, _⟩ => show a.val = 0 + a.val; omega
      | ⟨1, _⟩ => show j.val = 0 + j.val; omega
      | ⟨2, _⟩ => show e.val = e.val + 0; omega)]
    exact hc e
  show BitVec.setWidth 8 (shapeCast S6144x6144 (extractStridedSlice S6144x6144x1 ![0, 0, (0 : Fin 2).val] (shapeCast S6144x6144x2 C shapeCasts_S6144x768x16_S6144x6144x2) slices_S6144x6144x2_o0_0_0_S6144x6144x1)
        shapeCasts_S6144x6144x1_S6144x6144 (ValueIdx.ix2 a j)
      ||| IntOp.shli .vector (shapeCast S6144x6144 (extractStridedSlice S6144x6144x1 ![0, 0, (1 : Fin 2).val] (shapeCast S6144x6144x2 C shapeCasts_S6144x768x16_S6144x6144x2) slices_S6144x6144x2_o0_0_1_S6144x6144x1)
        shapeCasts_S6144x6144x1_S6144x6144 (ValueIdx.ix2 a j)) 4#32) = _
  rw [hs, hs]
  rfl

/-- The values. -/
theorem G2_at (h : 0 ≤ am1 a1) (a : Fin 6144) (b : Fin 12288) :
    G2 (F := Ideal) a0 a1 (ValueIdx.ix2 a b) = xqS (am1 a1) (arr a0) a.val b.val := by
  show k0_pay1 _ _ _ _ _ _ _ = _
  unfold k0_pay17 k0_pay18 k0_pay19 k0_pay20 k0_pay21 k0_pay22 k0_pay23
  rw [ld_a0, ld_a1]
  unfold k0_pay1 k0_pay13 k0_pay14 k0_pay15 k0_pay16
  dsimp only
  rw [shapeCast_apply _ _ (ValueIdx.ix2 a b) (ValueIdx.ix3 a (⟨b.val / 16, by omega⟩ : Fin 768)
      (⟨b.val % 16, Nat.mod_lt _ (by norm_num)⟩ : Fin 16) : S6144x768x16.Idx) (by
    rw [Shape.rowMajor_val_three, Shape.rowMajor_val_two]
    show (a.val * 768 + b.val / 16) * 16 + b.val % 16 = a.val * 12288 + b.val
    omega)]
  have hs := spread (k0_pay5 a1 a0) a (⟨b.val / 16, by omega⟩ : Fin 768) (⟨b.val % 16, Nat.mod_lt _ (by norm_num)⟩ : Fin 16)
  have e : xqS (am1 a1) (arr a0) a.val b.val
      = decR (k0_pay12 (k0_pay6 a1 a0) (k0_pay7 a1 a0) (k0_pay8 a1 a0) (k0_pay9 a1 a0) (k0_pay10 a1 a0) (k0_pay11 a1 a0)
          (ValueIdx.ix3 a (⟨b.val / 16, by omega⟩ : Fin 768) (⟨b.val % 16, Nat.mod_lt _ (by norm_num)⟩ : Fin 16)))
        * broadcastTo S6144x768x16 (shapeCast S6144x768x1 (k0_pay5 a1 a0) shapeCasts_S6144x768_S6144x768x1) broadcasts_S6144x768x1_S6144x768x16
          (ValueIdx.ix3 a (⟨b.val / 16, by omega⟩ : Fin 768) (⟨b.val % 16, Nat.mod_lt _ (by norm_num)⟩ : Fin 16)) := by
    rw [hs, code, p6, p5, ← vK_eq_vR _ _ _ h]
    unfold xqS sS
    rw [show 16 * (b.val / 16) + b.val % 16 = b.val by omega]
    exact congrArg (· * _) (dec_code_clip _).1.symm
  rw [e]
  rfl

end Cert.QuantXRefIdeal.Hand

end
-- ==== Proof.QuantXArrays.lean ====
/- The three arrays the `quant_x` call leaves: each block is the quantiser of the input block, so each array is the quantiser
   of the input array. -/
module

public import proofs.«01_k».proof.Proof.Gen.QuantXIdeal.Value
public import proofs.«01_k».proof.Proof.QuantXScales
public import proofs.«01_k».proof.Proof.QuantXValues
public import proofs.«01_k».proof.Proof.QuantXCodes
public import proofs.«01_k».proof.Proof.QuantXRef

@[expose] public section

noncomputable section

namespace Cert.QuantXIdeal.Hand

open Cert.QuantXIdeal Cert.QuantXIdeal.Gen Cert.QuantXIdeal.Value Cert.QuantX Idealize.ShloMosaic Idealize.ShloMosaic.TcCoe Idealize.SL.Sem
open Cert.QuantXRefIdeal.Hand (arr arr_ix am1)

variable (m : (ℓ : Loc nD τ sig) → Buf (Elt Ideal) ℓ)

/-- The input array as launched. -/
def X (c : Dev nD) : Vec Ideal S6144x12288 .bf16 := m ((c : Thread nD τ).loc main_arg0)

/-- The tensor's maximum as launched. -/
def A1 (c : Dev nD) : Vec Ideal S1x1 .f32 := m ((c : Thread nD τ).loc main_arg1)

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 2) = t.val / 6 ∧ win0_1.index t (1 : Fin 2) = t.val % 6 :=
  (by decide +kernel : ∀ t : Fin grid0.N, _)

theorem idx2 : ∀ t : Fin cfg0.N, win0_2.index t (0 : Fin 2) = t.val / 6 ∧ win0_2.index t (1 : Fin 2) = t.val % 6 :=
  (by decide +kernel : ∀ t : Fin grid0.N, _)

theorem idx3 : ∀ t : Fin cfg0.N, win0_3.index t (0 : Fin 2) = t.val / 6 ∧ win0_3.index t (1 : Fin 2) = t.val % 6 :=
  (by decide +kernel : ∀ t : Fin grid0.N, _)

theorem idx4 : ∀ t : Fin cfg0.N, win0_4.index t (0 : Fin 2) = t.val / 6 ∧ win0_4.index t (1 : Fin 2) = t.val % 6 :=
  (by decide +kernel : ∀ t : Fin grid0.N, _)

theorem V_main_v0 (c : Dev nD) : V m c main_v0 = broadcastInDim S1x128 ![0, 1] bcast_S1x1_S1x128_0_1 (A1 m c) :=
  (rfl : V m c main_v0 = (StableHlo.unary main_arg1 main_v0 (broadcastInDim S1x128 ![0, 1] bcast_S1x1_S1x128_0_1 : (⟨S1x1, .f32⟩ : BufTy).Contents (Elt Ideal) → (⟨S1x128, .f32⟩ : BufTy).Contents (Elt Ideal))).result (fun b => m (c, b)) (Proc.tc.devRef main_v0)).trans <| StableHlo.unary_result (Val := Elt Ideal) main_arg1 main_v0
    (broadcastInDim S1x128 ![0, 1] bcast_S1x1_S1x128_0_1 : (⟨S1x1, .f32⟩ : BufTy).Contents (Elt Ideal) → (⟨S1x128, .f32⟩ : BufTy).Contents (Elt Ideal)) _ _ (fun b => m (c, b))

/-- Every lane of the first window's block is the tensor's maximum. -/
theorem blk_am (c : Dev nD) (t : Fin cfg0.N) : (iblk m c 0 t : Vec Ideal S1x128 .f32) = fun _ => am1 (A1 m c) := by
  funext y
  unfold iblk
  rw [View.read_apply]
  show V m c main_v0 _ = _
  rw [V_main_v0]
  unfold broadcastInDim am1
  congr 1
  funext x; apply Fin.ext
  match x with
  | ⟨0, _⟩ => rfl
  | ⟨1, _⟩ => rfl

/-- The input block at a point. -/
theorem blk_x (c : Dev nD) (t : Fin cfg0.N) (a b : ℕ) (ha : a < 128) (hb : b < 2048) :
    bAt (iblk m c 1 t) a b = arr (X m c) (128 * (t.val / 6) + a) (2048 * (t.val % 6) + b) := by
  have hN : t.val < 288 := lt_of_lt_of_eq t.isLt (show cfg0.N = 288 from N_0)
  have h := idx1 t
  unfold bAt iblk
  rw [View.read_apply]
  show V m c main_arg0 _ = _
  rw [V_main_arg0]
  unfold arr X
  show _ = m _ _
  congr 1
  funext x; apply Fin.ext
  match x with
  | ⟨0, _⟩ =>
    show win0_1.index t 0 * 128 + 1 * (a % 128) = (128 * (t.val / 6) + a) % 6144
    rw [h.1]; omega
  | ⟨1, _⟩ =>
    show win0_1.index t 1 * 2048 + 1 * (b % 2048) = (2048 * (t.val % 6) + b) % 12288
    rw [h.2]; omega

/-- The maximum magnitude of a run of the block. -/
theorem gA_blk (c : Dev nD) (t : Fin cfg0.N) (a k : ℕ) (ha : a < 128) (hk : k < 128) :
    gA (bAt (iblk m c 1 t)) a k = gA (arr (X m c)) (128 * (t.val / 6) + a) (128 * (t.val % 6) + k) := by
  unfold gA
  refine Finset.sup_congr rfl fun i _ => ?_
  have := i.isLt
  rw [blk_x m c t a _ ha (by omega)]
  congr 2
  omega

theorem sS_blk (am : EReal) (c : Dev nD) (t : Fin cfg0.N) (a k : ℕ) (ha : a < 128) (hk : k < 128) :
    sS am (bAt (iblk m c 1 t)) a k = sS am (arr (X m c)) (128 * (t.val / 6) + a) (128 * (t.val % 6) + k) := by
  unfold sS
  rw [gA_blk m c t a k ha hk]

theorem xqS_blk (am : EReal) (c : Dev nD) (t : Fin cfg0.N) (a b : ℕ) (ha : a < 128) (hb : b < 2048) :
    xqS am (bAt (iblk m c 1 t)) a b = xqS am (arr (X m c)) (128 * (t.val / 6) + a) (2048 * (t.val % 6) + b) := by
  unfold xqS
  rw [gA_blk m c t a _ ha (by omega), blk_x m c t a b ha hb, show (2048 * (t.val % 6) + b) / 16 = 128 * (t.val % 6) + b / 16 by omega]

theorem codeS_blk (am : EReal) (c : Dev nD) (t : Fin cfg0.N) (a b : ℕ) (ha : a < 128) (hb : b < 2048) :
    codeS am (bAt (iblk m c 1 t)) a b = codeS am (arr (X m c)) (128 * (t.val / 6) + a) (2048 * (t.val % 6) + b) := by
  unfold codeS
  rw [gA_blk m c t a _ ha (by omega), blk_x m c t a b ha hb, show (2048 * (t.val % 6) + b) / 16 = 128 * (t.val % 6) + b / 16 by omega]

theorem packS_blk (am : EReal) (c : Dev nD) (t : Fin cfg0.N) (a j : ℕ) (ha : a < 128) (hj : j < 1024) :
    packS (codeS am (bAt (iblk m c 1 t))) a j = packS (codeS am (arr (X m c))) (128 * (t.val / 6) + a) (1024 * (t.val % 6) + j) := by
  unfold packS
  rw [codeS_blk m am c t a _ ha (by omega), codeS_blk m am c t a _ ha (by omega),
    show 2048 * (t.val % 6) + (2 * j + 1) = 2 * (1024 * (t.val % 6) + j) + 1 by omega,
    show 2048 * (t.val % 6) + 2 * j = 2 * (1024 * (t.val % 6) + j) by omega]

/-- The point whose blocks hold a row block and a column block. -/
def pt (i j : ℕ) (hi : i < 48) (hj : j < 6) : Fin cfg0.N := ⟨6 * i + j, lt_of_lt_of_eq (by omega : 6 * i + j < 288) N_0.symm⟩

/-- The values' array. -/
theorem final2 (c : Dev nD) (G : Vec Ideal S6144x12288 .bf16)
    (hG : ∀ y : S6144x12288.Idx, G y = xqS (am1 (A1 m c)) (arr (X m c)) (y 0).val (y 1).val) : (dats m 0 c).arrAt 2 cfg0.N = G := by
  have hemb : ∀ (t : Fin cfg0.N) (j : S128x2048.Idx), (((((cfg0.win 2).blk t).view.emb j : S6144x12288.Idx)) 0).val = 128 * (t.val / 6) + (j 0).val
      ∧ (((((cfg0.win 2).blk t).view.emb j : S6144x12288.Idx)) 1).val = 2048 * (t.val % 6) + (j 1).val := by
    intro t j
    have h := idx2 t
    constructor
    · show win0_2.index t 0 * 128 + 1 * (j 0).val = _
      rw [h.1]; omega
    · show win0_2.index t 1 * 2048 + 1 * (j 1).val = _
      rw [h.2]; omega
  refine (dats m 0 c).arrAt_eq_of_cover 2 G (fun t _ => ?_) fun i => ?_
  · rw [flushed2_A]
    funext j
    show out0_A_2 c _ _ _ _ _ _ _ _ _ _ _ _ _ (iblk m c 0 t) (iblk m c 1 t) (j : S128x2048.Idx) = G (((cfg0.win 2).blk t).view.emb j)
    rw [out2 _ _ _ _ _ _ _ _ _ _ _ _ _ _ _ _ _ (blk_am m c t), hG, (hemb t j).1, (hemb t j).2]
    exact xqS_blk m _ c t _ _ ((j : S128x2048.Idx) 0).isLt ((j : S128x2048.Idx) 1).isLt
  · have h0 : ((i : S6144x12288.Idx) 0).val < 6144 := ((i : S6144x12288.Idx) 0).isLt
    have h1 : ((i : S6144x12288.Idx) 1).val < 12288 := ((i : S6144x12288.Idx) 1).isLt
    refine ⟨pt (((i : S6144x12288.Idx) 0).val / 128) (((i : S6144x12288.Idx) 1).val / 2048) (by omega) (by omega), flush0_2 _, ?_⟩
    generalize ht : pt (((i : S6144x12288.Idx) 0).val / 128) (((i : S6144x12288.Idx) 1).val / 2048) _ _ = t
    have htv : t.val = 6 * (((i : S6144x12288.Idx) 0).val / 128) + ((i : S6144x12288.Idx) 1).val / 2048 := by rw [← ht]; rfl
    obtain ⟨y, hy0, hy1⟩ : ∃ y : S128x2048.Idx, (y 0).val = ((i : S6144x12288.Idx) 0).val % 128 ∧ (y 1).val = ((i : S6144x12288.Idx) 1).val % 2048 :=
      ⟨ValueIdx.ix2 ⟨_, Nat.mod_lt _ (by norm_num)⟩ ⟨_, Nat.mod_lt _ (by norm_num)⟩, rfl, rfl⟩
    have e := hemb t y
    have h := ((cfg0.win 2).blk t).view.emb_mem_set y
    convert h using 1
    funext x; apply Fin.ext
    match x with
    | ⟨0, _⟩ => exact (show ((i : S6144x12288.Idx) 0).val = 128 * (t.val / 6) + (y 0).val by omega).trans e.1.symm
    | ⟨1, _⟩ => exact (show ((i : S6144x12288.Idx) 1).val = 2048 * (t.val % 6) + (y 1).val by omega).trans e.2.symm

/-- The codes' array. -/
theorem final3 (c : Dev nD) (G : Vec Ideal S6144x6144 .i8)
    (hG : ∀ y : S6144x6144.Idx, G y = packS (codeS (am1 (A1 m c)) (arr (X m c))) (y 0).val (y 1).val) : (dats m 0 c).arrAt 3 cfg0.N = G := by
  have hemb : ∀ (t : Fin cfg0.N) (j : S128x1024.Idx), (((((cfg0.win 3).blk t).view.emb j : S6144x6144.Idx)) 0).val = 128 * (t.val / 6) + (j 0).val
      ∧ (((((cfg0.win 3).blk t).view.emb j : S6144x6144.Idx)) 1).val = 1024 * (t.val % 6) + (j 1).val := by
    intro t j
    have h := idx3 t
    constructor
    · show win0_3.index t 0 * 128 + 1 * (j 0).val = _
      rw [h.1]; omega
    · show win0_3.index t 1 * 1024 + 1 * (j 1).val = _
      rw [h.2]; omega
  refine (dats m 0 c).arrAt_eq_of_cover 3 G (fun t _ => ?_) fun i => ?_
  · rw [flushed3_A]
    funext j
    show out0_A_3 c _ _ _ _ _ _ _ _ _ _ _ _ _ (iblk m c 0 t) (iblk m c 1 t) (j : S128x1024.Idx) = G (((cfg0.win 3).blk t).view.emb j)
    rw [out3 _ _ _ _ _ _ _ _ _ _ _ _ _ _ _ _ _ (blk_am m c t), hG, (hemb t j).1, (hemb t j).2]
    exact packS_blk m _ c t _ _ ((j : S128x1024.Idx) 0).isLt ((j : S128x1024.Idx) 1).isLt
  · have h0 : ((i : S6144x6144.Idx) 0).val < 6144 := ((i : S6144x6144.Idx) 0).isLt
    have h1 : ((i : S6144x6144.Idx) 1).val < 6144 := ((i : S6144x6144.Idx) 1).isLt
    refine ⟨pt (((i : S6144x6144.Idx) 0).val / 128) (((i : S6144x6144.Idx) 1).val / 1024) (by omega) (by omega), flush0_3 _, ?_⟩
    generalize ht : pt (((i : S6144x6144.Idx) 0).val / 128) (((i : S6144x6144.Idx) 1).val / 1024) _ _ = t
    have htv : t.val = 6 * (((i : S6144x6144.Idx) 0).val / 128) + ((i : S6144x6144.Idx) 1).val / 1024 := by rw [← ht]; rfl
    obtain ⟨y, hy0, hy1⟩ : ∃ y : S128x1024.Idx, (y 0).val = ((i : S6144x6144.Idx) 0).val % 128 ∧ (y 1).val = ((i : S6144x6144.Idx) 1).val % 1024 :=
      ⟨ValueIdx.ix2 ⟨_, Nat.mod_lt _ (by norm_num)⟩ ⟨_, Nat.mod_lt _ (by norm_num)⟩, rfl, rfl⟩
    have e := hemb t y
    have h := ((cfg0.win 3).blk t).view.emb_mem_set y
    convert h using 1
    funext x; apply Fin.ext
    match x with
    | ⟨0, _⟩ => exact (show ((i : S6144x6144.Idx) 0).val = 128 * (t.val / 6) + (y 0).val by omega).trans e.1.symm
    | ⟨1, _⟩ => exact (show ((i : S6144x6144.Idx) 1).val = 1024 * (t.val % 6) + (y 1).val by omega).trans e.2.symm

/-- The scales' array. -/
theorem final4 (c : Dev nD) (G : Vec Ideal S6144x768 .fp8e4m3)
    (hG : ∀ y : S6144x768.Idx, G y = sS (am1 (A1 m c)) (arr (X m c)) (y 0).val (y 1).val) : (dats m 0 c).arrAt 4 cfg0.N = G := by
  have hemb : ∀ (t : Fin cfg0.N) (j : S128x128.Idx), (((((cfg0.win 4).blk t).view.emb j : S6144x768.Idx)) 0).val = 128 * (t.val / 6) + (j 0).val
      ∧ (((((cfg0.win 4).blk t).view.emb j : S6144x768.Idx)) 1).val = 128 * (t.val % 6) + (j 1).val := by
    intro t j
    have h := idx4 t
    constructor
    · show win0_4.index t 0 * 128 + 1 * (j 0).val = _
      rw [h.1]; omega
    · show win0_4.index t 1 * 128 + 1 * (j 1).val = _
      rw [h.2]; omega
  refine (dats m 0 c).arrAt_eq_of_cover 4 G (fun t _ => ?_) fun i => ?_
  · rw [flushed4_A]
    funext j
    show out0_A_4 c _ _ _ _ _ _ _ _ _ _ _ _ _ (iblk m c 0 t) (iblk m c 1 t) (j : S128x128.Idx) = G (((cfg0.win 4).blk t).view.emb j)
    rw [out4 _ _ _ _ _ _ _ _ _ _ _ _ _ _ _ _ _ (blk_am m c t), hG, (hemb t j).1, (hemb t j).2]
    exact sS_blk m _ c t _ _ ((j : S128x128.Idx) 0).isLt ((j : S128x128.Idx) 1).isLt
  · have h0 : ((i : S6144x768.Idx) 0).val < 6144 := ((i : S6144x768.Idx) 0).isLt
    have h1 : ((i : S6144x768.Idx) 1).val < 768 := ((i : S6144x768.Idx) 1).isLt
    refine ⟨pt (((i : S6144x768.Idx) 0).val / 128) (((i : S6144x768.Idx) 1).val / 128) (by omega) (by omega), flush0_4 _, ?_⟩
    generalize ht : pt (((i : S6144x768.Idx) 0).val / 128) (((i : S6144x768.Idx) 1).val / 128) _ _ = t
    have htv : t.val = 6 * (((i : S6144x768.Idx) 0).val / 128) + ((i : S6144x768.Idx) 1).val / 128 := by rw [← ht]; rfl
    obtain ⟨y, hy0, hy1⟩ : ∃ y : S128x128.Idx, (y 0).val = ((i : S6144x768.Idx) 0).val % 128 ∧ (y 1).val = ((i : S6144x768.Idx) 1).val % 128 :=
      ⟨ValueIdx.ix2 ⟨_, Nat.mod_lt _ (by norm_num)⟩ ⟨_, Nat.mod_lt _ (by norm_num)⟩, rfl, rfl⟩
    have e := hemb t y
    have h := ((cfg0.win 4).blk t).view.emb_mem_set y
    convert h using 1
    funext x; apply Fin.ext
    match x with
    | ⟨0, _⟩ => exact (show ((i : S6144x768.Idx) 0).val = 128 * (t.val / 6) + (y 0).val by omega).trans e.1.symm
    | ⟨1, _⟩ => exact (show ((i : S6144x768.Idx) 1).val = 128 * (t.val % 6) + (y 1).val by omega).trans e.2.symm

end Cert.QuantXIdeal.Hand

end
-- ==== Proof.QuantWDefs.lean ====
/- The vectors the `quant_w` kernel's body computes, written once each: the butterfly and the scalar functions of a tile as in
   QuantXDefs.lean at this program's shapes, the block scales of a run of sixteen rows and their reciprocals, a tile's
   quotients in eight pieces of eight rows, its values, its codes and its packed codes. -/
module

public import proofs.«01_k».proof.Proof.Gen.QuantWIdeal
public import Idealize.ShloMosaic.Lib.ValueIdx
public import Idealize.ShloMosaic.Lib.Tactic
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.QuantWIdeal.Hand

open Cert.QuantWIdeal Cert.QuantWIdeal.Gen
open Idealize.ShloMosaic Idealize.ShloMosaic.TcCoe Idealize.ShloMosaic.Tactic Idealize.SL.Sem Idealize.ShloMosaic.ValueIdx

/-- A tile of f32 lanes. -/
abbrev Tile := FVec Ideal S64x128 .f32

/-- The lane number. -/
def laneV : IVec S64x128 32 := iota .tc S64x128 32 [1] iota_S64x128_d1_w32

/-- A gather's index vector: a negative index counts from the end. -/
def gidx (p : IVec S64x128 32) : IVec S64x128 32 :=
  shapeCast S64x128 (shapeCast S64x128x1 (select (cmpi .slt p (broadcast S64x128 0#32)) (addi p (broadcast S64x128 128#32)) p)
    shapeCasts_S64x128_S64x128x1) shapeCasts_S64x128x1_S64x128

/-- The lanes that keep their own tile at a step of the butterfly. -/
def keepV (b : BitVec 32) : IVec S64x128 1 := cmpi .eq (andi laneV (broadcast S64x128 b)) (broadcast S64x128 0#32)

/-- The partner lanes of a step of the butterfly. -/
def permV (b : BitVec 32) : IVec S64x128 32 := xori laneV (broadcast S64x128 b)

/-- A step of the butterfly. -/
def merge (b : BitVec 32) (x y : Tile) : Tile :=
  maximumf (select (keepV b) x y) (dynamicGather 1 (select (keepV b) y x) (gidx (permV b)))

/-- The four steps of the butterfly over sixteen tiles. -/
def amaxV (T : Fin 16 → Tile) : Tile :=
  merge 1#32
    (merge 2#32 (merge 4#32 (merge 8#32 (T 0) (T 8)) (merge 8#32 (T 4) (T 12))) (merge 4#32 (merge 8#32 (T 2) (T 10)) (merge 8#32 (T 6) (T 14))))
    (merge 2#32 (merge 4#32 (merge 8#32 (T 1) (T 9)) (merge 8#32 (T 5) (T 13))) (merge 4#32 (merge 8#32 (T 3) (T 11)) (merge 8#32 (T 7) (T 15))))

/-- A tile's absolute values. -/
def absV (x : Vec Ideal S64x128 .bf16) : Tile := absf (extf .f32 x bitsLt_bf16_f32)

/-- The tensor scale. -/
def stV (x0 : Vec Ideal S1x128 .f32) : FVec Ideal S1x128 .f32 :=
  divf (F := Ideal) (φ := .f32) (shapeCast S1x128 x0 shapeCasts_S1x128_S1x128) (broadcast S1x128 (Scalar.ofBits .f32 0x45280000#32))

/-- One where the tensor amax is negative, else zero. -/
def zeroV (x0 : Vec Ideal S1x128 .f32) : FVec Ideal S1x128 .f32 :=
  select (cmpf (F := Ideal) (φ := .f32) .olt (shapeCast S1x128 x0 shapeCasts_S1x128_S1x128) (broadcast S1x128 (Scalar.ofBits .f32 0x00000000#32)))
    (broadcast S1x128 (Scalar.ofBits .f32 0x3F800000#32)) (broadcast S1x128 (Scalar.ofBits .f32 0x00000000#32))

/-- Eight rows of f32 lanes. -/
abbrev Row8 := FVec Ideal S8x128 .f32

/-- The lane number, on eight rows. -/
def lane8 : IVec S8x128 32 := iota .tc S8x128 32 [1] iota_S8x128_d1_w32

/-- A gather's index vector on eight rows. -/
def gidx8 (p : IVec S8x128 32) : IVec S8x128 32 :=
  shapeCast S8x128 (shapeCast S8x128x1 (select (cmpi .slt p (broadcast S8x128 0#32)) (addi p (broadcast S8x128 128#32)) p)
    shapeCasts_S8x128_S8x128x1) shapeCasts_S8x128x1_S8x128

/-- A gather's index vector on sixteen rows. -/
def gidx16 (p : IVec S16x128 32) : IVec S16x128 32 :=
  shapeCast S16x128 (shapeCast S16x128x1 (select (cmpi .slt p (broadcast S16x128 0#32)) (addi p (broadcast S16x128 128#32)) p)
    shapeCasts_S16x128_S16x128x1) shapeCasts_S16x128x1_S16x128

/-- The maximum over sixteen rows of a tile, from row `o` on, as one row. -/
def redV (A : Tile) (o : ℕ) (h : S64x128.Slices ![o, 0] S16x128) : FVec Ideal S1x128 .f32 :=
  shapeCast S1x128 (shapeCast S1x128 (multiReduction (F := Ideal) .maximumf [0] S128 (extractStridedSlice S16x128 ![o, 0] A h) 0xFF800000#32
    reduces_S16x128_S128 (.inl rfl) rfl) shapeCasts_S128_S1x128) shapeCasts_S1x128_S1x128

/-- The block scales of a row of maxima, on eight rows. -/
def sb8 (s M : FVec Ideal S1x128 .f32) : Row8 :=
  extf .f32 (truncf .fp8e4m3 (minimumf (divf (broadcastTo S8x128 M broadcasts_S1x128_S8x128) (broadcastTo S8x128 (mulf s (broadcast S1x128 (Scalar.ofBits .f32 0x40C00000#32)))
    broadcasts_S1x128_S8x128)) (broadcast S8x128 (Scalar.ofBits .f32 0x43E00000#32))) bitsLt_fp8e4m3_f32) bitsLt_fp8e4m3_f32

/-- The reciprocals of the block scales times the tensor scale, zero where that is not positive. -/
def r8 (s : FVec Ideal S1x128 .f32) (SB : Row8) : Row8 :=
  select (cmpf .ogt (mulf SB (broadcastTo S8x128 s broadcasts_S1x128_S8x128)) (broadcast S8x128 (Scalar.ofBits .f32 0x00000000#32)))
    (divf (broadcast S8x128 (Scalar.ofBits .f32 0x3F800000#32))
      (select (cmpf .ogt (mulf SB (broadcastTo S8x128 s broadcasts_S1x128_S8x128)) (broadcast S8x128 (Scalar.ofBits .f32 0x00000000#32)))
        (mulf SB (broadcastTo S8x128 s broadcasts_S1x128_S8x128)) (broadcast S8x128 (Scalar.ofBits .f32 0x3F800000#32))))
    (broadcast S8x128 (Scalar.ofBits .f32 0x00000000#32))

/-- The lane's scale in block order: lane `l` reads lane `(l % 8) * 16 + l / 8`, with Python's floor division and remainder. -/
def ordIdx8 : IVec S8x128 32 :=
  let r := remsi lane8 (broadcast S8x128 8#32)
  let z := broadcast S8x128 (α := BitVec 32) 0#32
  addi
    (muli (select (andi (xori (cmpi .slt r z) (broadcastTo S8x128 (broadcast S8x128 0#1) broadcasts_S8x128_S8x128)) (cmpi .ne r z))
      (addi r (broadcast S8x128 8#32)) r) (broadcast S8x128 16#32))
    (select (andi (cmpi .ne (subi (extui 32 (cmpi .sgt lane8 z) natLt_1_32) (extui 32 (cmpi .slt lane8 z) natLt_1_32)) (broadcast S8x128 1#32))
        (cmpi .ne r z))
      (subi (divsi lane8 (broadcast S8x128 8#32)) (broadcast S8x128 1#32)) (divsi lane8 (broadcast S8x128 8#32)))

/-- The stored row of block scales of a run of sixteen rows. -/
def ord8 (SB : Row8) : FVec Ideal S1x128 .f32 :=
  shapeCast S1x128 (extractStridedSlice S1x128 ![0, 0] (dynamicGather 1 SB (gidx8 ordIdx8)) slices_S8x128_o0_0_S1x128) shapeCasts_S1x128_S1x128

/-- The lane of tile `t`'s block: the group's first lane plus the tile's number. -/
def tidx8 (t : BitVec 32) : IVec S8x128 32 := addi (andi lane8 (broadcast S8x128 4294967280#32)) (broadcast S8x128 t)

/-- Eight rows of a tile's quotients, clipped to the e2m1 range. -/
def v8 (t : BitVec 32) (z : FVec Ideal S1x128 .f32) (R : Row8) (x : Vec Ideal S8x128 .bf16) : Row8 :=
  minimumf (broadcast S8x128 (Scalar.ofBits .f32 0x40C00000#32)) (maximumf (broadcast S8x128 (Scalar.ofBits .f32 0xC0C00000#32))
    (addf (mulf (extf .f32 x bitsLt_bf16_f32) (dynamicGather 1 R (gidx8 (tidx8 t)))) (broadcastTo S8x128 z broadcasts_S1x128_S8x128)))

/-- A tile's quotients: eight pieces of eight rows, two to each run of sixteen. -/
def vT (t : BitVec 32) (z : FVec Ideal S1x128 .f32) (R : Fin 4 → Row8) (x : Fin 8 → Vec Ideal S8x128 .bf16) : Tile :=
  concatenate S64x128 0 [⟨S8x128, v8 t z (R 0) (x 0)⟩, ⟨S8x128, v8 t z (R 0) (x 1)⟩, ⟨S8x128, v8 t z (R 1) (x 2)⟩, ⟨S8x128, v8 t z (R 1) (x 3)⟩,
    ⟨S8x128, v8 t z (R 2) (x 4)⟩, ⟨S8x128, v8 t z (R 2) (x 5)⟩, ⟨S8x128, v8 t z (R 3) (x 6)⟩, ⟨S8x128, v8 t z (R 3) (x 7)⟩]
    concatenates_S8x128_S8x128_S8x128_S8x128_S8x128_S8x128_S8x128_S8x128_S64x128_d0

/-- Sixteen rows of a tile's scales. -/
def s16 (t : BitVec 32) (SB : Row8) : FVec Ideal S16x128 .bf16 :=
  truncf .bf16 (dynamicGather 1 (concatenate S16x128 0 [⟨S8x128, SB⟩, ⟨S8x128, SB⟩] concatenates_S8x128_S8x128_S16x128_d0)
    (gidx16 (concatenate S16x128 0 [⟨S8x128, tidx8 t⟩, ⟨S8x128, tidx8 t⟩] concatenates_S8x128_S8x128_S16x128_d0))) bitsLt_bf16_f32

/-- A tile's scales. -/
def sT (t : BitVec 32) (SB : Fin 4 → Row8) : FVec Ideal S64x128 .bf16 :=
  concatenate S64x128 0 [⟨S16x128, s16 t (SB 0)⟩, ⟨S16x128, s16 t (SB 1)⟩, ⟨S16x128, s16 t (SB 2)⟩, ⟨S16x128, s16 t (SB 3)⟩]
    concatenates_S16x128_S16x128_S16x128_S16x128_S64x128_d0

/-- The step of the e2m1 grid at a magnitude. -/
def stepV (a : Tile) : Tile :=
  select (cmpf .olt a (broadcast S64x128 (Scalar.ofBits .f32 0x40000000#32))) (broadcast S64x128 (Scalar.ofBits .f32 0x3F000000#32))
    (select (cmpf .olt a (broadcast S64x128 (Scalar.ofBits .f32 0x40800000#32))) (broadcast S64x128 (Scalar.ofBits .f32 0x3F800000#32))
      (broadcast S64x128 (Scalar.ofBits .f32 0x40000000#32)))

/-- The number of steps. -/
def nV (a : Tile) : Tile := roundeven (divf a (stepV a))

/-- The e2m1 value. -/
def qV (v : Tile) : Tile :=
  select (cmpf .olt v (broadcast S64x128 (Scalar.ofBits .f32 0x00000000#32)))
    (subf (broadcast S64x128 (Scalar.ofBits .f32 0x00000000#32)) (mulf (nV (absf v)) (stepV (absf v)))) (mulf (nV (absf v)) (stepV (absf v)))

/-- The e2m1 code. -/
def codeV (v : Tile) : IVec S64x128 32 :=
  let m := addi (fptosi 32 (nV (absf v))) (select (cmpf .olt (absf v) (broadcast S64x128 (Scalar.ofBits .f32 0x40000000#32))) (broadcast S64x128 0#32)
    (select (cmpf .olt (absf v) (broadcast S64x128 (Scalar.ofBits .f32 0x40800000#32))) (broadcast S64x128 2#32) (broadcast S64x128 4#32)))
  select (cmpf .olt v (broadcast S64x128 (Scalar.ofBits .f32 0x00000000#32))) (addi m (broadcast S64x128 8#32)) m

/-- A tile of the stored values. -/
def wqT (t : BitVec 32) (z : FVec Ideal S1x128 .f32) (SB R : Fin 4 → Row8) (x : Fin 8 → Vec Ideal S8x128 .bf16) : FVec Ideal S64x128 .bf16 :=
  mulf (truncf .bf16 (qV (vT t z R x)) bitsLt_bf16_f32) (sT t SB)

/-- A tile of the stored codes. -/
def nibT (t : BitVec 32) (z : FVec Ideal S1x128 .f32) (R : Fin 4 → Row8) (x : Fin 8 → Vec Ideal S8x128 .bf16) : IVec S64x128 8 :=
  shapeCast S64x128 (trunci 8 (codeV (vT t z R x)) natLt_8_32) shapeCasts_S64x128_S64x128

/-- A tile's codes with each two neighbouring rows packed in one. -/
def packT (C : IVec S64x128 32) : IVec S32x128 8 :=
  shapeCast S32x128 (trunci 8 (ori (shapeCast S32x128 (extractStridedSlice S32x1x128 ![0, 0, 0] (shapeCast S32x2x128 C shapeCasts_S64x128_S32x2x128)
      slices_S32x2x128_o0_0_0_S32x1x128) shapeCasts_S32x1x128_S32x128)
    (shli (shapeCast S32x128 (extractStridedSlice S32x1x128 ![0, 1, 0] (shapeCast S32x2x128 C shapeCasts_S64x128_S32x2x128)
      slices_S32x2x128_o0_1_0_S32x1x128) shapeCasts_S32x1x128_S32x128) (broadcast S32x128 4#32))) natLt_8_32) shapeCasts_S32x128_S32x128

/-- A tile of the stored packed codes. -/
def pairT (t : BitVec 32) (z : FVec Ideal S1x128 .f32) (R : Fin 4 → Row8) (x : Fin 8 → Vec Ideal S8x128 .bf16) : IVec S32x128 8 :=
  packT (codeV (vT t z R x))

theorem hz : (![0, 0] : Fin 2 → Nat) = fun _ => 0 := funext fun a => by fin_cases a <;> rfl

/-- The amax window is read whole. -/
theorem ld0 (x0 : Vec Ideal S1x128 .f32) (inb) :
    View.ld (Val := Elt Ideal) (e' := .f32) x0 (Rect.unit (s := S1x128) ![0, 0] ![1, 128] inb) = x0 :=
  View.ld_unit_zero (S := S1x128) hz inb x0

/-- The tile at a row and a column. -/
def tileX (x1 : Vec Ideal S512x2048 .bf16) (p q : ℕ) (inb : ∀ a, (![p, q] : Fin 2 → ℕ) a + (![64, 128] : Fin 2 → ℕ) a ≤ S512x2048.size a) : Vec Ideal S64x128 .bf16 :=
  View.ld (Val := Elt Ideal) (e' := .bf16) x1 (Rect.unit (s := S512x2048) ![p, q] ![64, 128] inb)

theorem inbT (h : Fin 8) (t : Fin 16) : ∀ a, (![64 * h.val, 128 * t.val] : Fin 2 → ℕ) a + (![64, 128] : Fin 2 → ℕ) a ≤ S512x2048.size a := by
  intro a
  have := h.isLt
  have := t.isLt
  match a with
  | ⟨0, _⟩ => show 64 * h.val + 64 ≤ 512; omega
  | ⟨1, _⟩ => show 128 * t.val + 128 ≤ 2048; omega

/-- The tiles of a strip of sixty-four rows. -/
def tilesX (x1 : Vec Ideal S512x2048 .bf16) (h : Fin 8) (t : Fin 16) : Vec Ideal S64x128 .bf16 :=
  tileX x1 (64 * h.val) (128 * t.val) (inbT h t)

/-- The piece of eight rows at a row and a column. -/
def pieceX (x1 : Vec Ideal S512x2048 .bf16) (p q : ℕ) (inb : ∀ a, (![p, q] : Fin 2 → ℕ) a + (![8, 128] : Fin 2 → ℕ) a ≤ S512x2048.size a) : Vec Ideal S8x128 .bf16 :=
  View.ld (Val := Elt Ideal) (e' := .bf16) x1 (Rect.unit (s := S512x2048) ![p, q] ![8, 128] inb)

theorem inbP (h : Fin 8) (t : Fin 16) (p : Fin 8) : ∀ a, (![64 * h.val + 8 * p.val, 128 * t.val] : Fin 2 → ℕ) a + (![8, 128] : Fin 2 → ℕ) a ≤ S512x2048.size a := by
  intro a
  have := h.isLt
  have := t.isLt
  have := p.isLt
  match a with
  | ⟨0, _⟩ => show 64 * h.val + 8 * p.val + 8 ≤ 512; omega
  | ⟨1, _⟩ => show 128 * t.val + 128 ≤ 2048; omega

/-- The pieces of a tile. -/
def piecesX (x1 : Vec Ideal S512x2048 .bf16) (h : Fin 8) (t : Fin 16) (p : Fin 8) : Vec Ideal S8x128 .bf16 :=
  pieceX x1 (64 * h.val + 8 * p.val) (128 * t.val) (inbP h t p)

/-- The lane maxima of a strip. -/
def lmX (x1 : Vec Ideal S512x2048 .bf16) (h : Fin 8) : Tile := amaxV fun t => absV (tilesX x1 h t)

theorem slB (b : Fin 4) : S64x128.Slices ![16 * b.val, 0] S16x128 := by
  refine ⟨rfl, fun a => ?_⟩
  have := b.isLt
  match a with
  | ⟨0, _⟩ => show 16 * b.val + 16 ≤ 64; omega
  | ⟨1, _⟩ => show 0 + 128 ≤ 128; omega

/-- The block scales of a strip's runs of sixteen rows. -/
def sbX (x0 : Vec Ideal S1x128 .f32) (x1 : Vec Ideal S512x2048 .bf16) (h : Fin 8) (b : Fin 4) : Row8 :=
  sb8 (stV x0) (redV (lmX x1 h) (16 * b.val) (slB b))

/-- Their reciprocals. -/
def rX (x0 : Vec Ideal S1x128 .f32) (x1 : Vec Ideal S512x2048 .bf16) (h : Fin 8) (b : Fin 4) : Row8 := r8 (stV x0) (sbX x0 x1 h b)

end Cert.QuantWIdeal.Hand

end
-- ==== Proof.QuantWTiles.lean ====
/- The `quant_w` kernel's vectors at a row and a lane: gathers along the lanes, pieces stacked along the rows, and the maximum over
   sixteen rows. -/
module

public import proofs.«01_k».proof.Proof.QuantWDefs
public import proofs.«01_k».proof.Proof.QuantXTiles
public import proofs.«01_k».proof.Proof.QuantXPack
public import proofs.«01_k».proof.Proof.MaxBounds
public import Idealize.ShloMosaic.Lib.ValueLayout

@[expose] public section

set_option maxRecDepth 16384

noncomputable section

namespace Cert.QuantWIdeal.Hand

open Cert.QuantWIdeal Cert.QuantWIdeal.Gen Cert.QuantX Cert.MaxBounds
open Cert.QuantXIdeal.Hand (ixT at2 ixT_self wrapB tidx_lane ordB ord_lane)
open Idealize.ShloMosaic Idealize.ShloMosaic.TcCoe Idealize.ShloMosaic.Tactic Idealize.SL.Sem

/-- The index of a row and a lane of eight rows. -/
def ix8 (r l : ℕ) : S8x128.Idx := fun a => match a with
  | ⟨0, _⟩ => ⟨r % 8, Nat.mod_lt _ (by norm_num)⟩
  | ⟨1, _⟩ => ⟨l % 128, Nat.mod_lt _ (by norm_num)⟩

/-- The index of a row and a lane of sixteen rows. -/
def ix16 (r l : ℕ) : S16x128.Idx := fun a => match a with
  | ⟨0, _⟩ => ⟨r % 16, Nat.mod_lt _ (by norm_num)⟩
  | ⟨1, _⟩ => ⟨l % 128, Nat.mod_lt _ (by norm_num)⟩

/-- The index of a lane of one row. -/
def ix1 (l : ℕ) : S1x128.Idx := fun a => match a with
  | ⟨0, _⟩ => ⟨0, by norm_num⟩
  | ⟨1, _⟩ => ⟨l % 128, Nat.mod_lt _ (by norm_num)⟩

/-- An element of eight rows. -/
def at8 {α : Type} (x : S8x128.Idx → α) (r l : ℕ) : α := x (ix8 r l)

/-- An element of sixteen rows. -/
def at16 {α : Type} (x : S16x128.Idx → α) (r l : ℕ) : α := x (ix16 r l)

/-- An element of one row. -/
def at1 {α : Type} (x : S1x128.Idx → α) (l : ℕ) : α := x (ix1 l)

theorem ix1_self (i : S1x128.Idx) : ix1 (i 1).val = i := by
  funext a
  match a with
  | ⟨0, _⟩ => exact Fin.ext (by have h : (i 0).val < 1 := (i 0).isLt; show 0 = (i 0).val; omega)
  | ⟨1, _⟩ => exact Fin.ext (Nat.mod_eq_of_lt (i 1).isLt)

/-- One row spread over eight. -/
theorem spread8 {α : Type} (M : S1x128.Idx → α) (r l : ℕ) : at8 (broadcastTo S8x128 M broadcasts_S1x128_S8x128) r l = at1 M l := by
  unfold at8 at1
  refine broadcastTo_apply M _ _ (ix1 l) fun a => ?_
  match a with
  | ⟨0, _⟩ => rfl
  | ⟨1, _⟩ => rfl

theorem gidx8_apply (p : IVec S8x128 32) (i : S8x128.Idx) : gidx8 p i = wrapB (p i) := by
  unfold gidx8
  rw [shapeCast_shapeCast]
  rfl

theorem gidx16_apply (p : IVec S16x128 32) (i : S16x128.Idx) : gidx16 p i = wrapB (p i) := by
  unfold gidx16
  rw [shapeCast_shapeCast]
  rfl

theorem lane8_apply (r l : ℕ) : lane8 (ix8 r l) = BitVec.ofNat 32 (l % 128) := by
  unfold lane8
  rw [iota_single_apply]
  rfl

/-- A gather along the lanes of eight rows. -/
theorem gather8_at {α : Type} (R : S8x128.Idx → α) (p : IVec S8x128 32) (r l g : ℕ)
    (hg : (wrapB (p (ix8 r l))).toNat % 128 = g) : at8 (dynamicGather 1 R (gidx8 p)) r l = at8 R r g := by
  show R _ = R _
  congr 1
  funext a
  match a with
  | ⟨0, _⟩ => rfl
  | ⟨1, _⟩ =>
    apply Fin.ext
    show (gidx8 p (ix8 r l)).toNat % 128 = g % 128
    rw [gidx8_apply, ← hg, Nat.mod_mod]

/-- A gather along the lanes of sixteen rows. -/
theorem gather16_at {α : Type} (R : S16x128.Idx → α) (p : IVec S16x128 32) (r l g : ℕ)
    (hg : (wrapB (p (ix16 r l))).toNat % 128 = g) : at16 (dynamicGather 1 R (gidx16 p)) r l = at16 R r g := by
  show R _ = R _
  congr 1
  funext a
  match a with
  | ⟨0, _⟩ => rfl
  | ⟨1, _⟩ =>
    apply Fin.ext
    show (gidx16 p (ix16 r l)).toNat % 128 = g % 128
    rw [gidx16_apply, ← hg, Nat.mod_mod]

theorem tidx8_at (t : Fin 16) (r l : ℕ) (hl : l < 128) : (wrapB (tidx8 (BitVec.ofNat 32 t.val) (ix8 r l))).toNat % 128 = l / 16 * 16 + t.val := by
  have h := tidx_lane t ⟨l, hl⟩
  have e : tidx8 (BitVec.ofNat 32 t.val) (ix8 r l) = (lane8 (ix8 r l) &&& 4294967280#32) + BitVec.ofNat 32 t.val := rfl
  rw [e, lane8_apply, Nat.mod_eq_of_lt hl]
  exact h

theorem ord8_lane (r l : ℕ) (hl : l < 128) : (wrapB (ordIdx8 (ix8 r l))).toNat % 128 = l % 8 * 16 + l / 8 := by
  have h := ord_lane ⟨l, hl⟩
  have e : ordIdx8 (ix8 r l) = ordB (lane8 (ix8 r l)) := rfl
  rw [e, lane8_apply, Nat.mod_eq_of_lt hl]
  exact h

/-- Eight pieces of eight rows. -/
theorem cat8_at {α : Type} (f : Fin 8 → S8x128.Idx → α) (r l : ℕ) (hr : r < 64) :
    at2 (concatenate S64x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩]
      concatenates_S8x128_S8x128_S8x128_S8x128_S8x128_S8x128_S8x128_S8x128_S64x128_d0) r l = at8 (f ⟨r / 8, by omega⟩) r l := by
  refine concatenate_ofFn_apply (t := S64x128) (s₁ := S8x128) 0 f concatenates_S8x128_S8x128_S8x128_S8x128_S8x128_S8x128_S8x128_S8x128_S64x128_d0
    rfl 8 rfl (ixT r l) ⟨r / 8, by omega⟩ ?_ (ix8 r l) ?_ ?_
  · show r % 64 / 8 = r / 8
    omega
  · show r % 8 = r % 64 % 8
    omega
  · intro b hb
    match b with
    | ⟨0, _⟩ => exact absurd rfl hb
    | ⟨1, _⟩ => rfl

/-- Four pieces of sixteen rows. -/
theorem cat4_at {α : Type} (f : Fin 4 → S16x128.Idx → α) (r l : ℕ) (hr : r < 64) :
    at2 (concatenate S64x128 0 [⟨S16x128, f 0⟩, ⟨S16x128, f 1⟩, ⟨S16x128, f 2⟩, ⟨S16x128, f 3⟩]
      concatenates_S16x128_S16x128_S16x128_S16x128_S64x128_d0) r l = at16 (f ⟨r / 16, by omega⟩) r l := by
  refine concatenate_ofFn_apply (t := S64x128) (s₁ := S16x128) 0 f concatenates_S16x128_S16x128_S16x128_S16x128_S64x128_d0
    rfl 16 rfl (ixT r l) ⟨r / 16, by omega⟩ ?_ (ix16 r l) ?_ ?_
  · show r % 64 / 16 = r / 16
    omega
  · show r % 16 = r % 64 % 16
    omega
  · intro b hb
    match b with
    | ⟨0, _⟩ => exact absurd rfl hb
    | ⟨1, _⟩ => rfl

/-- Two copies of eight rows. -/
theorem cat2_at {α : Type} (x : S8x128.Idx → α) (r l : ℕ) :
    at16 (concatenate S16x128 0 [⟨S8x128, x⟩, ⟨S8x128, x⟩] concatenates_S8x128_S8x128_S16x128_d0) r l = at8 x r l := by
  refine concatenate_ofFn_apply (t := S16x128) (s₁ := S8x128) (N := 2) 0 (fun _ => x) concatenates_S8x128_S8x128_S16x128_d0
    rfl 8 rfl (ix16 r l) ⟨r % 16 / 8, by omega⟩ ?_ (ix8 r l) ?_ ?_
  · rfl
  · show r % 8 = r % 16 % 8
    omega
  · intro b hb
    match b with
    | ⟨0, _⟩ => exact absurd rfl hb
    | ⟨1, _⟩ => rfl

/-- The maximum over sixteen rows, at a lane. -/
theorem red_at (A : Tile) (o : ℕ) (h : S64x128.Slices ![o, 0] S16x128) (ho : o + 16 ≤ 64) (l : ℕ) (hl : l < 128) :
    at1 (redV A o h) l = Finset.univ.sup fun i : Fin 16 => at2 A (o + i.val) l := by
  unfold redV at1
  rw [shapeCast_self, shapeCast_apply _ _ (ix1 l) (fun a => match a with | ⟨0, _⟩ => ⟨l, hl⟩ : S128.Idx) (by
    rw [Shape.rowMajor_val_two, Shape.rowMajor_val_one]
    show l = 0 * 128 + l % 128
    omega)]
  refine eq_of_forall_ge_iff fun u => ?_
  refine (multiReduction_le_iff _ reduces_S16x128_S128 (.inl rfl) rfl _ u).trans ?_
  rw [Finset.sup_le_iff]
  have e : ∀ i : S16x128.Idx, (i 1).val = l → extractStridedSlice S16x128 ![o, 0] A h i = at2 A (o + (i 0).val) l := by
    intro i hi
    have h0 : (i 0).val < 16 := (i 0).isLt
    unfold at2
    refine extractStridedSlice_apply _ _ _ _ (ixT (o + (i 0).val) l) fun ax => ?_
    match ax with
    | ⟨0, _⟩ => show (o + (i 0).val) % 64 = o + (i 0).val; omega
    | ⟨1, _⟩ => show l % 128 = 0 + (i 1).val; omega
  constructor
  · intro H i _
    have hi := i.isLt
    have h1 := H (ix16 i.val l) (by
      funext b
      match b with
      | ⟨0, _⟩ =>
        refine Fin.ext ((reduces_S16x128_S128.drop_apply_val_of_eq (ix16 i.val l) 0 1).trans ?_)
        exact Nat.mod_eq_of_lt hl)
    rw [e _ (Nat.mod_eq_of_lt hl)] at h1
    have e2 : (ix16 i.val l 0).val = i.val := Nat.mod_eq_of_lt hi
    rwa [e2] at h1
  · intro H i hi
    have h1 : (i 1).val = l := by
      have := congrArg (fun j => (j 0).val) hi
      rwa [Shape.Reduces.drop_apply_val_of_eq _ _ _ 1] at this
    rw [e i h1]
    exact H ⟨(i 0).val, (i 0).isLt⟩ (Finset.mem_univ _)

end Cert.QuantWIdeal.Hand

end
-- ==== Proof.QuantWPack.lean ====
/- The quantiser of a whole array in blocks of sixteen by sixteen, element by element: the maximum magnitude of a block, and with
   it the element's value and code and the block's scale. -/
module

public import proofs.«01_k».proof.Proof.QuantXPack

@[expose] public section

noncomputable section

namespace Cert.QuantX

open Idealize.ShloMosaic

/-- The maximum magnitude of a block of sixteen rows and sixteen columns. -/
def gW (B : ℕ → ℕ → EReal) (a k : ℕ) : EReal := Finset.univ.sup fun i : Fin 16 => gA B (16 * a + i.val) k

/-- The kernel's value at a row and a column. -/
def wqS (am : EReal) (B : ℕ → ℕ → EReal) (a b : ℕ) : EReal :=
  qK (vK am (gW B (a / 16) (b / 16)) (B a b)) * sbF am (gW B (a / 16) (b / 16))

/-- The kernel's code at a row and a column. -/
def codeW (am : EReal) (B : ℕ → ℕ → EReal) (a b : ℕ) : BitVec 32 := codeK (vK am (gW B (a / 16) (b / 16)) (B a b))

/-- The kernel's block scale. -/
def sW (am : EReal) (B : ℕ → ℕ → EReal) (a k : ℕ) : EReal := sbF am (gW B a k)

/-- The codes of an even row and of the row after it in a byte. -/
def packR (C : ℕ → ℕ → BitVec 32) (j a : ℕ) : BitVec 8 := (C (2 * j) a ||| IntOp.shli .vector (C (2 * j + 1) a) 4#32).setWidth 8

end Cert.QuantX

end
-- ==== Proof.QuantWBlock.lean ====
/- What the `quant_w` kernel stores at a row and a column of its block: the scalar quantiser's value, code and block scale, with
   the maximum magnitude of the element's block of sixteen by sixteen. -/
module

public import proofs.«01_k».proof.Proof.QuantWTiles
public import proofs.«01_k».proof.Proof.QuantWPack

@[expose] public section

set_option maxRecDepth 16384

noncomputable section

namespace Cert.QuantWIdeal.Hand

open Cert.QuantWIdeal Cert.QuantWIdeal.Gen Cert.QuantX
open Cert.QuantXIdeal.Hand (ixT at2 ixT_self)
open Idealize.ShloMosaic Idealize.ShloMosaic.TcCoe Idealize.ShloMosaic.Tactic Idealize.SL.Sem

/-- The index of a row and a column of the input block. -/
def ixB (a b : ℕ) : S512x2048.Idx := fun d => match d with
  | ⟨0, _⟩ => ⟨a % 512, Nat.mod_lt _ (by norm_num)⟩
  | ⟨1, _⟩ => ⟨b % 2048, Nat.mod_lt _ (by norm_num)⟩

/-- The input block's element at a row and a column. -/
def bAt (x1 : Vec Ideal S512x2048 .bf16) (a b : ℕ) : EReal := x1 (ixB a b)

theorem tile_at (x1 : Vec Ideal S512x2048 .bf16) (h : Fin 8) (t : Fin 16) (r l : ℕ) (hr : r < 64) (hl : l < 128) :
    at2 (tilesX x1 h t) r l = bAt x1 (64 * h.val + r) (128 * t.val + l) := by
  have := h.isLt
  have := t.isLt
  unfold at2 tilesX tileX bAt
  refine View.ld_unit_apply_of x1 ![64 * h.val, 128 * t.val] _ (inbT h t) (ixT r l) (ixB (64 * h.val + r) (128 * t.val + l)) ?_
  intro a
  match a with
  | ⟨0, _⟩ => show (64 * h.val + r) % 512 = 64 * h.val + r % 64; omega
  | ⟨1, _⟩ => show (128 * t.val + l) % 2048 = 128 * t.val + l % 128; omega

theorem piece_at (x1 : Vec Ideal S512x2048 .bf16) (h : Fin 8) (t : Fin 16) (p : Fin 8) (r l : ℕ) (hr : r / 8 = p.val) (hl : l < 128) :
    at8 (piecesX x1 h t p) r l = bAt x1 (64 * h.val + r) (128 * t.val + l) := by
  have := h.isLt
  have := t.isLt
  have := p.isLt
  unfold at8 piecesX pieceX bAt
  refine View.ld_unit_apply_of x1 ![64 * h.val + 8 * p.val, 128 * t.val] _ (inbP h t p) (ix8 r l) (ixB (64 * h.val + r) (128 * t.val + l)) ?_
  intro a
  match a with
  | ⟨0, _⟩ => show (64 * h.val + r) % 512 = 64 * h.val + 8 * p.val + r % 8; omega
  | ⟨1, _⟩ => show (128 * t.val + l) % 2048 = 128 * t.val + l % 128; omega

/-- The butterfly of a strip at a tile's lane of its run. -/
theorem lm_at (x1 : Vec Ideal S512x2048 .bf16) (h : Fin 8) (t : Fin 16) (r l : ℕ) (hr : r < 64) (hl : l < 128) :
    at2 (lmX x1 h) r (l / 16 * 16 + t.val) = gA (bAt x1) (64 * h.val + r) (8 * t.val + l / 16) := by
  have := t.isLt
  have ht : (⟨(l / 16 * 16 + t.val) % 16, Nat.mod_lt _ (by norm_num)⟩ : Fin 16) = t := Fin.ext (by show _ % 16 = _; omega)
  have eX : lmX x1 h = Cert.QuantXIdeal.Hand.amaxV fun t => absV (tilesX x1 h t) := rfl
  refine eq_of_forall_ge_iff fun u => ?_
  rw [eX, Cert.QuantXIdeal.Hand.amaxV_le _ r _ (by omega), ht]
  unfold gA
  rw [Finset.sup_le_iff]
  have e : ∀ k, k < 128 → at2 (absV (tilesX x1 h t)) r k = mag (bAt x1 (64 * h.val + r) (128 * t.val + k)) := by
    intro k hk
    rw [← tile_at x1 h t r k hr hk]
    rfl
  constructor
  · intro H i _
    have := i.isLt
    have h1 := H (16 * (l / 16) + i.val) (by omega) (by omega)
    rw [e _ (by omega)] at h1
    rw [show 16 * (8 * t.val + l / 16) + i.val = 128 * t.val + (16 * (l / 16) + i.val) by omega]
    exact h1
  · intro H k hk hg
    rw [e k hk]
    have h1 := H ⟨k % 16, Nat.mod_lt _ (by norm_num)⟩ (Finset.mem_univ _)
    rw [show 128 * t.val + k = 16 * (8 * t.val + l / 16) + k % 16 by omega]
    exact h1

/-- The maximum of a run of sixteen rows at a tile's lane of its run. -/
theorem m_at (x1 : Vec Ideal S512x2048 .bf16) (h : Fin 8) (b : Fin 4) (t : Fin 16) (l : ℕ) (hl : l < 128) :
    at1 (redV (lmX x1 h) (16 * b.val) (slB b)) (l / 16 * 16 + t.val) = gW (bAt x1) (4 * h.val + b.val) (8 * t.val + l / 16) := by
  have := t.isLt
  have := b.isLt
  rw [red_at _ _ _ (by omega) _ (by omega)]
  unfold gW
  refine Finset.sup_congr rfl fun i _ => ?_
  have := i.isLt
  rw [lm_at x1 h t _ l (by omega) hl, show 64 * h.val + (16 * b.val + i.val) = 16 * (4 * h.val + b.val) + i.val by omega]

theorem sb_at (am : EReal) (x1 : Vec Ideal S512x2048 .bf16) (h : Fin 8) (b : Fin 4) (t : Fin 16) (r l : ℕ) (hl : l < 128) :
    at8 (sbX (fun _ => am) x1 h b) r (l / 16 * 16 + t.val) = sbF am (gW (bAt x1) (4 * h.val + b.val) (8 * t.val + l / 16)) := by
  have e : ∀ (M : FVec Ideal S1x128 .f32) (L : ℕ), at8 (sb8 (stV fun _ => am) M) r L
      = sbF am (at8 (broadcastTo S8x128 M broadcasts_S1x128_S8x128) r L) := fun _ _ => rfl
  unfold sbX
  rw [e, spread8, m_at x1 h b t l hl]

theorem r_at (am : EReal) (x1 : Vec Ideal S512x2048 .bf16) (h : Fin 8) (b : Fin 4) (t : Fin 16) (r l : ℕ) (hl : l < 128) :
    at8 (rX (fun _ => am) x1 h b) r (l / 16 * 16 + t.val) = rF am (gW (bAt x1) (4 * h.val + b.val) (8 * t.val + l / 16)) := by
  have e : ∀ (M : FVec Ideal S1x128 .f32) (L : ℕ), at8 (r8 (stV fun _ => am) (sb8 (stV fun _ => am) M)) r L
      = rF am (at8 (broadcastTo S8x128 M broadcasts_S1x128_S8x128) r L) := fun _ _ => rfl
  unfold rX sbX
  rw [e, spread8, m_at x1 h b t l hl]

/-- A row of a tile's quotients is in one of its pieces. -/
theorem vT_at (t : BitVec 32) (z : FVec Ideal S1x128 .f32) (R : Fin 4 → Row8) (x : Fin 8 → Vec Ideal S8x128 .bf16) (r l : ℕ) (hr : r < 64) :
    at2 (vT t z R x) r l = at8 (v8 t z (R ⟨r / 8 / 2, by omega⟩) (x ⟨r / 8, by omega⟩)) r l := by
  have h := cat8_at (fun n => v8 t z ((![R 0, R 0, R 1, R 1, R 2, R 2, R 3, R 3] : Fin 8 → Row8) n) (x n)) r l hr
  have e : ∀ n : Fin 8, (![R 0, R 0, R 1, R 1, R 2, R 2, R 3, R 3] : Fin 8 → Row8) n = R ⟨n.val / 2, by omega⟩ := by
    intro n
    fin_cases n <;> rfl
  have e2 : vT t z R x = concatenate S64x128 0 [⟨S8x128, v8 t z (R 0) (x 0)⟩, ⟨S8x128, v8 t z (R 0) (x 1)⟩, ⟨S8x128, v8 t z (R 1) (x 2)⟩, ⟨S8x128, v8 t z (R 1) (x 3)⟩,
      ⟨S8x128, v8 t z (R 2) (x 4)⟩, ⟨S8x128, v8 t z (R 2) (x 5)⟩, ⟨S8x128, v8 t z (R 3) (x 6)⟩, ⟨S8x128, v8 t z (R 3) (x 7)⟩]
    concatenates_S8x128_S8x128_S8x128_S8x128_S8x128_S8x128_S8x128_S8x128_S64x128_d0 := rfl
  rw [e2]
  refine h.trans ?_
  rw [e]

/-- The quotients of a tile. -/
theorem v_at (am : EReal) (x1 : Vec Ideal S512x2048 .bf16) (h : Fin 8) (t : Fin 16) (r l : ℕ) (hr : r < 64) (hl : l < 128) :
    at2 (vT (BitVec.ofNat 32 t.val) (zeroV fun _ => am) (rX (fun _ => am) x1 h) (piecesX x1 h t)) r l
      = vK am (gW (bAt x1) (4 * h.val + r / 16) (8 * t.val + l / 16)) (bAt x1 (64 * h.val + r) (128 * t.val + l)) := by
  have e : at2 (vT (BitVec.ofNat 32 t.val) (zeroV fun _ => am) (rX (fun _ => am) x1 h) (piecesX x1 h t)) r l
      = at8 (v8 (BitVec.ofNat 32 t.val) (zeroV fun _ => am) (rX (fun _ => am) x1 h ⟨r / 8 / 2, by omega⟩) (piecesX x1 h t ⟨r / 8, by omega⟩)) r l :=
    vT_at _ _ _ _ r l hr
  have e2 : at8 (v8 (BitVec.ofNat 32 t.val) (zeroV fun _ => am) (rX (fun _ => am) x1 h ⟨r / 8 / 2, by omega⟩) (piecesX x1 h t ⟨r / 8, by omega⟩)) r l
      = clip (at8 (piecesX x1 h t ⟨r / 8, by omega⟩) r l
        * at8 (dynamicGather 1 (rX (fun _ => am) x1 h ⟨r / 8 / 2, by omega⟩) (gidx8 (tidx8 (BitVec.ofNat 32 t.val)))) r l + zeroF am) := rfl
  rw [e, e2, gather8_at _ _ r l _ (tidx8_at t r l hl), piece_at x1 h t _ r l rfl hl, r_at am x1 h _ t r l hl]
  show clip (_ * rF am (gW (bAt x1) (4 * h.val + r / 8 / 2) _) + _) = _
  rw [show r / 8 / 2 = r / 16 by omega]
  rfl

/-- The scales of a tile. -/
theorem sT_at (am : EReal) (x1 : Vec Ideal S512x2048 .bf16) (h : Fin 8) (t : Fin 16) (r l : ℕ) (hr : r < 64) (hl : l < 128) :
    at2 (sT (BitVec.ofNat 32 t.val) (sbX (fun _ => am) x1 h)) r l = sbF am (gW (bAt x1) (4 * h.val + r / 16) (8 * t.val + l / 16)) := by
  have e : at2 (sT (BitVec.ofNat 32 t.val) (sbX (fun _ => am) x1 h)) r l
      = at16 (s16 (BitVec.ofNat 32 t.val) (sbX (fun _ => am) x1 h ⟨r / 16, by omega⟩)) r l :=
    cat4_at (fun n => s16 (BitVec.ofNat 32 t.val) (sbX (fun _ => am) x1 h n)) r l hr
  have e2 : at16 (s16 (BitVec.ofNat 32 t.val) (sbX (fun _ => am) x1 h ⟨r / 16, by omega⟩)) r l
      = at16 (dynamicGather 1 (concatenate S16x128 0 [⟨S8x128, sbX (fun _ => am) x1 h ⟨r / 16, by omega⟩⟩, ⟨S8x128, sbX (fun _ => am) x1 h ⟨r / 16, by omega⟩⟩] concatenates_S8x128_S8x128_S16x128_d0)
        (gidx16 (concatenate S16x128 0 [⟨S8x128, tidx8 (BitVec.ofNat 32 t.val)⟩, ⟨S8x128, tidx8 (BitVec.ofNat 32 t.val)⟩] concatenates_S8x128_S8x128_S16x128_d0))) r l := rfl
  have g : (Cert.QuantXIdeal.Hand.wrapB (at16 (concatenate S16x128 0 [⟨S8x128, tidx8 (BitVec.ofNat 32 t.val)⟩, ⟨S8x128, tidx8 (BitVec.ofNat 32 t.val)⟩] concatenates_S8x128_S8x128_S16x128_d0) r l)).toNat % 128
      = l / 16 * 16 + t.val := by
    rw [cat2_at]
    exact tidx8_at t r l hl
  rw [e, e2, gather16_at _ _ r l _ g, cat2_at, sb_at am x1 h _ t r l hl]

/-- The stored values of a tile. -/
theorem wq_at (am : EReal) (x1 : Vec Ideal S512x2048 .bf16) (h : Fin 8) (t : Fin 16) (r l : ℕ) (hr : r < 64) (hl : l < 128) :
    at2 (wqT (BitVec.ofNat 32 t.val) (zeroV fun _ => am) (sbX (fun _ => am) x1 h) (rX (fun _ => am) x1 h) (piecesX x1 h t)) r l
      = wqS am (bAt x1) (64 * h.val + r) (128 * t.val + l) := by
  have e : at2 (wqT (BitVec.ofNat 32 t.val) (zeroV fun _ => am) (sbX (fun _ => am) x1 h) (rX (fun _ => am) x1 h) (piecesX x1 h t)) r l
      = qK (at2 (vT (BitVec.ofNat 32 t.val) (zeroV fun _ => am) (rX (fun _ => am) x1 h) (piecesX x1 h t)) r l)
        * at2 (sT (BitVec.ofNat 32 t.val) (sbX (fun _ => am) x1 h)) r l := rfl
  rw [e, v_at am x1 h t r l hr hl, sT_at am x1 h t r l hr hl]
  unfold wqS
  rw [show (128 * t.val + l) / 16 = 8 * t.val + l / 16 by omega, show (64 * h.val + r) / 16 = 4 * h.val + r / 16 by omega]

/-- The codes of a tile. -/
theorem code_at (am : EReal) (x1 : Vec Ideal S512x2048 .bf16) (h : Fin 8) (t : Fin 16) (r l : ℕ) (hr : r < 64) (hl : l < 128) :
    at2 (codeV (vT (BitVec.ofNat 32 t.val) (zeroV fun _ => am) (rX (fun _ => am) x1 h) (piecesX x1 h t))) r l
      = codeW am (bAt x1) (64 * h.val + r) (128 * t.val + l) := by
  have e : at2 (codeV (vT (BitVec.ofNat 32 t.val) (zeroV fun _ => am) (rX (fun _ => am) x1 h) (piecesX x1 h t))) r l
      = codeK (at2 (vT (BitVec.ofNat 32 t.val) (zeroV fun _ => am) (rX (fun _ => am) x1 h) (piecesX x1 h t)) r l) := rfl
  rw [e, v_at am x1 h t r l hr hl]
  unfold codeW
  rw [show (128 * t.val + l) / 16 = 8 * t.val + l / 16 by omega, show (64 * h.val + r) / 16 = 4 * h.val + r / 16 by omega]

/-- The stored codes of a tile. -/
theorem nib_at (am : EReal) (x1 : Vec Ideal S512x2048 .bf16) (h : Fin 8) (t : Fin 16) (r l : ℕ) (hr : r < 64) (hl : l < 128) :
    at2 (nibT (BitVec.ofNat 32 t.val) (zeroV fun _ => am) (rX (fun _ => am) x1 h) (piecesX x1 h t)) r l
      = (codeW am (bAt x1) (64 * h.val + r) (128 * t.val + l)).setWidth 8 := by
  rw [← code_at am x1 h t r l hr hl]
  unfold nibT
  rw [shapeCast_self]
  rfl

/-- The packed rows of a tile of codes. -/
theorem pack_at (C : IVec S64x128 32) (x : S32x128.Idx) :
    packT C x = (at2 C (2 * (x 0).val) (x 1).val ||| IntOp.shli .vector (at2 C (2 * (x 0).val + 1) (x 1).val) 4#32).setWidth 8 := by
  have h0 : (x 0).val < 32 := (x 0).isLt
  have h1 : (x 1).val < 128 := (x 1).isLt
  have ex : x = (ValueIdx.ix2 (⟨(x 0).val, h0⟩ : Fin 32) (⟨(x 1).val, h1⟩ : Fin 128) : S32x128.Idx) := by
    funext a
    match a with
    | ⟨0, _⟩ => rfl
    | ⟨1, _⟩ => rfl
  have hs : ∀ (e : Fin 2) (hs : S32x2x128.Slices ![0, e.val, 0] S32x1x128),
      shapeCast S32x128 (extractStridedSlice S32x1x128 ![0, e.val, 0] (shapeCast S32x2x128 C shapeCasts_S64x128_S32x2x128) hs)
        shapeCasts_S32x1x128_S32x128 x = at2 C (2 * (x 0).val + e.val) (x 1).val := by
    intro e hs
    have he := e.isLt
    rw [shapeCast_apply _ _ x (ValueIdx.ix3 (⟨(x 0).val, h0⟩ : Fin 32) (0 : Fin 1) (⟨(x 1).val, h1⟩ : Fin 128) : S32x1x128.Idx) (by
      rw [Shape.rowMajor_val_three, Shape.rowMajor_val_two]
      show ((x 0).val * 1 + 0) * 128 + (x 1).val = (x 0).val * 128 + (x 1).val
      ring)]
    rw [ValueIdx.slice3_axis1_apply e.val _ hs (⟨(x 0).val, h0⟩ : Fin 32) 0 (⟨(x 1).val, h1⟩ : Fin 128) e rfl]
    unfold at2
    refine shapeCast_apply _ _ _ _ ?_
    rw [Shape.rowMajor_val_three, Shape.rowMajor_val_two]
    show (2 * (x 0).val + e.val) % 64 * 128 + (x 1).val % 128 = ((x 0).val * 2 + e.val) * 128 + (x 1).val
    omega
  unfold packT
  rw [shapeCast_self]
  show BitVec.setWidth 8 (shapeCast S32x128 (extractStridedSlice S32x1x128 ![0, (0 : Fin 2).val, 0] (shapeCast S32x2x128 C shapeCasts_S64x128_S32x2x128)
      slices_S32x2x128_o0_0_0_S32x1x128) shapeCasts_S32x1x128_S32x128 x
    ||| IntOp.shli .vector (shapeCast S32x128 (extractStridedSlice S32x1x128 ![0, (1 : Fin 2).val, 0] (shapeCast S32x2x128 C shapeCasts_S64x128_S32x2x128)
      slices_S32x2x128_o0_1_0_S32x1x128) shapeCasts_S32x1x128_S32x128 x) 4#32) = _
  rw [hs, hs]
  rfl

/-- The stored packed codes of a tile. -/
theorem pair_at (am : EReal) (x1 : Vec Ideal S512x2048 .bf16) (h : Fin 8) (t : Fin 16) (x : S32x128.Idx) :
    pairT (BitVec.ofNat 32 t.val) (zeroV fun _ => am) (rX (fun _ => am) x1 h) (piecesX x1 h t) x
      = packR (codeW am (bAt x1)) (32 * h.val + (x 0).val) (128 * t.val + (x 1).val) := by
  have h0 : (x 0).val < 32 := (x 0).isLt
  have h1 : (x 1).val < 128 := (x 1).isLt
  unfold pairT
  rw [pack_at, code_at am x1 h t _ _ (by omega) h1, code_at am x1 h t _ _ (by omega) h1]
  unfold packR
  rw [show 64 * h.val + 2 * (x 0).val = 2 * (32 * h.val + (x 0).val) by omega,
    show 64 * h.val + (2 * (x 0).val + 1) = 2 * (32 * h.val + (x 0).val) + 1 by omega]

/-- The stored block scales of a run of sixteen rows. -/
theorem ord_at (am : EReal) (x1 : Vec Ideal S512x2048 .bf16) (h : Fin 8) (b : Fin 4) (l : ℕ) (hl : l < 128) :
    at1 (ord8 (sbX (fun _ => am) x1 h b)) l = sW am (bAt x1) (4 * h.val + b.val) l := by
  have e : at1 (ord8 (sbX (fun _ => am) x1 h b)) l = at8 (dynamicGather 1 (sbX (fun _ => am) x1 h b) (gidx8 ordIdx8)) 0 l := by
    unfold ord8 at1 at8
    rw [shapeCast_self]
    refine extractStridedSlice_apply _ _ _ _ (ix8 0 l) fun ax => ?_
    match ax with
    | ⟨0, _⟩ => rfl
    | ⟨1, _⟩ => show l % 128 = 0 + l % 128; omega
  have h1 := sb_at am x1 h b ⟨l / 8, by omega⟩ 0 (l % 8 * 16) (by omega)
  rw [e, gather8_at _ _ 0 l _ (ord8_lane 0 l hl), show l % 8 * 16 + l / 8 = l % 8 * 16 / 16 * 16 + l / 8 by omega, h1]
  unfold sW
  congr 2
  show 8 * (l / 8) + l % 8 * 16 / 16 = l
  omega

end Cert.QuantWIdeal.Hand

end
-- ==== Proof.QuantWStores.lean ====
/- What one store of the `quant_w` body leaves at a row and a column of its buffer, and what a whole read of a scratch buffer is. -/
module

public import proofs.«01_k».proof.Proof.QuantWBlock
public import proofs.«01_k».proof.Proof.Gen.QuantWIdeal.Value
public import Idealize.ShloMosaic.Lib.ValueLayout

@[expose] public section

set_option maxRecDepth 16384

noncomputable section

namespace Cert.QuantWIdeal.Hand

open Cert.QuantWIdeal Cert.QuantWIdeal.Gen Cert.QuantX
open Cert.QuantXIdeal.Hand (ixT at2 ixT_self)
open Idealize.ShloMosaic Idealize.ShloMosaic.TcCoe Idealize.ShloMosaic.Tactic Idealize.SL.Sem

/-- A store of a tile's values, whatever its vector, when that is the tile's. -/
theorem store2 (x0 : Vec Ideal S1x128 .f32) (x1 : Vec Ideal S512x2048 .bf16) (am : EReal) (hx0 : x0 = fun _ => am) (h : Fin 8) (t : Fin 16)
    (p q : ℕ) (hp : p = 64 * h.val) (hq : q = 128 * t.val)
    (P : FVec Ideal S64x128 .bf16) (hP : P = wqT (BitVec.ofNat 32 t.val) (zeroV x0) (sbX x0 x1 h) (rX x0 x1 h) (piecesX x1 h t)) (x : S64x128.Idx) (y : S512x2048.Idx)
    (hx : ∀ a, (y a).val = (![p, q] : Fin 2 → ℕ) a + (x a).val) : P x = wqS am (bAt x1) (y 0).val (y 1).val := by
  subst hx0 hp hq
  have h0 : (y 0).val = 64 * h.val + (x 0).val := hx 0
  have h1 : (y 1).val = 128 * t.val + (x 1).val := hx 1
  rw [hP, h0, h1, ← wq_at am x1 h t _ _ (x 0).isLt (x 1).isLt]
  exact (congrArg _ (ixT_self x)).symm

/-- A store of a tile's codes, whatever its vector, when that is the tile's. -/
theorem store8 (x0 : Vec Ideal S1x128 .f32) (x1 : Vec Ideal S512x2048 .bf16) (am : EReal) (hx0 : x0 = fun _ => am) (h : Fin 8) (t : Fin 16)
    (p q : ℕ) (hp : p = 64 * h.val) (hq : q = 128 * t.val)
    (P : IVec S64x128 8) (hP : P = nibT (BitVec.ofNat 32 t.val) (zeroV x0) (rX x0 x1 h) (piecesX x1 h t)) (x : S64x128.Idx) (y : S512x2048.Idx)
    (hx : ∀ a, (y a).val = (![p, q] : Fin 2 → ℕ) a + (x a).val) : P x = (codeW am (bAt x1) (y 0).val (y 1).val).setWidth 8 := by
  subst hx0 hp hq
  have h0 : (y 0).val = 64 * h.val + (x 0).val := hx 0
  have h1 : (y 1).val = 128 * t.val + (x 1).val := hx 1
  rw [hP, h0, h1, ← nib_at am x1 h t _ _ (x 0).isLt (x 1).isLt]
  exact (congrArg _ (ixT_self x)).symm

/-- A store of a tile's row-packed codes, whatever its vector, when that is the tile's. -/
theorem store9 (x0 : Vec Ideal S1x128 .f32) (x1 : Vec Ideal S512x2048 .bf16) (am : EReal) (hx0 : x0 = fun _ => am) (h : Fin 8) (t : Fin 16)
    (p q : ℕ) (hp : p = 32 * h.val) (hq : q = 128 * t.val)
    (P : IVec S32x128 8) (hP : P = pairT (BitVec.ofNat 32 t.val) (zeroV x0) (rX x0 x1 h) (piecesX x1 h t)) (x : S32x128.Idx) (y : S256x2048.Idx)
    (hx : ∀ a, (y a).val = (![p, q] : Fin 2 → ℕ) a + (x a).val) : P x = packR (codeW am (bAt x1)) (y 0).val (y 1).val := by
  subst hx0 hp hq
  have h0 : (y 0).val = 32 * h.val + (x 0).val := hx 0
  have h1 : (y 1).val = 128 * t.val + (x 1).val := hx 1
  rw [hP, h0, h1]
  exact pair_at am x1 h t x

/-- A store of a row of scales, whatever its vector, when that is the row's. -/
theorem store10 (x0 : Vec Ideal S1x128 .f32) (x1 : Vec Ideal S512x2048 .bf16) (am : EReal) (hx0 : x0 = fun _ => am) (h : Fin 8) (b : Fin 4)
    (p : ℕ) (hp : p = 4 * h.val + b.val)
    (P : FVec Ideal S1x128 .f32) (hP : P = ord8 (sbX x0 x1 h b)) (x : S1x128.Idx) (y : S32x128.Idx)
    (hx : ∀ a, (y a).val = (![p, 0] : Fin 2 → ℕ) a + (x a).val) : P x = sW am (bAt x1) (y 0).val (y 1).val := by
  subst hx0 hp
  have hz0 : (x 0).val < 1 := (x 0).isLt
  have h0 : (y 0).val = 4 * h.val + b.val + (x 0).val := hx 0
  have h1 : (y 1).val = 0 + (x 1).val := hx 1
  rw [hP, h0, h1, Nat.zero_add, show 4 * h.val + b.val + (x 0).val = 4 * h.val + b.val by omega, ← ord_at am x1 h b _ (x 1).isLt]
  exact (congrArg _ (ix1_self x)).symm

theorem setWidth_pack (a b : BitVec 32) :
    ((a.setWidth 8).setWidth 32 ||| (b.setWidth 8).setWidth 32 <<< 4).setWidth 8 = (a ||| b <<< 4).setWidth 8 := by
  ext i hi
  simp only [BitVec.getElem_setWidth, BitVec.getLsbD_or, BitVec.getLsbD_setWidth, BitVec.getLsbD_shiftLeft]
  have h1 : decide (i < 32) = true := decide_eq_true (by omega)
  have h2 : decide (i < 8) = true := decide_eq_true hi
  have h3 : decide (i - 4 < 32) = true := decide_eq_true (by omega)
  have h4 : decide (i - 4 < 8) = true := decide_eq_true (by omega)
  simp only [h1, h2, h3, h4, Bool.true_and]

/-- The codes turned and split by the evenness of the column. -/
def splitN (N : Vec Ideal S512x2048 .i8) : IVec S1024x2x512 32 :=
  shapeCast S1024x2x512 (extui 32 (transpose S2048x512 [1, 0] N transposes_S512x2048_p1_0_S2048x512) natLt_8_32) shapeCasts_S2048x512_S1024x2x512

theorem splitN_at (N : Vec Ideal S512x2048 .i8) (j : Fin 1024) (e : Fin 2) (a : Fin 512) :
    splitN N (ValueIdx.ix3 j e a) = BitVec.setWidth 32 (N (ValueIdx.ix2 a ⟨2 * j.val + e.val, by omega⟩) : BitVec 8) := by
  unfold splitN
  rw [shapeCast_apply _ _ (ValueIdx.ix3 j e a) (ValueIdx.ix2 ⟨2 * j.val + e.val, by omega⟩ a : S2048x512.Idx) (by
    rw [Shape.rowMajor_val_three, Shape.rowMajor_val_two]
    show (2 * j.val + e.val) * 512 + a.val = (j.val * 2 + e.val) * 512 + a.val
    ring)]
  show BitVec.setWidth 32 (transpose S2048x512 [1, 0] N transposes_S512x2048_p1_0_S2048x512 _) = _
  rw [ValueIdx.transpose_ix2_apply]

theorem slice_at (A : IVec S1024x2x512 32) (e : Fin 2) (h : S1024x2x512.Slices ![0, e.val, 0] S1024x1x512) (j : Fin 1024) (a : Fin 512) :
    shapeCast S1024x512 (extractStridedSlice S1024x1x512 ![0, e.val, 0] A h) shapeCasts_S1024x1x512_S1024x512 (ValueIdx.ix2 j a)
      = A (ValueIdx.ix3 j e a) := by
  rw [shapeCast_apply _ _ (ValueIdx.ix2 j a) (ValueIdx.ix3 j (0 : Fin 1) a : S1024x1x512.Idx) (by
    rw [Shape.rowMajor_val_three, Shape.rowMajor_val_two]
    show (j.val * 1 + 0) * 512 + a.val = j.val * 512 + a.val
    ring)]
  exact ValueIdx.slice3_axis1_apply e.val A h j 0 a e rfl

/-- The store of the column-packed codes, whatever the scratch's vector, when its elements are the codes. -/
theorem store3 (C : ℕ → ℕ → BitVec 32) (N : Vec Ideal S512x2048 .i8) (hN : N = fun z => (C (z 0).val (z 1).val).setWidth 8) (x y : S512x1024.Idx)
    (hx : ∀ a, (y a).val = (![0, 0] : Fin 2 → ℕ) a + (x a).val) :
    k0_pay3973 N x = packS C (y 0).val (y 1).val := by
  have h0 : (y 0).val = 0 + (x 0).val := hx 0
  have h1 : (y 1).val = 0 + (x 1).val := hx 1
  rw [h0, h1, Nat.zero_add, Nat.zero_add]
  have ex : x = (ValueIdx.ix2 (⟨(x 0).val, (x 0).isLt⟩ : Fin 512) (⟨(x 1).val, (x 1).isLt⟩ : Fin 1024) : S512x1024.Idx) := by
    funext a
    match a with
    | ⟨0, _⟩ => rfl
    | ⟨1, _⟩ => rfl
  rw [ex]
  generalize (⟨(x 0).val, (x 0).isLt⟩ : Fin 512) = a
  generalize (⟨(x 1).val, (x 1).isLt⟩ : Fin 1024) = j
  unfold k0_pay3973
  dsimp only
  rw [ValueIdx.transpose_ix2_apply]
  show BitVec.setWidth 8 (shapeCast S1024x512 (extractStridedSlice S1024x1x512 ![0, (0 : Fin 2).val, 0] (splitN N) slices_S1024x2x512_o0_0_0_S1024x1x512) shapeCasts_S1024x1x512_S1024x512 (ValueIdx.ix2 j a)
    ||| IntOp.shli .vector (shapeCast S1024x512 (extractStridedSlice S1024x1x512 ![0, (1 : Fin 2).val, 0] (splitN N) slices_S1024x2x512_o0_1_0_S1024x1x512) shapeCasts_S1024x1x512_S1024x512 (ValueIdx.ix2 j a)) 4#32) = _
  rw [slice_at, slice_at, splitN_at, splitN_at, hN]
  exact setWidth_pack _ _

/-- The store of the row-packed codes, whatever the scratch's vector, when its elements are the packed codes. -/
theorem store4 (C : ℕ → ℕ → BitVec 8) (N : Vec Ideal S256x2048 .i8) (hN : N = fun z => C (z 0).val (z 1).val) (x y : S2048x256.Idx)
    (hx : ∀ a, (y a).val = (![0, 0] : Fin 2 → ℕ) a + (x a).val) :
    k0_pay3974 N x = C (y 1).val (y 0).val := by
  have h0 : (y 0).val = 0 + (x 0).val := hx 0
  have h1 : (y 1).val = 0 + (x 1).val := hx 1
  rw [h0, h1, Nat.zero_add, Nat.zero_add]
  have ex : x = (ValueIdx.ix2 (⟨(x 0).val, (x 0).isLt⟩ : Fin 2048) (⟨(x 1).val, (x 1).isLt⟩ : Fin 256) : S2048x256.Idx) := by
    funext a
    match a with
    | ⟨0, _⟩ => rfl
    | ⟨1, _⟩ => rfl
  rw [ex]
  generalize (⟨(x 0).val, (x 0).isLt⟩ : Fin 2048) = a
  generalize (⟨(x 1).val, (x 1).isLt⟩ : Fin 256) = j
  unfold k0_pay3974
  dsimp only
  rw [ValueIdx.transpose_ix2_apply, hN]

/-- The store of the scales, whatever the scratch's vector, when its elements are the scales. -/
theorem store5 (C : ℕ → ℕ → EReal) (N : Vec Ideal S32x128 .f32) (hN : N = fun z => C (z 0).val (z 1).val) (x y : S32x128.Idx)
    (hx : ∀ a, (y a).val = (![0, 0] : Fin 2 → ℕ) a + (x a).val) :
    k0_pay3975 N x = C (y 0).val (y 1).val := by
  have h0 : (y 0).val = 0 + (x 0).val := hx 0
  have h1 : (y 1).val = 0 + (x 1).val := hx 1
  rw [h0, h1, Nat.zero_add, Nat.zero_add, hN]
  rfl

/-- A whole read of the covered scratch of codes, piece by piece. -/
theorem read8 (v : View sig .tc .vmem S512x2048 .i8) (L : List (View.Piece (Elt Ideal) S512x2048 .i8))
    (inb : ∀ a, (![0, 0] : Fin 2 → ℕ) a + S512x2048.size a ≤ S512x2048.size a) (f : Vec Ideal S512x2048 .i8)
    (hL : View.Piece.tiledL L S64x128.size = true) (h : ∀ y, View.AllAt L y (f y)) :
    v.readCov L (Rect.unit (s := S512x2048) ![0, 0] S512x2048.size inb).toLoadRect = f := by
  have hc := View.cover_of_tiledL L S64x128.size hL
  rw [View.readCov_eq_canon_ld _ _ _ hc, View.ld_unit_zero (S := S512x2048) hz]
  funext y
  exact View.canon_eq_of_allAt L y _ (hc y) (h y)

/-- A whole read of the covered scratch of row-packed codes, piece by piece. -/
theorem read9 (v : View sig .tc .vmem S256x2048 .i8) (L : List (View.Piece (Elt Ideal) S256x2048 .i8))
    (inb : ∀ a, (![0, 0] : Fin 2 → ℕ) a + S256x2048.size a ≤ S256x2048.size a) (f : Vec Ideal S256x2048 .i8)
    (hL : View.Piece.tiledL L S32x128.size = true) (h : ∀ y, View.AllAt L y (f y)) :
    v.readCov L (Rect.unit (s := S256x2048) ![0, 0] S256x2048.size inb).toLoadRect = f := by
  have hc := View.cover_of_tiledL L S32x128.size hL
  rw [View.readCov_eq_canon_ld _ _ _ hc, View.ld_unit_zero (S := S256x2048) hz]
  funext y
  exact View.canon_eq_of_allAt L y _ (hc y) (h y)

/-- A whole read of the covered scratch of scales, row by row. -/
theorem read10 (v : View sig .tc .vmem S32x128 .f32) (L : List (View.Piece (Elt Ideal) S32x128 .f32))
    (inb : ∀ a, (![0, 0] : Fin 2 → ℕ) a + S32x128.size a ≤ S32x128.size a) (f : Vec Ideal S32x128 .f32)
    (hL : View.Piece.tiledL L S1x128.size = true) (h : ∀ y, View.AllAt L y (f y)) :
    v.readCov L (Rect.unit (s := S32x128) ![0, 0] S32x128.size inb).toLoadRect = f := by
  have hc := View.cover_of_tiledL L S1x128.size hL
  rw [View.readCov_eq_canon_ld _ _ _ hc, View.ld_unit_zero (S := S32x128) hz]
  funext y
  exact View.canon_eq_of_allAt L y _ (hc y) (h y)

end Cert.QuantWIdeal.Hand

end
-- ==== Proof.QuantWScales.lean ====
/- What the `quant_w` body leaves in its scales window, at a row and a column. -/
module

public import proofs.«01_k».proof.Proof.QuantWStores

@[expose] public section

set_option maxRecDepth 65536
set_option maxHeartbeats 40000000

noncomputable section

namespace Cert.QuantWIdeal.Hand

open Cert.QuantWIdeal Cert.QuantWIdeal.Gen Cert.QuantWIdeal.Value Cert.QuantX
open Idealize.ShloMosaic Idealize.ShloMosaic.TcCoe Idealize.ShloMosaic.Tactic Idealize.SL.Sem

/-- The scales window. -/
theorem out5 (c : Dev nD) (i : grid0.Coords) (arg2 : Memref sig .tc .vmem S1x128 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .i8) (harg5 : arg5.IsWhole) (arg6 : Memref sig .tc .vmem S2048x256 .i8) (harg6 : arg6.IsWhole) (arg7 : Memref sig .tc .vmem S32x128 .fp8e4m3) (harg7 : arg7.IsWhole) (arg8 : Memref sig .tc .vmem S512x2048 .i8) (harg8 : arg8.IsWhole) (arg9 : Memref sig .tc .vmem S256x2048 .i8) (harg9 : arg9.IsWhole) (arg10 : Memref sig .tc .vmem S32x128 .f32) (harg10 : arg10.IsWhole)
    (x0 : Vec Ideal S1x128 .f32) (x1 : Vec Ideal S512x2048 .bf16) (am : EReal) (hx0 : x0 = fun _ => am) (y : S32x128.Idx) :
    out0_A_5 c i arg2 harg2 arg3 harg3 arg4 harg4 arg5 harg5 arg6 harg6 arg7 harg7 arg8 harg8 arg9 harg9 arg10 harg10 x0 x1 y = sW am (bAt x1) (y 0).val (y 1).val := by
  have hcov := cover0_A_5 c i arg2 harg2 arg3 harg3 arg4 harg4 arg5 harg5 arg6 harg6 arg7 harg7 arg8 harg8 arg9 harg9 arg10 harg10 x0 x1
  unfold out0_A_5
  rw [View.read_writes_eq_canon _ _ _ hcov]
  refine View.canon_eq_of_allAt _ y _ (hcov y) ?_
  clear hcov
  unfold kernelRun0_A
  dsimp only
  sl_unfold_words
  refine View.allAt_cons_unit _ _ _ _ _ ?_ (View.allAt_nil _ _)
  intro x hx
  refine store5 (sW am (bAt x1)) _ ?_ x y hx
  clear hx x y
  refine read10 _ _ _ _ (by sl_kernel_rfl) fun y => ?_
  simp only [View.readAt_eq_ld, harg2.read_unread, harg3.read_unread, ld0]
  refine View.allAt_cons_unit _ _ _ _ _ ?_ ?_
  · intro x hx
    unfold_payloads
    refine store10 x0 x1 am hx0 7 3 31 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 7 2 30 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 7 1 29 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 7 0 28 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 6 3 27 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 6 2 26 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 6 1 25 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 6 0 24 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 5 3 23 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 5 2 22 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 5 1 21 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 5 0 20 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 4 3 19 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 4 2 18 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 4 1 17 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 4 0 16 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 3 3 15 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 3 2 14 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 3 1 13 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 3 0 12 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 2 3 11 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 2 2 10 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 2 1 9 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 2 0 8 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 1 3 7 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 1 2 6 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 1 1 5 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 1 0 4 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 0 3 3 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 0 2 2 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 0 1 1 rfl _ ?_ x y hx
    clear hx x y
    unfold ord8 sbX sb8 redV lmX amaxV merge keepV permV absV gidx laneV stV tilesX tileX gidx8 ordIdx8 lane8
    dsimp only
    rfl
  refine View.allAt_cons_unit _ _ _ _ _ ?_ ?_
  · intro x hx
    unfold_payloads
    refine store10 x0 x1 am hx0 0 0 0 rfl _ ?_ x y hx
    clear hx x y
    unfold ord8 sbX sb8 redV lmX amaxV merge keepV permV absV gidx laneV stV tilesX tileX gidx8 ordIdx8 lane8
    dsimp only
    rfl
  exact View.allAt_nil _ _

end Cert.QuantWIdeal.Hand

end
-- ==== Proof.QuantWValues.lean ====
/- What the `quant_w` body leaves in its values window, at a row and a column. -/
module

public import proofs.«01_k».proof.Proof.QuantWStores

@[expose] public section

set_option maxRecDepth 65536
set_option maxHeartbeats 40000000

noncomputable section

namespace Cert.QuantWIdeal.Hand

open Cert.QuantWIdeal Cert.QuantWIdeal.Gen Cert.QuantWIdeal.Value Cert.QuantX
open Idealize.ShloMosaic Idealize.ShloMosaic.TcCoe Idealize.ShloMosaic.Tactic Idealize.SL.Sem

/-- Four pieces of sixteen rows, piece by piece. -/
theorem cat4_congr {a b c d a' b' c' d' : FVec Ideal S16x128 .bf16} (ha : a = a') (hb : b = b') (hc : c = c') (hd : d = d') :
    concatenate S64x128 0 [⟨S16x128, a⟩, ⟨S16x128, b⟩, ⟨S16x128, c⟩, ⟨S16x128, d⟩] concatenates_S16x128_S16x128_S16x128_S16x128_S64x128_d0
      = concatenate S64x128 0 [⟨S16x128, a'⟩, ⟨S16x128, b'⟩, ⟨S16x128, c'⟩, ⟨S16x128, d'⟩] concatenates_S16x128_S16x128_S16x128_S16x128_S64x128_d0 := by
  subst ha hb hc hd; rfl

/-- A piece of sixteen rows of scales, by its scales and its index vector. -/
theorem s16_congr {A A' : Row8} {J J' : IVec S16x128 32} (hA : A = A') (hJ : J = J') :
    (truncf .bf16 (dynamicGather 1 (concatenate S16x128 0 [⟨S8x128, A⟩, ⟨S8x128, A⟩] concatenates_S8x128_S8x128_S16x128_d0) J) bitsLt_bf16_f32 : FVec Ideal S16x128 .bf16)
      = truncf .bf16 (dynamicGather 1 (concatenate S16x128 0 [⟨S8x128, A'⟩, ⟨S8x128, A'⟩] concatenates_S8x128_S8x128_S16x128_d0) J') bitsLt_bf16_f32 := by
  subst hA hJ; rfl

/-- The values window. -/
theorem out2 (c : Dev nD) (i : grid0.Coords) (arg2 : Memref sig .tc .vmem S1x128 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .i8) (harg5 : arg5.IsWhole) (arg6 : Memref sig .tc .vmem S2048x256 .i8) (harg6 : arg6.IsWhole) (arg7 : Memref sig .tc .vmem S32x128 .fp8e4m3) (harg7 : arg7.IsWhole) (arg8 : Memref sig .tc .vmem S512x2048 .i8) (harg8 : arg8.IsWhole) (arg9 : Memref sig .tc .vmem S256x2048 .i8) (harg9 : arg9.IsWhole) (arg10 : Memref sig .tc .vmem S32x128 .f32) (harg10 : arg10.IsWhole)
    (x0 : Vec Ideal S1x128 .f32) (x1 : Vec Ideal S512x2048 .bf16) (am : EReal) (hx0 : x0 = fun _ => am) (y : S512x2048.Idx) :
    out0_A_2 c i arg2 harg2 arg3 harg3 arg4 harg4 arg5 harg5 arg6 harg6 arg7 harg7 arg8 harg8 arg9 harg9 arg10 harg10 x0 x1 y = wqS am (bAt x1) (y 0).val (y 1).val := by
  have hcov := cover0_A_2 c i arg2 harg2 arg3 harg3 arg4 harg4 arg5 harg5 arg6 harg6 arg7 harg7 arg8 harg8 arg9 harg9 arg10 harg10 x0 x1
  unfold out0_A_2
  rw [View.read_writes_eq_canon _ _ _ hcov]
  refine View.canon_eq_of_allAt _ y _ (hcov y) ?_
  clear hcov
  unfold kernelRun0_A
  dsimp only
  sl_unfold_words
  simp only [View.readAt_eq_ld, harg2.read_unread, harg3.read_unread, ld0]
  refine View.allAt_cons_unit _ _ _ _ _ ?_ ?_
  · intro x hx
    unfold_payloads
    refine store2 x0 x1 am hx0 7 15 448 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 14 448 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 13 448 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 12 448 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 11 448 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 10 448 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 9 448 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 8 448 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 7 448 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 6 448 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 5 448 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 4 448 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 3 448 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 2 448 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 1 448 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 7 0 448 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 15 384 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 14 384 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 13 384 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 12 384 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 11 384 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 10 384 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 9 384 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 8 384 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 7 384 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 6 384 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 5 384 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 4 384 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 3 384 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 2 384 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 1 384 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 6 0 384 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 15 320 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 14 320 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 13 320 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 12 320 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 11 320 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 10 320 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 9 320 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 8 320 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 7 320 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 6 320 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 5 320 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 4 320 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 3 320 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 2 320 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 1 320 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 5 0 320 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 15 256 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 14 256 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 13 256 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 12 256 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 11 256 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 10 256 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 9 256 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 8 256 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 7 256 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 6 256 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 5 256 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 4 256 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 3 256 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 2 256 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 1 256 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 4 0 256 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 15 192 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 14 192 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 13 192 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 12 192 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 11 192 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 10 192 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 9 192 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 8 192 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 7 192 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 6 192 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 5 192 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 4 192 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 3 192 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 2 192 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 1 192 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 3 0 192 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 15 128 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 14 128 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 13 128 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 12 128 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 11 128 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 10 128 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 9 128 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 8 128 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 7 128 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 6 128 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 5 128 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 4 128 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 3 128 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 2 128 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 1 128 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 2 0 128 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 15 64 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 14 64 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 13 64 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 12 64 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 11 64 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 10 64 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 9 64 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 8 64 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 7 64 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 6 64 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 5 64 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 4 64 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 3 64 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 2 64 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 1 64 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 1 0 64 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 15 0 1920 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 14 0 1792 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 13 0 1664 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 12 0 1536 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 11 0 1408 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 10 0 1280 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 9 0 1152 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 8 0 1024 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 7 0 896 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 6 0 768 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 5 0 640 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 4 0 512 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 3 0 384 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 2 0 256 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 1 0 128 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  refine View.allAt_cons_unit _ _ _ _ _ ?_ ?_
  · intro x hx
    unfold_payloads
    refine store2 x0 x1 am hx0 0 0 0 0 rfl rfl _ ?_ x y hx
    clear hx x y
    unfold wqT vT v8 sT s16 qV nV stepV rX r8 sbX sb8 redV lmX amaxV merge keepV permV absV gidx laneV stV tilesX tileX gidx8 gidx16 tidx8 lane8 zeroV piecesX pieceX
    dsimp only
    refine congr (congrArg mulf ?_) (cat4_congr (s16_congr ?_ ?_) (s16_congr ?_ ?_) (s16_congr ?_ ?_) (s16_congr ?_ ?_))
    all_goals first
      | (simp only [View.readAt_eq_ld, harg2.read_unread, harg3.read_unread, ld0]; rfl)
      | rfl
  exact View.allAt_nil _ _

end Cert.QuantWIdeal.Hand

end
-- ==== Proof.QuantWCodes.lean ====
/- What the `quant_w` body leaves in its window of column-packed codes, at a row and a column. -/
module

public import proofs.«01_k».proof.Proof.QuantWStores

@[expose] public section

set_option maxRecDepth 65536
set_option maxHeartbeats 40000000

noncomputable section

namespace Cert.QuantWIdeal.Hand

open Cert.QuantWIdeal Cert.QuantWIdeal.Gen Cert.QuantWIdeal.Value Cert.QuantX
open Idealize.ShloMosaic Idealize.ShloMosaic.TcCoe Idealize.ShloMosaic.Tactic Idealize.SL.Sem

/-- The window of column-packed codes: the code of an even column, and of the odd one after it four bits up. -/
theorem out3 (c : Dev nD) (i : grid0.Coords) (arg2 : Memref sig .tc .vmem S1x128 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .i8) (harg5 : arg5.IsWhole) (arg6 : Memref sig .tc .vmem S2048x256 .i8) (harg6 : arg6.IsWhole) (arg7 : Memref sig .tc .vmem S32x128 .fp8e4m3) (harg7 : arg7.IsWhole) (arg8 : Memref sig .tc .vmem S512x2048 .i8) (harg8 : arg8.IsWhole) (arg9 : Memref sig .tc .vmem S256x2048 .i8) (harg9 : arg9.IsWhole) (arg10 : Memref sig .tc .vmem S32x128 .f32) (harg10 : arg10.IsWhole)
    (x0 : Vec Ideal S1x128 .f32) (x1 : Vec Ideal S512x2048 .bf16) (am : EReal) (hx0 : x0 = fun _ => am) (y : S512x1024.Idx) :
    out0_A_3 c i arg2 harg2 arg3 harg3 arg4 harg4 arg5 harg5 arg6 harg6 arg7 harg7 arg8 harg8 arg9 harg9 arg10 harg10 x0 x1 y = packS (codeW am (bAt x1)) (y 0).val (y 1).val := by
  have hcov := cover0_A_3 c i arg2 harg2 arg3 harg3 arg4 harg4 arg5 harg5 arg6 harg6 arg7 harg7 arg8 harg8 arg9 harg9 arg10 harg10 x0 x1
  unfold out0_A_3
  rw [View.read_writes_eq_canon _ _ _ hcov]
  refine View.canon_eq_of_allAt _ y _ (hcov y) ?_
  clear hcov
  unfold kernelRun0_A
  dsimp only
  sl_unfold_words
  refine View.allAt_cons_unit _ _ _ _ _ ?_ (View.allAt_nil _ _)
  intro x hx
  refine store3 (codeW am (bAt x1)) _ ?_ x y hx
  clear hx x y
  refine read8 _ _ _ _ (by sl_kernel_rfl) fun y => ?_
  simp only [View.readAt_eq_ld, harg2.read_unread, harg3.read_unread, ld0]
  refine View.allAt_cons_unit _ _ _ _ _ ?_ ?_
  · intro x hx
    unfold_payloads
    refine store8 x0 x1 am hx0 7 15 448 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 14 448 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 13 448 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 12 448 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 11 448 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 10 448 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 9 448 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 8 448 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 7 448 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 6 448 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 5 448 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 4 448 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 3 448 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 2 448 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 1 448 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 7 0 448 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 15 384 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 14 384 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 13 384 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 12 384 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 11 384 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 10 384 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 9 384 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 8 384 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 7 384 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 6 384 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 5 384 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 4 384 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 3 384 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 2 384 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 1 384 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 6 0 384 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 15 320 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 14 320 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 13 320 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 12 320 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 11 320 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 10 320 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 9 320 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 8 320 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 7 320 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 6 320 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 5 320 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 4 320 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 3 320 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 2 320 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 1 320 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 5 0 320 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 15 256 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 14 256 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 13 256 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 12 256 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 11 256 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 10 256 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 9 256 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 8 256 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 7 256 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 6 256 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 5 256 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 4 256 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 3 256 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 2 256 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 1 256 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 4 0 256 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 15 192 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 14 192 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 13 192 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 12 192 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 11 192 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 10 192 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 9 192 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 8 192 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 7 192 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 6 192 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 5 192 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 4 192 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 3 192 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 2 192 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 1 192 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 3 0 192 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 15 128 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 14 128 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 13 128 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 12 128 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 11 128 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 10 128 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 9 128 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 8 128 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 7 128 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 6 128 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 5 128 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 4 128 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 3 128 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 2 128 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 1 128 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 2 0 128 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 15 64 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 14 64 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 13 64 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 12 64 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 11 64 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 10 64 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 9 64 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 8 64 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 7 64 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 6 64 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 5 64 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 4 64 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 3 64 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 2 64 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 1 64 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 1 0 64 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 15 0 1920 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 14 0 1792 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 13 0 1664 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 12 0 1536 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 11 0 1408 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 10 0 1280 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 9 0 1152 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 8 0 1024 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 7 0 896 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 6 0 768 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 5 0 640 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 4 0 512 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 3 0 384 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 2 0 256 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 1 0 128 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store8 x0 x1 am hx0 0 0 0 0 rfl rfl _ ?_ x y hx
    clear hx x y
    unfold nibT vT v8 codeV nV stepV rX r8 sbX sb8 redV lmX amaxV merge keepV permV absV gidx laneV stV tilesX tileX gidx8 tidx8 lane8 zeroV piecesX pieceX
    dsimp only
    rfl
  exact View.allAt_nil _ _

end Cert.QuantWIdeal.Hand

end
-- ==== Proof.QuantWPairs.lean ====
/- What the `quant_w` body leaves in its window of row-packed codes, at a row and a column. -/
module

public import proofs.«01_k».proof.Proof.QuantWStores

@[expose] public section

set_option maxRecDepth 65536
set_option maxHeartbeats 40000000

noncomputable section

namespace Cert.QuantWIdeal.Hand

open Cert.QuantWIdeal Cert.QuantWIdeal.Gen Cert.QuantWIdeal.Value Cert.QuantX
open Idealize.ShloMosaic Idealize.ShloMosaic.TcCoe Idealize.ShloMosaic.Tactic Idealize.SL.Sem

/-- The window of row-packed codes, turned: the code of an even row, and of the odd one after it four bits up. -/
theorem out4 (c : Dev nD) (i : grid0.Coords) (arg2 : Memref sig .tc .vmem S1x128 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .i8) (harg5 : arg5.IsWhole) (arg6 : Memref sig .tc .vmem S2048x256 .i8) (harg6 : arg6.IsWhole) (arg7 : Memref sig .tc .vmem S32x128 .fp8e4m3) (harg7 : arg7.IsWhole) (arg8 : Memref sig .tc .vmem S512x2048 .i8) (harg8 : arg8.IsWhole) (arg9 : Memref sig .tc .vmem S256x2048 .i8) (harg9 : arg9.IsWhole) (arg10 : Memref sig .tc .vmem S32x128 .f32) (harg10 : arg10.IsWhole)
    (x0 : Vec Ideal S1x128 .f32) (x1 : Vec Ideal S512x2048 .bf16) (am : EReal) (hx0 : x0 = fun _ => am) (y : S2048x256.Idx) :
    out0_A_4 c i arg2 harg2 arg3 harg3 arg4 harg4 arg5 harg5 arg6 harg6 arg7 harg7 arg8 harg8 arg9 harg9 arg10 harg10 x0 x1 y = packR (codeW am (bAt x1)) (y 1).val (y 0).val := by
  have hcov := cover0_A_4 c i arg2 harg2 arg3 harg3 arg4 harg4 arg5 harg5 arg6 harg6 arg7 harg7 arg8 harg8 arg9 harg9 arg10 harg10 x0 x1
  unfold out0_A_4
  rw [View.read_writes_eq_canon _ _ _ hcov]
  refine View.canon_eq_of_allAt _ y _ (hcov y) ?_
  clear hcov
  unfold kernelRun0_A
  dsimp only
  sl_unfold_words
  refine View.allAt_cons_unit _ _ _ _ _ ?_ (View.allAt_nil _ _)
  intro x hx
  refine store4 (packR (codeW am (bAt x1))) _ ?_ x y hx
  clear hx x y
  refine read9 _ _ _ _ (by sl_kernel_rfl) fun y => ?_
  simp only [View.readAt_eq_ld, harg2.read_unread, harg3.read_unread, ld0]
  refine View.allAt_cons_unit _ _ _ _ _ ?_ ?_
  · intro x hx
    unfold_payloads
    refine store9 x0 x1 am hx0 7 15 224 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 14 224 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 13 224 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 12 224 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 11 224 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 10 224 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 9 224 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 8 224 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 7 224 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 6 224 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 5 224 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 4 224 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 3 224 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 2 224 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 1 224 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 7 0 224 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 15 192 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 14 192 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 13 192 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 12 192 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 11 192 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 10 192 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 9 192 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 8 192 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 7 192 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 6 192 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 5 192 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 4 192 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 3 192 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 2 192 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 1 192 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 6 0 192 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 15 160 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 14 160 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 13 160 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 12 160 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 11 160 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 10 160 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 9 160 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 8 160 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 7 160 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 6 160 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 5 160 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 4 160 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 3 160 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 2 160 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 1 160 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 5 0 160 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 15 128 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 14 128 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 13 128 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 12 128 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 11 128 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 10 128 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 9 128 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 8 128 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 7 128 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 6 128 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 5 128 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 4 128 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 3 128 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 2 128 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 1 128 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 4 0 128 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 15 96 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 14 96 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 13 96 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 12 96 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 11 96 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 10 96 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 9 96 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 8 96 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 7 96 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 6 96 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 5 96 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 4 96 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 3 96 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 2 96 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 1 96 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 3 0 96 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 15 64 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 14 64 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 13 64 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 12 64 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 11 64 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 10 64 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 9 64 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 8 64 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 7 64 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 6 64 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 5 64 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 4 64 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 3 64 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 2 64 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 1 64 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 2 0 64 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 15 32 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 14 32 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 13 32 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 12 32 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 11 32 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 10 32 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 9 32 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 8 32 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 7 32 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 6 32 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 5 32 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 4 32 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 3 32 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 2 32 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 1 32 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 1 0 32 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 15 0 1920 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 14 0 1792 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 13 0 1664 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 12 0 1536 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 11 0 1408 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 10 0 1280 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 9 0 1152 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 8 0 1024 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 7 0 896 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 6 0 768 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 5 0 640 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 4 0 512 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 3 0 384 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 2 0 256 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 1 0 128 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  refine View.allAt_cons_unit _ _ _ _ _ ?_ ?_
  · intro x hx
    unfold_payloads
    refine store9 x0 x1 am hx0 0 0 0 0 rfl rfl _ ?_ x y hx
    clear hx x y
    unfold pairT packT vT v8 codeV nV stepV rX r8 sbX sb8 redV lmX amaxV merge keepV permV absV gidx laneV stV tilesX tileX gidx8 tidx8 lane8 zeroV piecesX pieceX
    dsimp only
    rfl
  exact View.allAt_nil _ _

end Cert.QuantWIdeal.Hand

end
-- ==== Proof.QuantWRef.lean ====
/- The weights' reference's arrays at a row and a column: the same scalar quantiser, on the array's own blocks of sixteen by
   sixteen. -/
module

public import proofs.«01_k».proof.Proof.Gen.QuantWRefIdeal.Value
public import proofs.«01_k».proof.Proof.QuantXScalar
public import proofs.«01_k».proof.Proof.QuantWPack
public import proofs.«01_k».proof.Proof.MaxBounds
public import Idealize.ShloMosaic.Lib.ValueLayout
public import Idealize.ShloMosaic.Lib.Pointwise

@[expose] public section

set_option maxRecDepth 16384

noncomputable section

namespace Cert.QuantWRefIdeal.Hand

open Cert.QuantWRefIdeal Cert.QuantWRefIdeal.Gen Cert.QuantWRefIdeal.Value Cert.QuantX Cert.MaxBounds
open Idealize.ShloMosaic Idealize.ShloMosaic.TcCoe Idealize.ShloMosaic.Tactic Idealize.SL.Sem

/-- The array's element at a row and a column. -/
def arr (X : S4608x12288.Idx → EReal) (a b : ℕ) : EReal :=
  X (fun d => match d with
    | ⟨0, _⟩ => ⟨a % 4608, Nat.mod_lt _ (by norm_num)⟩
    | ⟨1, _⟩ => ⟨b % 12288, Nat.mod_lt _ (by norm_num)⟩)

theorem arr_ix (X : S4608x12288.Idx → EReal) (a : Fin 4608) (b : Fin 12288) : X (ValueIdx.ix2 a b) = arr X a.val b.val := by
  unfold arr
  congr 1
  funext d
  match d with
  | ⟨0, _⟩ => exact Fin.ext (Nat.mod_eq_of_lt a.isLt).symm
  | ⟨1, _⟩ => exact Fin.ext (Nat.mod_eq_of_lt b.isLt).symm

/-- The tensor amax. -/
def am1 (a1 : S1x1.Idx → EReal) : EReal := a1 (ValueIdx.ix2 0 0)

/-- The index of a place in a block. -/
def ixW (a : Fin 288) (i : Fin 16) (k : Fin 768) (e : Fin 16) : S288x16x768x16.Idx := ValueIdx.ix4 a i k e

variable (a0 : Vec Ideal S4608x12288 .bf16) (a1 : Vec Ideal S1x1 .f32)

theorem ld_a1 : (View.ld a1 r0_0 : Vec Ideal S1x1 .f32) = a1 := View.ld_unit_zero (S := S1x1) (funext fun a => by fin_cases a <;> rfl) _ a1
theorem ld_a0 : (View.ld a0 r0_1 : Vec Ideal S4608x12288 .bf16) = a0 := View.ld_unit_zero (S := S4608x12288) (funext fun a => by fin_cases a <;> rfl) _ a0

theorem p2 : k0_pay2 a1 = stF (am1 a1) := by
  unfold k0_pay2 am1 stF
  dsimp only
  have e : extractAt ![0, 0] a1 inpos_S1x1_p0_0 = a1 (ValueIdx.ix2 0 0) := by
    unfold extractAt
    congr 1
    funext d
    match d with
    | ⟨0, _⟩ => rfl
    | ⟨1, _⟩ => rfl
  rw [e]
  rfl

theorem rm_ixW (a : Fin 288) (i : Fin 16) (k : Fin 768) (e : Fin 16) :
    (S288x16x768x16.rowMajor (ixW a i k e)).val = ((a.val * 16 + i.val) * 768 + k.val) * 16 + e.val :=
  Shape.rowMajor_val_four _

theorem p3 (a : Fin 288) (i : Fin 16) (k : Fin 768) (e : Fin 16) :
    k0_pay3 a0 (ixW a i k e) = arr a0 (16 * a.val + i.val) (16 * k.val + e.val) := by
  unfold k0_pay3
  rw [shapeCast_apply _ _ (ixW a i k e) (ValueIdx.ix2 ⟨16 * a.val + i.val, by omega⟩ ⟨16 * k.val + e.val, by omega⟩ : S4608x12288.Idx) (by
    rw [rm_ixW, Shape.rowMajor_val_two]
    show (16 * a.val + i.val) * 12288 + (16 * k.val + e.val) = ((a.val * 16 + i.val) * 768 + k.val) * 16 + e.val
    ring)]
  exact arr_ix a0 ⟨16 * a.val + i.val, by omega⟩ ⟨16 * k.val + e.val, by omega⟩

/-- The reduction over a block. -/
theorem red (a : Fin 288) (k : Fin 768) :
    multiReduction (F := Ideal) .maximumf [1, 3] S288x768 (absf (k0_pay3 a0)) 0xFF800000#32 reduces_S288x16x768x16_S288x768 (.inl rfl) rfl (ValueIdx.ix2 a k)
      = gW (arr a0) a.val k.val := by
  refine eq_of_forall_ge_iff fun u => ?_
  refine (multiReduction_le_iff _ reduces_S288x16x768x16_S288x768 (.inl rfl) rfl _ u).trans ?_
  unfold gW
  rw [Finset.sup_le_iff]
  have ex : ∀ i : S288x16x768x16.Idx, (reduces_S288x16x768x16_S288x768).drop i = (ValueIdx.ix2 a k : S288x768.Idx) →
      i = ixW a (⟨(i 1).val, (i 1).isLt⟩ : Fin 16) k (⟨(i 3).val, (i 3).isLt⟩ : Fin 16) := by
    intro i hi
    have h0 : (i 0).val = a.val := by
      have := congrArg (fun j => (j 0).val) hi
      rwa [Shape.Reduces.drop_apply_val_of_eq _ _ _ 0] at this
    have h1 : (i 2).val = k.val := by
      have := congrArg (fun j => (j 1).val) hi
      rwa [Shape.Reduces.drop_apply_val_of_eq _ _ _ 2] at this
    funext b
    match b with
    | ⟨0, _⟩ => exact Fin.ext h0
    | ⟨1, _⟩ => rfl
    | ⟨2, _⟩ => exact Fin.ext h1
    | ⟨3, _⟩ => rfl
  constructor
  · intro H i _
    unfold gA
    rw [Finset.sup_le_iff]
    intro e _
    have h := H (ixW a i k e) (by
      funext b
      match b with
      | ⟨0, _⟩ => exact Fin.ext (reduces_S288x16x768x16_S288x768.drop_apply_val_of_eq (ixW a i k e) 0 0)
      | ⟨1, _⟩ => exact Fin.ext (reduces_S288x16x768x16_S288x768.drop_apply_val_of_eq (ixW a i k e) 1 2))
    rw [← p3 a0 a i k e]
    exact h
  · intro H i hi
    rw [ex i hi]
    generalize (⟨(i 1).val, (i 1).isLt⟩ : Fin 16) = r
    generalize (⟨(i 3).val, (i 3).isLt⟩ : Fin 16) = e
    have h := H r (Finset.mem_univ _)
    unfold gA at h
    rw [Finset.sup_le_iff] at h
    have h2 := h e (Finset.mem_univ _)
    rw [← p3 a0 a r k e] at h2
    exact h2

theorem p4 (a : Fin 288) (k : Fin 768) : k0_pay4 a1 a0 (ValueIdx.ix2 a k) = sW (am1 a1) (arr a0) a.val k.val := by
  unfold sW sbF
  rw [← red a0 a k, ← p2 a1]
  rfl

/-- A block's number, spread over its places. -/
theorem spread {α : Type} (v : S288x768.Idx → α) (a : Fin 288) (i : Fin 16) (k : Fin 768) (e : Fin 16) :
    broadcastTo S288x16x768x16 (shapeCast S288x1x768x1 v shapeCasts_S288x768_S288x1x768x1) broadcasts_S288x1x768x1_S288x16x768x16 (ixW a i k e)
      = v (ValueIdx.ix2 a k) := by
  unfold broadcastTo
  refine shapeCast_apply _ _ _ _ ?_
  rw [Shape.rowMajor_val_four, Shape.rowMajor_val_two]
  show a.val * 768 + k.val = ((a.val * 1 + 0) * 768 + k.val) * 1 + 0
  ring

theorem p5 (a : Fin 288) (i : Fin 16) (k : Fin 768) (e : Fin 16) :
    k0_pay5 a1 a0 (ixW a i k e) = vR (am1 a1) (gW (arr a0) a.val k.val) (arr a0 (16 * a.val + i.val) (16 * k.val + e.val)) := by
  have h5 : sbF (am1 a1) (gW (arr a0) a.val k.val)
      = broadcastTo S288x16x768x16 (shapeCast S288x1x768x1 (k0_pay4 a1 a0) shapeCasts_S288x768_S288x1x768x1) broadcasts_S288x1x768x1_S288x16x768x16 (ixW a i k e) := by
    rw [spread, p4]
    rfl
  unfold vR posF dF
  rw [h5, ← p3 a0 a i k e, ← p2 a1]
  unfold k0_pay5
  rw [shapeCast_self]
  rfl

/-- The reference's codes. -/
def C : IVec S288x16x768x16 32 := k0_pay11 (k0_pay5 a1 a0) (k0_pay6 a1 a0) (k0_pay7 a1 a0) (k0_pay8 a1 a0) (k0_pay9 a1 a0) (k0_pay10 a1 a0)

theorem code (x : S288x16x768x16.Idx) : C a0 a1 x = codeR (k0_pay5 a1 a0 x) := by
  unfold C k0_pay7 k0_pay8 k0_pay9 k0_pay10 k0_pay6 k0_pay11
  generalize k0_pay5 a1 a0 = v
  rfl

/-- A row and a column's place in its block. -/
theorem flat {α : Type} (v : S288x16x768x16.Idx → α) (a : Fin 4608) (b : Fin 12288) :
    shapeCast S4608x12288 v shapeCasts_S288x16x768x16_S4608x12288 (ValueIdx.ix2 a b)
      = v (ixW ⟨a.val / 16, by omega⟩ ⟨a.val % 16, Nat.mod_lt _ (by norm_num)⟩ ⟨b.val / 16, by omega⟩ ⟨b.val % 16, Nat.mod_lt _ (by norm_num)⟩) := by
  refine shapeCast_apply _ _ _ _ ?_
  rw [rm_ixW, Shape.rowMajor_val_two]
  show ((a.val / 16 * 16 + a.val % 16) * 768 + b.val / 16) * 16 + b.val % 16 = a.val * 12288 + b.val
  omega

/-- The codes as one array. -/
theorem codes (h : 0 ≤ am1 a1) (a : Fin 4608) (b : Fin 12288) : k0_pay17 (C a0 a1) (ValueIdx.ix2 a b) = codeW (am1 a1) (arr a0) a.val b.val := by
  unfold k0_pay17
  rw [flat, code, p5, ← vK_eq_vR _ _ _ h]
  unfold codeW
  rw [show 16 * (a.val / 16) + a.val % 16 = a.val by omega, show 16 * (b.val / 16) + b.val % 16 = b.val by omega]
  exact (dec_code_clip _).2

/-- The scales. -/
theorem G5_at (a : Fin 288) (k : Fin 768) : G5 (F := Ideal) a0 a1 (ValueIdx.ix2 a k) = sW (am1 a1) (arr a0) a.val k.val := by
  show k0_pay22 a0 a1 _ = _
  unfold k0_pay22
  rw [ld_a0, ld_a1, p4]

theorem pay29 : k0_pay29 a0 a1 = C a0 a1 := by
  unfold k0_pay29 k0_pay23 k0_pay24 k0_pay25 k0_pay26 k0_pay27 k0_pay28 C
  rw [ld_a0, ld_a1]

/-- The codes packed along the columns. -/
theorem G3_at (h : 0 ≤ am1 a1) (a : Fin 4608) (j : Fin 6144) :
    G3 (F := Ideal) a0 a1 (ValueIdx.ix2 a j) = packS (codeW (am1 a1) (arr a0)) a.val j.val := by
  show k0_pay18 (k0_pay29 a0 a1) _ = _
  rw [pay29]
  unfold k0_pay18
  have hs : ∀ (e : Fin 2) (hs : S4608x6144x2.Slices ![0, 0, e.val] S4608x6144x1),
      shapeCast S4608x6144 (extractStridedSlice S4608x6144x1 ![0, 0, e.val] (shapeCast S4608x6144x2 (k0_pay17 (C a0 a1)) shapeCasts_S4608x12288_S4608x6144x2) hs)
        shapeCasts_S4608x6144x1_S4608x6144 (ValueIdx.ix2 a j) = codeW (am1 a1) (arr a0) a.val (2 * j.val + e.val) := by
    intro e hs
    have he := e.isLt
    rw [shapeCast_apply _ _ (ValueIdx.ix2 a j) (ValueIdx.ix3 a j (0 : Fin 1) : S4608x6144x1.Idx) (by
      rw [Shape.rowMajor_val_three, Shape.rowMajor_val_two]
      show (a.val * 6144 + j.val) * 1 + 0 = a.val * 6144 + j.val
      ring)]
    rw [extractStridedSlice_apply _ _ _ _ (ValueIdx.ix3 a j e) (fun ax => by
      match ax with
      | ⟨0, _⟩ => show a.val = 0 + a.val; omega
      | ⟨1, _⟩ => show j.val = 0 + j.val; omega
      | ⟨2, _⟩ => show e.val = e.val + 0; omega)]
    rw [shapeCast_apply _ _ (ValueIdx.ix3 a j e) (ValueIdx.ix2 a ⟨2 * j.val + e.val, by omega⟩ : S4608x12288.Idx) (by
      rw [Shape.rowMajor_val_three, Shape.rowMajor_val_two]
      show a.val * 12288 + (2 * j.val + e.val) = (a.val * 6144 + j.val) * 2 + e.val
      ring)]
    exact codes a0 a1 h a ⟨2 * j.val + e.val, by omega⟩
  show BitVec.setWidth 8 (shapeCast S4608x6144 (extractStridedSlice S4608x6144x1 ![0, 0, (0 : Fin 2).val] (shapeCast S4608x6144x2 (k0_pay17 (C a0 a1)) shapeCasts_S4608x12288_S4608x6144x2) slices_S4608x6144x2_o0_0_0_S4608x6144x1)
        shapeCasts_S4608x6144x1_S4608x6144 (ValueIdx.ix2 a j)
      ||| IntOp.shli .vector (shapeCast S4608x6144 (extractStridedSlice S4608x6144x1 ![0, 0, (1 : Fin 2).val] (shapeCast S4608x6144x2 (k0_pay17 (C a0 a1)) shapeCasts_S4608x12288_S4608x6144x2) slices_S4608x6144x2_o0_0_1_S4608x6144x1)
        shapeCasts_S4608x6144x1_S4608x6144 (ValueIdx.ix2 a j)) 4#32) = _
  rw [hs, hs]
  rfl

/-- The codes packed along the rows, transposed. -/
theorem G4_at (h : 0 ≤ am1 a1) (b : Fin 12288) (j : Fin 2304) :
    G4 (F := Ideal) a0 a1 (ValueIdx.ix2 b j) = packR (codeW (am1 a1) (arr a0)) j.val b.val := by
  show k0_pay1 (k0_pay20 (k0_pay29 a0 a1)) (k0_pay21 (k0_pay29 a0 a1)) 4#32 _ = _
  rw [pay29]
  have hs : ∀ (e : Fin 2) (hs : S2304x2x12288.Slices ![0, e.val, 0] S2304x1x12288),
      shapeCast S2304x12288 (extractStridedSlice S2304x1x12288 ![0, e.val, 0] (k0_pay19 (C a0 a1)) hs)
        shapeCasts_S2304x1x12288_S2304x12288 (ValueIdx.ix2 j b) = codeW (am1 a1) (arr a0) (2 * j.val + e.val) b.val := by
    intro e hs
    have he := e.isLt
    rw [shapeCast_apply _ _ (ValueIdx.ix2 j b) (ValueIdx.ix3 j (0 : Fin 1) b : S2304x1x12288.Idx) (by
      rw [Shape.rowMajor_val_three, Shape.rowMajor_val_two]
      show (j.val * 1 + 0) * 12288 + b.val = j.val * 12288 + b.val
      ring)]
    rw [ValueIdx.slice3_axis1_apply e.val _ hs j 0 b e rfl]
    unfold k0_pay19
    rw [shapeCast_apply _ _ (ValueIdx.ix3 j e b) (ValueIdx.ix2 ⟨2 * j.val + e.val, by omega⟩ b : S4608x12288.Idx) (by
      rw [Shape.rowMajor_val_three, Shape.rowMajor_val_two]
      show (2 * j.val + e.val) * 12288 + b.val = (j.val * 2 + e.val) * 12288 + b.val
      ring)]
    exact codes a0 a1 h ⟨2 * j.val + e.val, by omega⟩ b
  unfold k0_pay1 k0_pay20 k0_pay21
  dsimp only
  rw [ValueIdx.transpose_ix2_apply]
  show BitVec.setWidth 8 (shapeCast S2304x12288 (extractStridedSlice S2304x1x12288 ![0, (0 : Fin 2).val, 0] (k0_pay19 (C a0 a1)) slices_S2304x2x12288_o0_0_0_S2304x1x12288)
        shapeCasts_S2304x1x12288_S2304x12288 (ValueIdx.ix2 j b)
      ||| IntOp.shli .vector (shapeCast S2304x12288 (extractStridedSlice S2304x1x12288 ![0, (1 : Fin 2).val, 0] (k0_pay19 (C a0 a1)) slices_S2304x2x12288_o0_1_0_S2304x1x12288)
        shapeCasts_S2304x1x12288_S2304x12288 (ValueIdx.ix2 j b)) 4#32) = _
  rw [hs, hs]
  rfl

/-- The values. -/
theorem G2_at (h : 0 ≤ am1 a1) (a : Fin 4608) (b : Fin 12288) :
    G2 (F := Ideal) a0 a1 (ValueIdx.ix2 a b) = wqS (am1 a1) (arr a0) a.val b.val := by
  show k0_pay16 _ _ _ _ _ _ _ = _
  unfold k0_pay22 k0_pay23 k0_pay24 k0_pay25 k0_pay26 k0_pay27 k0_pay28
  rw [ld_a0, ld_a1]
  unfold k0_pay16 k0_pay12 k0_pay13 k0_pay14 k0_pay15
  dsimp only
  rw [flat]
  have hs := spread (k0_pay4 a1 a0) (⟨a.val / 16, by omega⟩ : Fin 288) (⟨a.val % 16, Nat.mod_lt _ (by norm_num)⟩ : Fin 16)
    (⟨b.val / 16, by omega⟩ : Fin 768) (⟨b.val % 16, Nat.mod_lt _ (by norm_num)⟩ : Fin 16)
  have e : wqS (am1 a1) (arr a0) a.val b.val
      = decR (C a0 a1 (ixW (⟨a.val / 16, by omega⟩ : Fin 288) (⟨a.val % 16, Nat.mod_lt _ (by norm_num)⟩ : Fin 16)
          (⟨b.val / 16, by omega⟩ : Fin 768) (⟨b.val % 16, Nat.mod_lt _ (by norm_num)⟩ : Fin 16)))
        * broadcastTo S288x16x768x16 (shapeCast S288x1x768x1 (k0_pay4 a1 a0) shapeCasts_S288x768_S288x1x768x1) broadcasts_S288x1x768x1_S288x16x768x16
          (ixW (⟨a.val / 16, by omega⟩ : Fin 288) (⟨a.val % 16, Nat.mod_lt _ (by norm_num)⟩ : Fin 16)
          (⟨b.val / 16, by omega⟩ : Fin 768) (⟨b.val % 16, Nat.mod_lt _ (by norm_num)⟩ : Fin 16)) := by
    rw [hs, code, p5, p4, ← vK_eq_vR _ _ _ h]
    unfold wqS sW
    rw [show 16 * (a.val / 16) + a.val % 16 = a.val by omega, show 16 * (b.val / 16) + b.val % 16 = b.val by omega]
    exact congrArg (· * _) (dec_code_clip _).1.symm
  rw [e]
  rfl

end Cert.QuantWRefIdeal.Hand

end
-- ==== Proof.QuantWArrays.lean ====
/- The four arrays the `quant_w` call leaves: each block is the quantiser of the input block, so each array is the quantiser
   of the input array. -/
module

public import proofs.«01_k».proof.Proof.Gen.QuantWIdeal.Value
public import proofs.«01_k».proof.Proof.QuantWScales
public import proofs.«01_k».proof.Proof.QuantWValues
public import proofs.«01_k».proof.Proof.QuantWCodes
public import proofs.«01_k».proof.Proof.QuantWPairs
public import proofs.«01_k».proof.Proof.QuantWRef

@[expose] public section

noncomputable section

namespace Cert.QuantWIdeal.Hand

open Cert.QuantWIdeal Cert.QuantWIdeal.Gen Cert.QuantWIdeal.Value Cert.QuantX Idealize.ShloMosaic Idealize.ShloMosaic.TcCoe Idealize.SL.Sem
open Cert.QuantWRefIdeal.Hand (arr arr_ix am1)

variable (m : (ℓ : Loc nD τ sig) → Buf (Elt Ideal) ℓ)

/-- The input array as launched. -/
def X (c : Dev nD) : Vec Ideal S4608x12288 .bf16 := m ((c : Thread nD τ).loc main_arg0)

/-- The tensor's maximum as launched. -/
def A1 (c : Dev nD) : Vec Ideal S1x1 .f32 := m ((c : Thread nD τ).loc main_arg1)

theorem idx1 : ∀ t : Fin cfg0.N, win0_1.index t (0 : Fin 2) = t.val / 6 ∧ win0_1.index t (1 : Fin 2) = t.val % 6 :=
  (by decide +kernel : ∀ t : Fin grid0.N, _)

theorem idx2 : ∀ t : Fin cfg0.N, win0_2.index t (0 : Fin 2) = t.val / 6 ∧ win0_2.index t (1 : Fin 2) = t.val % 6 :=
  (by decide +kernel : ∀ t : Fin grid0.N, _)

theorem idx3 : ∀ t : Fin cfg0.N, win0_3.index t (0 : Fin 2) = t.val / 6 ∧ win0_3.index t (1 : Fin 2) = t.val % 6 :=
  (by decide +kernel : ∀ t : Fin grid0.N, _)

theorem idx4 : ∀ t : Fin cfg0.N, win0_4.index t (0 : Fin 2) = t.val % 6 ∧ win0_4.index t (1 : Fin 2) = t.val / 6 :=
  (by decide +kernel : ∀ t : Fin grid0.N, _)

theorem idx5 : ∀ t : Fin cfg0.N, win0_5.index t (0 : Fin 2) = t.val / 6 ∧ win0_5.index t (1 : Fin 2) = t.val % 6 :=
  (by decide +kernel : ∀ t : Fin grid0.N, _)

theorem V_main_v0 (c : Dev nD) : V m c main_v0 = broadcastInDim S1x128 ![0, 1] bcast_S1x1_S1x128_0_1 (A1 m c) :=
  (rfl : V m c main_v0 = (StableHlo.unary main_arg1 main_v0 (broadcastInDim S1x128 ![0, 1] bcast_S1x1_S1x128_0_1 : (⟨S1x1, .f32⟩ : BufTy).Contents (Elt Ideal) → (⟨S1x128, .f32⟩ : BufTy).Contents (Elt Ideal))).result (fun b => m (c, b)) (Proc.tc.devRef main_v0)).trans <| StableHlo.unary_result (Val := Elt Ideal) main_arg1 main_v0
    (broadcastInDim S1x128 ![0, 1] bcast_S1x1_S1x128_0_1 : (⟨S1x1, .f32⟩ : BufTy).Contents (Elt Ideal) → (⟨S1x128, .f32⟩ : BufTy).Contents (Elt Ideal)) _ _ (fun b => m (c, b))

/-- Every lane of the first window's block is the tensor's maximum. -/
theorem blk_am (c : Dev nD) (t : Fin cfg0.N) : (iblk m c 0 t : Vec Ideal S1x128 .f32) = fun _ => am1 (A1 m c) := by
  funext y
  unfold iblk
  rw [View.read_apply]
  show V m c main_v0 _ = _
  rw [V_main_v0]
  unfold broadcastInDim am1
  congr 1
  funext x; apply Fin.ext
  match x with
  | ⟨0, _⟩ => rfl
  | ⟨1, _⟩ => rfl

/-- The input block at a point. -/
theorem blk_x (c : Dev nD) (t : Fin cfg0.N) (a b : ℕ) (ha : a < 512) (hb : b < 2048) :
    bAt (iblk m c 1 t) a b = arr (X m c) (512 * (t.val / 6) + a) (2048 * (t.val % 6) + b) := by
  have hN : t.val < 54 := lt_of_lt_of_eq t.isLt (show cfg0.N = 54 from N_0)
  have h := idx1 t
  unfold bAt iblk
  rw [View.read_apply]
  show V m c main_arg0 _ = _
  rw [V_main_arg0]
  unfold arr X
  show _ = m _ _
  congr 1
  funext x; apply Fin.ext
  match x with
  | ⟨0, _⟩ =>
    show win0_1.index t 0 * 512 + 1 * (a % 512) = (512 * (t.val / 6) + a) % 4608
    rw [h.1]; omega
  | ⟨1, _⟩ =>
    show win0_1.index t 1 * 2048 + 1 * (b % 2048) = (2048 * (t.val % 6) + b) % 12288
    rw [h.2]; omega

/-- The maximum magnitude of a run of the block. -/
theorem gA_blk (c : Dev nD) (t : Fin cfg0.N) (a k : ℕ) (ha : a < 512) (hk : k < 128) :
    gA (bAt (iblk m c 1 t)) a k = gA (arr (X m c)) (512 * (t.val / 6) + a) (128 * (t.val % 6) + k) := by
  unfold gA
  refine Finset.sup_congr rfl fun i _ => ?_
  have := i.isLt
  rw [blk_x m c t a _ ha (by omega)]
  congr 2
  omega

/-- The maximum magnitude of a block of sixteen by sixteen. -/
theorem gW_blk (c : Dev nD) (t : Fin cfg0.N) (a k : ℕ) (ha : a < 32) (hk : k < 128) :
    gW (bAt (iblk m c 1 t)) a k = gW (arr (X m c)) (32 * (t.val / 6) + a) (128 * (t.val % 6) + k) := by
  unfold gW
  refine Finset.sup_congr rfl fun i _ => ?_
  have := i.isLt
  rw [gA_blk m c t _ k (by omega) hk, show 512 * (t.val / 6) + (16 * a + i.val) = 16 * (32 * (t.val / 6) + a) + i.val by omega]

theorem sW_blk (am : EReal) (c : Dev nD) (t : Fin cfg0.N) (a k : ℕ) (ha : a < 32) (hk : k < 128) :
    sW am (bAt (iblk m c 1 t)) a k = sW am (arr (X m c)) (32 * (t.val / 6) + a) (128 * (t.val % 6) + k) := by
  unfold sW
  rw [gW_blk m c t a k ha hk]

theorem wqS_blk (am : EReal) (c : Dev nD) (t : Fin cfg0.N) (a b : ℕ) (ha : a < 512) (hb : b < 2048) :
    wqS am (bAt (iblk m c 1 t)) a b = wqS am (arr (X m c)) (512 * (t.val / 6) + a) (2048 * (t.val % 6) + b) := by
  unfold wqS
  rw [gW_blk m c t _ _ (by omega) (by omega), blk_x m c t a b ha hb, show (2048 * (t.val % 6) + b) / 16 = 128 * (t.val % 6) + b / 16 by omega,
    show (512 * (t.val / 6) + a) / 16 = 32 * (t.val / 6) + a / 16 by omega]

theorem codeW_blk (am : EReal) (c : Dev nD) (t : Fin cfg0.N) (a b : ℕ) (ha : a < 512) (hb : b < 2048) :
    codeW am (bAt (iblk m c 1 t)) a b = codeW am (arr (X m c)) (512 * (t.val / 6) + a) (2048 * (t.val % 6) + b) := by
  unfold codeW
  rw [gW_blk m c t _ _ (by omega) (by omega), blk_x m c t a b ha hb, show (2048 * (t.val % 6) + b) / 16 = 128 * (t.val % 6) + b / 16 by omega,
    show (512 * (t.val / 6) + a) / 16 = 32 * (t.val / 6) + a / 16 by omega]

theorem packS_blk (am : EReal) (c : Dev nD) (t : Fin cfg0.N) (a j : ℕ) (ha : a < 512) (hj : j < 1024) :
    packS (codeW am (bAt (iblk m c 1 t))) a j = packS (codeW am (arr (X m c))) (512 * (t.val / 6) + a) (1024 * (t.val % 6) + j) := by
  unfold packS
  rw [codeW_blk m am c t a _ ha (by omega), codeW_blk m am c t a _ ha (by omega),
    show 2048 * (t.val % 6) + (2 * j + 1) = 2 * (1024 * (t.val % 6) + j) + 1 by omega,
    show 2048 * (t.val % 6) + 2 * j = 2 * (1024 * (t.val % 6) + j) by omega]

theorem packR_blk (am : EReal) (c : Dev nD) (t : Fin cfg0.N) (b j : ℕ) (hb : b < 2048) (hj : j < 256) :
    packR (codeW am (bAt (iblk m c 1 t))) j b = packR (codeW am (arr (X m c))) (256 * (t.val / 6) + j) (2048 * (t.val % 6) + b) := by
  unfold packR
  rw [codeW_blk m am c t _ b (by omega) hb, codeW_blk m am c t _ b (by omega) hb,
    show 512 * (t.val / 6) + (2 * j + 1) = 2 * (256 * (t.val / 6) + j) + 1 by omega,
    show 512 * (t.val / 6) + 2 * j = 2 * (256 * (t.val / 6) + j) by omega]

/-- The point whose blocks hold a row block and a column block. -/
def pt (i j : ℕ) (hi : i < 9) (hj : j < 6) : Fin cfg0.N := ⟨6 * i + j, lt_of_lt_of_eq (by omega : 6 * i + j < 54) N_0.symm⟩

/-- The array of the values. -/
theorem final2 (c : Dev nD) (G : Vec Ideal S4608x12288 .bf16)
    (hG : ∀ y : S4608x12288.Idx, G y = wqS (am1 (A1 m c)) (arr (X m c)) (y 0).val (y 1).val) : (dats m 0 c).arrAt 2 cfg0.N = G := by
  have hemb : ∀ (t : Fin cfg0.N) (j : S512x2048.Idx), (((((cfg0.win 2).blk t).view.emb j : S4608x12288.Idx)) 0).val = 512 * (t.val / 6) + (j 0).val
      ∧ (((((cfg0.win 2).blk t).view.emb j : S4608x12288.Idx)) 1).val = 2048 * (t.val % 6) + (j 1).val := by
    intro t j
    have h := idx2 t
    constructor
    · show win0_2.index t 0 * 512 + 1 * (j 0).val = _
      rw [h.1]; omega
    · show win0_2.index t 1 * 2048 + 1 * (j 1).val = _
      rw [h.2]; omega
  refine (dats m 0 c).arrAt_eq_of_cover 2 G (fun t _ => ?_) fun i => ?_
  · rw [flushed2_A]
    funext j
    show out0_A_2 c _ _ _ _ _ _ _ _ _ _ _ _ _ _ _ _ _ _ _ (iblk m c 0 t) (iblk m c 1 t) (j : S512x2048.Idx) = G (((cfg0.win 2).blk t).view.emb j)
    rw [out2 _ _ _ _ _ _ _ _ _ _ _ _ _ _ _ _ _ _ _ _ _ _ _ (blk_am m c t), hG, (hemb t j).1, (hemb t j).2]
    exact wqS_blk m _ c t _ _ ((j : S512x2048.Idx) 0).isLt ((j : S512x2048.Idx) 1).isLt
  · have h0 : ((i : S4608x12288.Idx) 0).val < 4608 := ((i : S4608x12288.Idx) 0).isLt
    have h1 : ((i : S4608x12288.Idx) 1).val < 12288 := ((i : S4608x12288.Idx) 1).isLt
    refine ⟨pt (((i : S4608x12288.Idx) 0).val / 512) (((i : S4608x12288.Idx) 1).val / 2048) (by omega) (by omega), flush0_2 _, ?_⟩
    generalize ht : pt (((i : S4608x12288.Idx) 0).val / 512) (((i : S4608x12288.Idx) 1).val / 2048) _ _ = t
    have htv : t.val = 6 * (((i : S4608x12288.Idx) 0).val / 512) + ((i : S4608x12288.Idx) 1).val / 2048 := by rw [← ht]; rfl
    obtain ⟨y, hy0, hy1⟩ : ∃ y : S512x2048.Idx, (y 0).val = ((i : S4608x12288.Idx) 0).val % 512 ∧ (y 1).val = ((i : S4608x12288.Idx) 1).val % 2048 :=
      ⟨ValueIdx.ix2 ⟨_, Nat.mod_lt _ (by norm_num)⟩ ⟨_, Nat.mod_lt _ (by norm_num)⟩, rfl, rfl⟩
    have e := hemb t y
    have h := ((cfg0.win 2).blk t).view.emb_mem_set y
    convert h using 1
    funext x; apply Fin.ext
    match x with
    | ⟨0, _⟩ => exact (show ((i : S4608x12288.Idx) 0).val = 512 * (t.val / 6) + (y 0).val by omega).trans e.1.symm
    | ⟨1, _⟩ => exact (show ((i : S4608x12288.Idx) 1).val = 2048 * (t.val % 6) + (y 1).val by omega).trans e.2.symm

/-- The array of the column-packed codes. -/
theorem final3 (c : Dev nD) (G : Vec Ideal S4608x6144 .i8)
    (hG : ∀ y : S4608x6144.Idx, G y = packS (codeW (am1 (A1 m c)) (arr (X m c))) (y 0).val (y 1).val) : (dats m 0 c).arrAt 3 cfg0.N = G := by
  have hemb : ∀ (t : Fin cfg0.N) (j : S512x1024.Idx), (((((cfg0.win 3).blk t).view.emb j : S4608x6144.Idx)) 0).val = 512 * (t.val / 6) + (j 0).val
      ∧ (((((cfg0.win 3).blk t).view.emb j : S4608x6144.Idx)) 1).val = 1024 * (t.val % 6) + (j 1).val := by
    intro t j
    have h := idx3 t
    constructor
    · show win0_3.index t 0 * 512 + 1 * (j 0).val = _
      rw [h.1]; omega
    · show win0_3.index t 1 * 1024 + 1 * (j 1).val = _
      rw [h.2]; omega
  refine (dats m 0 c).arrAt_eq_of_cover 3 G (fun t _ => ?_) fun i => ?_
  · rw [flushed3_A]
    funext j
    show out0_A_3 c _ _ _ _ _ _ _ _ _ _ _ _ _ _ _ _ _ _ _ (iblk m c 0 t) (iblk m c 1 t) (j : S512x1024.Idx) = G (((cfg0.win 3).blk t).view.emb j)
    rw [out3 _ _ _ _ _ _ _ _ _ _ _ _ _ _ _ _ _ _ _ _ _ _ _ (blk_am m c t), hG, (hemb t j).1, (hemb t j).2]
    exact packS_blk m _ c t _ _ ((j : S512x1024.Idx) 0).isLt ((j : S512x1024.Idx) 1).isLt
  · have h0 : ((i : S4608x6144.Idx) 0).val < 4608 := ((i : S4608x6144.Idx) 0).isLt
    have h1 : ((i : S4608x6144.Idx) 1).val < 6144 := ((i : S4608x6144.Idx) 1).isLt
    refine ⟨pt (((i : S4608x6144.Idx) 0).val / 512) (((i : S4608x6144.Idx) 1).val / 1024) (by omega) (by omega), flush0_3 _, ?_⟩
    generalize ht : pt (((i : S4608x6144.Idx) 0).val / 512) (((i : S4608x6144.Idx) 1).val / 1024) _ _ = t
    have htv : t.val = 6 * (((i : S4608x6144.Idx) 0).val / 512) + ((i : S4608x6144.Idx) 1).val / 1024 := by rw [← ht]; rfl
    obtain ⟨y, hy0, hy1⟩ : ∃ y : S512x1024.Idx, (y 0).val = ((i : S4608x6144.Idx) 0).val % 512 ∧ (y 1).val = ((i : S4608x6144.Idx) 1).val % 1024 :=
      ⟨ValueIdx.ix2 ⟨_, Nat.mod_lt _ (by norm_num)⟩ ⟨_, Nat.mod_lt _ (by norm_num)⟩, rfl, rfl⟩
    have e := hemb t y
    have h := ((cfg0.win 3).blk t).view.emb_mem_set y
    convert h using 1
    funext x; apply Fin.ext
    match x with
    | ⟨0, _⟩ => exact (show ((i : S4608x6144.Idx) 0).val = 512 * (t.val / 6) + (y 0).val by omega).trans e.1.symm
    | ⟨1, _⟩ => exact (show ((i : S4608x6144.Idx) 1).val = 1024 * (t.val % 6) + (y 1).val by omega).trans e.2.symm

/-- The array of the row-packed codes. -/
theorem final4 (c : Dev nD) (G : Vec Ideal S12288x2304 .i8)
    (hG : ∀ y : S12288x2304.Idx, G y = packR (codeW (am1 (A1 m c)) (arr (X m c))) (y 1).val (y 0).val) : (dats m 0 c).arrAt 4 cfg0.N = G := by
  have hemb : ∀ (t : Fin cfg0.N) (j : S2048x256.Idx), (((((cfg0.win 4).blk t).view.emb j : S12288x2304.Idx)) 0).val = 2048 * (t.val % 6) + (j 0).val
      ∧ (((((cfg0.win 4).blk t).view.emb j : S12288x2304.Idx)) 1).val = 256 * (t.val / 6) + (j 1).val := by
    intro t j
    have h := idx4 t
    constructor
    · show win0_4.index t 0 * 2048 + 1 * (j 0).val = _
      rw [h.1]; omega
    · show win0_4.index t 1 * 256 + 1 * (j 1).val = _
      rw [h.2]; omega
  refine (dats m 0 c).arrAt_eq_of_cover 4 G (fun t _ => ?_) fun i => ?_
  · rw [flushed4_A]
    funext j
    show out0_A_4 c _ _ _ _ _ _ _ _ _ _ _ _ _ _ _ _ _ _ _ (iblk m c 0 t) (iblk m c 1 t) (j : S2048x256.Idx) = G (((cfg0.win 4).blk t).view.emb j)
    rw [out4 _ _ _ _ _ _ _ _ _ _ _ _ _ _ _ _ _ _ _ _ _ _ _ (blk_am m c t), hG, (hemb t j).1, (hemb t j).2]
    exact packR_blk m _ c t _ _ ((j : S2048x256.Idx) 0).isLt ((j : S2048x256.Idx) 1).isLt
  · have h0 : ((i : S12288x2304.Idx) 0).val < 12288 := ((i : S12288x2304.Idx) 0).isLt
    have h1 : ((i : S12288x2304.Idx) 1).val < 2304 := ((i : S12288x2304.Idx) 1).isLt
    refine ⟨pt (((i : S12288x2304.Idx) 1).val / 256) (((i : S12288x2304.Idx) 0).val / 2048) (by omega) (by omega), flush0_4 _, ?_⟩
    generalize ht : pt (((i : S12288x2304.Idx) 1).val / 256) (((i : S12288x2304.Idx) 0).val / 2048) _ _ = t
    have htv : t.val = 6 * (((i : S12288x2304.Idx) 1).val / 256) + ((i : S12288x2304.Idx) 0).val / 2048 := by rw [← ht]; rfl
    obtain ⟨y, hy0, hy1⟩ : ∃ y : S2048x256.Idx, (y 0).val = ((i : S12288x2304.Idx) 0).val % 2048 ∧ (y 1).val = ((i : S12288x2304.Idx) 1).val % 256 :=
      ⟨ValueIdx.ix2 ⟨_, Nat.mod_lt _ (by norm_num)⟩ ⟨_, Nat.mod_lt _ (by norm_num)⟩, rfl, rfl⟩
    have e := hemb t y
    have h := ((cfg0.win 4).blk t).view.emb_mem_set y
    convert h using 1
    funext x; apply Fin.ext
    match x with
    | ⟨0, _⟩ => exact (show ((i : S12288x2304.Idx) 0).val = 2048 * (t.val % 6) + (y 0).val by omega).trans e.1.symm
    | ⟨1, _⟩ => exact (show ((i : S12288x2304.Idx) 1).val = 256 * (t.val / 6) + (y 1).val by omega).trans e.2.symm

/-- The array of the scales. -/
theorem final5 (c : Dev nD) (G : Vec Ideal S288x768 .fp8e4m3)
    (hG : ∀ y : S288x768.Idx, G y = sW (am1 (A1 m c)) (arr (X m c)) (y 0).val (y 1).val) : (dats m 0 c).arrAt 5 cfg0.N = G := by
  have hemb : ∀ (t : Fin cfg0.N) (j : S32x128.Idx), (((((cfg0.win 5).blk t).view.emb j : S288x768.Idx)) 0).val = 32 * (t.val / 6) + (j 0).val
      ∧ (((((cfg0.win 5).blk t).view.emb j : S288x768.Idx)) 1).val = 128 * (t.val % 6) + (j 1).val := by
    intro t j
    have h := idx5 t
    constructor
    · show win0_5.index t 0 * 32 + 1 * (j 0).val = _
      rw [h.1]; omega
    · show win0_5.index t 1 * 128 + 1 * (j 1).val = _
      rw [h.2]; omega
  refine (dats m 0 c).arrAt_eq_of_cover 5 G (fun t _ => ?_) fun i => ?_
  · rw [flushed5_A]
    funext j
    show out0_A_5 c _ _ _ _ _ _ _ _ _ _ _ _ _ _ _ _ _ _ _ (iblk m c 0 t) (iblk m c 1 t) (j : S32x128.Idx) = G (((cfg0.win 5).blk t).view.emb j)
    rw [out5 _ _ _ _ _ _ _ _ _ _ _ _ _ _ _ _ _ _ _ _ _ _ _ (blk_am m c t), hG, (hemb t j).1, (hemb t j).2]
    exact sW_blk m _ c t _ _ ((j : S32x128.Idx) 0).isLt ((j : S32x128.Idx) 1).isLt
  · have h0 : ((i : S288x768.Idx) 0).val < 288 := ((i : S288x768.Idx) 0).isLt
    have h1 : ((i : S288x768.Idx) 1).val < 768 := ((i : S288x768.Idx) 1).isLt
    refine ⟨pt (((i : S288x768.Idx) 0).val / 32) (((i : S288x768.Idx) 1).val / 128) (by omega) (by omega), flush0_5 _, ?_⟩
    generalize ht : pt (((i : S288x768.Idx) 0).val / 32) (((i : S288x768.Idx) 1).val / 128) _ _ = t
    have htv : t.val = 6 * (((i : S288x768.Idx) 0).val / 32) + ((i : S288x768.Idx) 1).val / 128 := by rw [← ht]; rfl
    obtain ⟨y, hy0, hy1⟩ : ∃ y : S32x128.Idx, (y 0).val = ((i : S288x768.Idx) 0).val % 32 ∧ (y 1).val = ((i : S288x768.Idx) 1).val % 128 :=
      ⟨ValueIdx.ix2 ⟨_, Nat.mod_lt _ (by norm_num)⟩ ⟨_, Nat.mod_lt _ (by norm_num)⟩, rfl, rfl⟩
    have e := hemb t y
    have h := ((cfg0.win 5).blk t).view.emb_mem_set y
    convert h using 1
    funext x; apply Fin.ext
    match x with
    | ⟨0, _⟩ => exact (show ((i : S288x768.Idx) 0).val = 32 * (t.val / 6) + (y 0).val by omega).trans e.1.symm
    | ⟨1, _⟩ => exact (show ((i : S288x768.Idx) 1).val = 128 * (t.val % 6) + (y 1).val by omega).trans e.2.symm

end Cert.QuantWIdeal.Hand

end
-- ==== Proof.lean ====
module

public import proofs.«01_k».proof.Defs
public import proofs.«01_k».proof.Proof.Gen.Matmul.Frame
public import proofs.«01_k».proof.Proof.Gen.MatmulIdeal.Value
public import proofs.«01_k».proof.Proof.Gen.MatmulRefIdeal.Run
public import proofs.«01_k».proof.Proof.MatmulValue
public import proofs.«01_k».proof.Proof.Gen.XAmax.Frame
public import proofs.«01_k».proof.Proof.Gen.XAmaxIdeal.Value
public import proofs.«01_k».proof.Proof.Gen.XAmaxRefIdeal.Run
public import proofs.«01_k».proof.Proof.XAmaxValue
public import proofs.«01_k».proof.Proof.Gen.WAmax.Frame
public import proofs.«01_k».proof.Proof.Gen.WAmaxIdeal.Value
public import proofs.«01_k».proof.Proof.Gen.WAmaxRefIdeal.Run
public import proofs.«01_k».proof.Proof.WAmaxValue
public import proofs.«01_k».proof.Proof.Gen.QuantX.Frame
public import proofs.«01_k».proof.Proof.Gen.QuantXIdeal.Value
public import proofs.«01_k».proof.Proof.Gen.QuantXRefIdeal.Frame
public import proofs.«01_k».proof.Proof.Gen.QuantXRefIdeal.Value
public import proofs.«01_k».proof.Proof.Gen.Pre_amax_nonneg
public import proofs.«01_k».proof.Proof.QuantXArrays
public import proofs.«01_k».proof.Proof.QuantXRef
public import proofs.«01_k».proof.Proof.Gen.QuantW.Frame
public import proofs.«01_k».proof.Proof.Gen.QuantWIdeal.Value
public import proofs.«01_k».proof.Proof.Gen.QuantWRefIdeal.Frame
public import proofs.«01_k».proof.Proof.Gen.QuantWRefIdeal.Value
public import proofs.«01_k».proof.Proof.Gen.Pre_w_amax_nonneg
public import proofs.«01_k».proof.Proof.QuantWArrays
public import proofs.«01_k».proof.Proof.QuantWRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_MatmulRefIdeal : quiescent_MatmulRefIdeal := fun m ρ _ =>
  (θ_run Cert.MatmulRefIdeal.defs _ _).mono (fun r h => ⟨fun c => (h c).2, sem_eq_zero_of_no_sems (by decide) r.2⟩)
    (Cert.MatmulRefIdeal.Value.run (F := Ideal) m ρ)

theorem algebraic_MatmulIdeal_MatmulRefIdeal : algebraic_MatmulIdeal_MatmulRefIdeal := by
  intro m ρ m' ρ' _ hagree
  refine ⟨_, Cert.MatmulIdeal.Value.run (F := Ideal) m ρ, ?_⟩
  refine (θ_run Cert.MatmulRefIdeal.defs _ _).mono (fun _ h c => ⟨?_, (h c).2⟩) (Cert.MatmulRefIdeal.Value.run (F := Ideal) m' ρ')
  rw [(h c).1]
  simp only [hagree c]
  funext i
  obtain ⟨a, b, rfl⟩ : ∃ a b, i = ValueIdx.ix2 a b := ⟨_, _, ValueIdx.eq_ix2 i⟩
  exact (Cert.MatmulRefIdeal.Hand.term_apply _ _ _ _ a b).trans (Cert.MatmulIdeal.Hand.G4_apply m c (ValueIdx.ix2 a b)).symm

theorem quiescent_XAmaxRefIdeal : quiescent_XAmaxRefIdeal := fun m ρ _ =>
  (θ_run Cert.XAmaxRefIdeal.defs _ _).mono (fun r h => ⟨fun c => (h c).2, sem_eq_zero_of_no_sems (by decide) r.2⟩)
    (Cert.XAmaxRefIdeal.Value.run (F := Ideal) m ρ)

theorem algebraic_XAmaxIdeal_XAmaxRefIdeal : algebraic_XAmaxIdeal_XAmaxRefIdeal := by
  intro m ρ m' ρ' _ hagree
  refine ⟨_, Cert.XAmaxIdeal.Value.run (F := Ideal) m ρ, ?_⟩
  refine (θ_run Cert.XAmaxRefIdeal.defs _ _).mono (fun _ h c => ⟨?_, (h c).2⟩) (Cert.XAmaxRefIdeal.Value.run (F := Ideal) m' ρ')
  rw [(h c).1]
  simp only [hagree c]
  funext i
  exact eq_of_forall_ge_iff fun u => (Cert.XAmaxIdeal.Hand.ref_le_iff _ i u).trans (Cert.XAmaxIdeal.Hand.G1_le_iff m c i u).symm

theorem quiescent_WAmaxRefIdeal : quiescent_WAmaxRefIdeal := fun m ρ _ =>
  (θ_run Cert.WAmaxRefIdeal.defs _ _).mono (fun r h => ⟨fun c => (h c).2, sem_eq_zero_of_no_sems (by decide) r.2⟩)
    (Cert.WAmaxRefIdeal.Value.run (F := Ideal) m ρ)

theorem algebraic_WAmaxIdeal_WAmaxRefIdeal : algebraic_WAmaxIdeal_WAmaxRefIdeal := by
  intro m ρ m' ρ' _ hagree
  refine ⟨_, Cert.WAmaxIdeal.Value.run (F := Ideal) m ρ, ?_⟩
  refine (θ_run Cert.WAmaxRefIdeal.defs _ _).mono (fun _ h c => ⟨?_, (h c).2⟩) (Cert.WAmaxRefIdeal.Value.run (F := Ideal) m' ρ')
  rw [(h c).1]
  simp only [hagree c]
  funext i
  exact eq_of_forall_ge_iff fun u => (Cert.WAmaxIdeal.Hand.ref_le_iff _ i u).trans (Cert.WAmaxIdeal.Hand.G1_le_iff m c i u).symm

/-- What the precondition says of the maximum. -/
theorem nonneg_of_pre (x : Vec Ideal Cert.QuantXIdeal.S6144x12288 .bf16) (a : Vec Ideal Cert.QuantXIdeal.S1x1 .f32)
    (h : Cert.Pre_amax_nonneg.fn (F := Ideal) x a = fun _ => 1#1) : 0 ≤ Cert.QuantXRefIdeal.Hand.am1 a := by
  have h1 : Ideal.cmp .oge (Cert.QuantXRefIdeal.Hand.am1 a) (Ideal.ofBits .f32 0x00000000#32) = 1#1 := congrFun h (ValueIdx.ix2 0 0)
  rw [Ideal.ofBits_zero] at h1
  by_contra hn
  unfold Ideal.cmp at h1
  simp [hn] at h1

theorem algebraic_QuantXIdeal_QuantXRefIdeal_pre_amax_nonneg : algebraic_QuantXIdeal_QuantXRefIdeal_pre_amax_nonneg := by
  intro m ρ m' ρ' hpre hagree
  refine ⟨_, _, _, Cert.QuantXIdeal.Value.run_blocks (F := Ideal) m ρ, ?_⟩
  refine (θ_run Cert.QuantXRefIdeal.defs _ _).mono (fun _ h c => ⟨?_, ?_, ?_, (h c).2.2.2⟩) (Cert.QuantXRefIdeal.Value.run (F := Ideal) m' ρ')
  · rw [(h c).1, (hagree c).1, (hagree c).2]
    refine (Cert.QuantXIdeal.Hand.final2 m c _ fun y => ?_).symm
    have hy := ValueIdx.eq_ix2 y
    rw [hy]
    exact Cert.QuantXRefIdeal.Hand.G2_at _ _ (nonneg_of_pre _ _ (hpre c)) _ _
  · rw [(h c).2.1, (hagree c).1, (hagree c).2]
    refine (Cert.QuantXIdeal.Hand.final3 m c _ fun y => ?_).symm
    have hy := ValueIdx.eq_ix2 y
    rw [hy]
    exact Cert.QuantXRefIdeal.Hand.G3_at _ _ (nonneg_of_pre _ _ (hpre c)) _ _
  · rw [(h c).2.2.1, (hagree c).1, (hagree c).2]
    refine (Cert.QuantXIdeal.Hand.final4 m c _ fun y => ?_).symm
    have hy := ValueIdx.eq_ix2 y
    rw [hy]
    exact Cert.QuantXRefIdeal.Hand.G4_at _ _ _ _

/-- What the precondition says of the other maximum. -/
theorem nonneg_of_pre_w (x : Vec Ideal Cert.QuantWIdeal.S4608x12288 .bf16) (a : Vec Ideal Cert.QuantWIdeal.S1x1 .f32)
    (h : Cert.Pre_w_amax_nonneg.fn (F := Ideal) x a = fun _ => 1#1) : 0 ≤ Cert.QuantWRefIdeal.Hand.am1 a := by
  have h1 : Ideal.cmp .oge (Cert.QuantWRefIdeal.Hand.am1 a) (Ideal.ofBits .f32 0x00000000#32) = 1#1 := congrFun h (ValueIdx.ix2 0 0)
  rw [Ideal.ofBits_zero] at h1
  by_contra hn
  unfold Ideal.cmp at h1
  simp [hn] at h1

theorem algebraic_QuantWIdeal_QuantWRefIdeal_pre_w_amax_nonneg : algebraic_QuantWIdeal_QuantWRefIdeal_pre_w_amax_nonneg := by
  intro m ρ m' ρ' hpre hagree
  refine ⟨_, _, _, _, Cert.QuantWIdeal.Value.run_blocks (F := Ideal) m ρ, ?_⟩
  refine (θ_run Cert.QuantWRefIdeal.defs _ _).mono (fun _ h c => ⟨?_, ?_, ?_, ?_, (h c).2.2.2.2⟩) (Cert.QuantWRefIdeal.Value.run (F := Ideal) m' ρ')
  · rw [(h c).1, (hagree c).1, (hagree c).2]
    refine (Cert.QuantWIdeal.Hand.final2 m c _ fun y => ?_).symm
    have hy := ValueIdx.eq_ix2 y
    rw [hy]
    exact Cert.QuantWRefIdeal.Hand.G2_at _ _ (nonneg_of_pre_w _ _ (hpre c)) _ _
  · rw [(h c).2.1, (hagree c).1, (hagree c).2]
    refine (Cert.QuantWIdeal.Hand.final3 m c _ fun y => ?_).symm
    have hy := ValueIdx.eq_ix2 y
    rw [hy]
    exact Cert.QuantWRefIdeal.Hand.G3_at _ _ (nonneg_of_pre_w _ _ (hpre c)) _ _
  · rw [(h c).2.2.1, (hagree c).1, (hagree c).2]
    refine (Cert.QuantWIdeal.Hand.final4 m c _ fun y => ?_).symm
    have hy := ValueIdx.eq_ix2 y
    rw [hy]
    exact Cert.QuantWRefIdeal.Hand.G4_at _ _ (nonneg_of_pre_w _ _ (hpre c)) _ _
  · rw [(h c).2.2.2.1, (hagree c).1, (hagree c).2]
    refine (Cert.QuantWIdeal.Hand.final5 m c _ fun y => ?_).symm
    have hy := ValueIdx.eq_ix2 y
    rw [hy]
    exact Cert.QuantWRefIdeal.Hand.G5_at _ _ _ _

theorem claim : Cert.Claim := ⟨Cert.Matmul.Gen.facts, Cert.MatmulIdeal.Gen.facts, Cert.MatmulRefIdeal.Gen.facts, Cert.XAmax.Gen.facts, Cert.XAmaxIdeal.Gen.facts, Cert.XAmaxRefIdeal.Gen.facts, Cert.WAmax.Gen.facts, Cert.WAmaxIdeal.Gen.facts, Cert.WAmaxRefIdeal.Gen.facts, Cert.QuantX.Gen.facts, Cert.QuantXIdeal.Gen.facts, Cert.QuantXRefIdeal.Gen.facts, Cert.QuantW.Gen.facts, Cert.QuantWIdeal.Gen.facts, Cert.QuantWRefIdeal.Gen.facts, Cert.Pre_amax_nonneg.Gen.facts, Cert.Pre_w_amax_nonneg.Gen.facts,
  fun m ρ _ => Cert.Matmul.Gen.frame m ρ, fun m ρ _ => Cert.MatmulIdeal.Gen.frame m ρ, quiescent_MatmulRefIdeal,
  fun m ρ _ => Cert.XAmax.Gen.frame m ρ, fun m ρ _ => Cert.XAmaxIdeal.Gen.frame m ρ, quiescent_XAmaxRefIdeal,
  fun m ρ _ => Cert.WAmax.Gen.frame m ρ, fun m ρ _ => Cert.WAmaxIdeal.Gen.frame m ρ, quiescent_WAmaxRefIdeal,
  fun m ρ _ => Cert.QuantX.Gen.frame m ρ, fun m ρ _ => Cert.QuantXIdeal.Gen.frame m ρ, fun m ρ _ => Cert.QuantXIdeal.Gen.frame m ρ,
  fun m ρ _ => Cert.QuantXRefIdeal.Gen.frame m ρ, fun m ρ _ => Cert.QuantXRefIdeal.Gen.frame m ρ,
  fun m ρ _ => Cert.QuantW.Gen.frame m ρ, fun m ρ _ => Cert.QuantWIdeal.Gen.frame m ρ, fun m ρ _ => Cert.QuantWIdeal.Gen.frame m ρ,
  fun m ρ _ => Cert.QuantWRefIdeal.Gen.frame m ρ, fun m ρ _ => Cert.QuantWRefIdeal.Gen.frame m ρ,
  (trivial : preserves_Matmul_MatmulIdeal), algebraic_MatmulIdeal_MatmulRefIdeal,
  (trivial : preserves_XAmax_XAmaxIdeal), algebraic_XAmaxIdeal_XAmaxRefIdeal,
  (trivial : preserves_WAmax_WAmaxIdeal), algebraic_WAmaxIdeal_WAmaxRefIdeal,
  (trivial : preserves_QuantX_QuantXIdeal), algebraic_QuantXIdeal_QuantXRefIdeal_pre_amax_nonneg,
  (trivial : preserves_QuantW_QuantWIdeal), algebraic_QuantWIdeal_QuantWRefIdeal_pre_w_amax_nonneg⟩

end Cert.Proof

end
